-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_formed [hPre_well_formed : Cert.Pre_well_formed.Facts] (m : (ℓ : Loc Cert.KernelIdeal.nD Cert.KernelIdeal.τ Cert.KernelIdeal.sig) → Buf (Elt Ideal) ℓ) : Prop :=
  ∀ c : Dev Cert.KernelIdeal.nD,
    (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_formed [hPre_well_formed : Cert.Pre_well_formed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_well_formed [hKernelIdeal : Cert.KernelIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_formed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_well_formed [hReferenceIdeal : Cert.ReferenceIdeal.Facts] [hPre_well_formed : Cert.Pre_well_formed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_formed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_well_formed [hKernelIdeal : Cert.KernelIdeal.Facts] [hReferenceIdeal : Cert.ReferenceIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_formed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v62)) (v2 : (c : Dev Cert.KernelIdeal.nD) → Buf (Elt Ideal) ((c.tc : Thread Cert.KernelIdeal.nD Cert.KernelIdeal.τ).loc Cert.KernelIdeal.main_v63)) (v3 : (c : Dev Cert.KernelIdeal.nD) → Buf (Elt Ideal) ((c.tc : Thread Cert.KernelIdeal.nD Cert.KernelIdeal.τ).loc Cert.KernelIdeal.main_v69)) (v4 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v62) = v1 c
          ∧ r.2.mem ((c.tc : Thread Cert.KernelIdeal.nD Cert.KernelIdeal.τ).loc Cert.KernelIdeal.main_v63) = v2 c
          ∧ r.2.mem ((c.tc : Thread Cert.KernelIdeal.nD Cert.KernelIdeal.τ).loc Cert.KernelIdeal.main_v69) = v3 c
          ∧ r.2.mem ((c.tc : Thread Cert.KernelIdeal.nD Cert.KernelIdeal.τ).loc Cert.KernelIdeal.main_v67) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_v106) = v2 c
          ∧ r.2.mem ((c.tc : Thread Cert.ReferenceIdeal.nD Cert.ReferenceIdeal.τ).loc Cert.ReferenceIdeal.main_v112) = v3 c
          ∧ r.2.mem ((c.tc : Thread Cert.ReferenceIdeal.nD Cert.ReferenceIdeal.τ).loc Cert.ReferenceIdeal.main_v110) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_well_formed : Cert.Pre_well_formed.Facts),
    quiescent_Kernel (hKernel := hKernel)
    ∧ quiescent_KernelIdeal (hKernelIdeal := hKernelIdeal)
    ∧ quiescent_KernelIdeal_pre_well_formed (hKernelIdeal := hKernelIdeal) (hPre_well_formed := hPre_well_formed)
    ∧ quiescent_ReferenceIdeal (hReferenceIdeal := hReferenceIdeal)
    ∧ quiescent_ReferenceIdeal_pre_well_formed (hReferenceIdeal := hReferenceIdeal) (hPre_well_formed := hPre_well_formed)
    ∧ preserves_Kernel_KernelIdeal
    ∧ algebraic_KernelIdeal_ReferenceIdeal_pre_well_formed (hKernelIdeal := hKernelIdeal) (hReferenceIdeal := hReferenceIdeal) (hPre_well_formed := hPre_well_formed)
-- ==== Pre_well_formed.lean ====
abbrev S2x1000x4 : Shape := ⟨3, ![2, 1000, 4]⟩
abbrev S2x1000x80 : Shape := ⟨3, ![2, 1000, 80]⟩
abbrev S2x1000x50 : Shape := ⟨3, ![2, 1000, 50]⟩
abbrev S2x1000x1 : Shape := ⟨3, ![2, 1000, 1]⟩
abbrev S2x1000 : Shape := ⟨2, ![2, 1000]⟩
abbrev S_ : Shape := ⟨0, ![]⟩

class Facts : Prop where
  slices_S2x1000x4_S2x1000x1_0_0_2 : S2x1000x4.Slices ![0, 0, 2] S2x1000x1
  shapeCasts_S2x1000x1_S2x1000 : S2x1000x1.ShapeCasts S2x1000
  slices_S2x1000x4_S2x1000x1_0_0_0 : S2x1000x4.Slices ![0, 0, 0] S2x1000x1
  slices_S2x1000x4_S2x1000x1_0_0_3 : S2x1000x4.Slices ![0, 0, 3] S2x1000x1
  slices_S2x1000x4_S2x1000x1_0_0_1 : S2x1000x4.Slices ![0, 0, 1] S2x1000x1
  bcast_S_S2x1000x4 : S_.BroadcastsInDim S2x1000x4 (![] : Fin 0 → Fin S2x1000x4.rank)
  reducesTo_S2x1000x4_S_d0_1_2 : S2x1000x4.ReducesTo [0, 1, 2] S_
  h_S_ : 0 < S_.numel
  bcast_S_S2x1000 : S_.BroadcastsInDim S2x1000 (![] : Fin 0 → Fin S2x1000.rank)
  reducesTo_S2x1000_S_d0_1 : S2x1000.ReducesTo [0, 1] S_

variable [Facts]

def fn {F : FTy → Type} [FloatOps F] (main_arg0 : FVec F S2x1000x4 .f32) (main_arg1 : FVec F S2x1000x80 .f32) (main_arg2 : FVec F S2x1000x50 .f32) : IVec S_ 1 :=
  let main_v0 : FVec F S2x1000x1 .f32 := (extractStridedSlice S2x1000x1 ![0, 0, 2] · slices_S2x1000x4_S2x1000x1_0_0_2) main_arg0
  let main_v1 : FVec F S2x1000 .f32 := shapeCast S2x1000 main_v0 shapeCasts_S2x1000x1_S2x1000
  let main_v2 : FVec F S2x1000x1 .f32 := (extractStridedSlice S2x1000x1 ![0, 0, 0] · slices_S2x1000x4_S2x1000x1_0_0_0) main_arg0
  let main_v3 : FVec F S2x1000 .f32 := shapeCast S2x1000 main_v2 shapeCasts_S2x1000x1_S2x1000
  let main_v4 : FVec F S2x1000 .f32 := subf main_v1 main_v3
  let main_v5 : FVec F S2x1000x1 .f32 := (extractStridedSlice S2x1000x1 ![0, 0, 3] · slices_S2x1000x4_S2x1000x1_0_0_3) main_arg0
  let main_v6 : FVec F S2x1000 .f32 := shapeCast S2x1000 main_v5 shapeCasts_S2x1000x1_S2x1000
  let main_v7 : FVec F S2x1000x1 .f32 := (extractStridedSlice S2x1000x1 ![0, 0, 1] · slices_S2x1000x4_S2x1000x1_0_0_1) main_arg0
  let main_v8 : FVec F S2x1000 .f32 := shapeCast S2x1000 main_v7 shapeCasts_S2x1000x1_S2x1000
  let main_v9 : FVec F S2x1000 .f32 := subf main_v6 main_v8
  let main_v10 : FVec F S2x1000 .f32 := mulf main_v4 main_v9
  let main_v11 : FVec F S2x1000x4 .f32 := Host.absf main_arg0
  let main_cst : FVec F S_ .f32 := constant S_ .f32 0x7F7FC99E#32
  let main_v12 : FVec F S2x1000x4 .f32 := broadcastInDim S2x1000x4 ![] bcast_S_S2x1000x4 main_cst
  let main_v13 : IVec S2x1000x4 1 := cmpf .ole main_v11 main_v12
  let main_c : IVec S_ 1 := constantI S_ 1 1#1
  let main_v14 : IVec S_ 1 := (fun x v => Host.reduce IntOp.andi x v reducesTo_S2x1000x4_S_d0_1_2 h_S_) main_v13 main_c
  let main_cst_0 : FVec F S_ .f32 := constant S_ .f32 0x322BCC77#32
  let main_v15 : FVec F S2x1000 .f32 := broadcastInDim S2x1000 ![] bcast_S_S2x1000 main_cst_0
  let main_v16 : IVec S2x1000 1 := cmpf .oge main_v10 main_v15
  let main_c_1 : IVec S_ 1 := constantI S_ 1 1#1
  let main_v17 : IVec S_ 1 := (fun x v => Host.reduce IntOp.andi x v reducesTo_S2x1000_S_d0_1 h_S_) main_v16 main_c_1
  let main_v18 : IVec S_ 1 := andi main_v14 main_v17
  main_v18
-- ==== Kernel.lean ====
abbrev S2x1000x4 : Shape := ⟨3, ![2, 1000, 4]⟩
abbrev S2x1000x80 : Shape := ⟨3, ![2, 1000, 80]⟩
abbrev S2x1000x50 : Shape := ⟨3, ![2, 1000, 50]⟩
abbrev S2x80x1000 : Shape := ⟨3, ![2, 80, 1000]⟩
abbrev S_ : Shape := ⟨0, ![]⟩
abbrev S2x80x1000x1 : Shape := ⟨4, ![2, 80, 1000, 1]⟩
abbrev S1 : Shape := ⟨1, ![1]⟩
abbrev S1x1x1x1 : Shape := ⟨4, ![1, 1, 1, 1]⟩
abbrev S2x1000x1 : Shape := ⟨3, ![2, 1000, 1]⟩
abbrev S2x1000 : Shape := ⟨2, ![2, 1000]⟩
abbrev S2x1x1000 : Shape := ⟨3, ![2, 1, 1000]⟩
abbrev S2x128x1024 : Shape := ⟨3, ![2, 128, 1024]⟩
abbrev S256x1024 : Shape := ⟨2, ![256, 1024]⟩
abbrev S1024x256 : Shape := ⟨2, ![1024, 256]⟩
abbrev S8x256 : Shape := ⟨2, ![8, 256]⟩
abbrev S256 : Shape := ⟨1, ![256]⟩
abbrev S1x256 : Shape := ⟨2, ![1, 256]⟩
abbrev S896x256 : Shape := ⟨2, ![896, 256]⟩
abbrev S768x256 : Shape := ⟨2, ![768, 256]⟩
abbrev S640x256 : Shape := ⟨2, ![640, 256]⟩
abbrev S512x256 : Shape := ⟨2, ![512, 256]⟩
abbrev S384x256 : Shape := ⟨2, ![384, 256]⟩
abbrev S256x256 : Shape := ⟨2, ![256, 256]⟩
abbrev S128x256 : Shape := ⟨2, ![128, 256]⟩
abbrev S2x80x1024 : Shape := ⟨3, ![2, 80, 1024]⟩
abbrev S2x81920 : Shape := ⟨2, ![2, 81920]⟩
abbrev S2x300 : Shape := ⟨2, ![2, 300]⟩
abbrev S2x300x1 : Shape := ⟨3, ![2, 300, 1]⟩
abbrev S1x1x1 : Shape := ⟨3, ![1, 1, 1]⟩
abbrev S2x300x4 : Shape := ⟨3, ![2, 300, 4]⟩
abbrev S2x300x50 : Shape := ⟨3, ![2, 300, 50]⟩

abbrev nBuf : Space → Nat
  | .hbm => 307
  | .vmem => 14
  | .smem => 0
  | _ => 0

abbrev hbmTy0_0 (i : Nat) : BufTy := match i % 128 with
  | 0 => ⟨S2x1000x4, .f32⟩
  | 1 => ⟨S2x1000x80, .f32⟩
  | 2 => ⟨S2x1000x50, .f32⟩
  | 3 => ⟨S2x80x1000, .f32⟩
  | 4 => ⟨S2x80x1000, .f32⟩
  | 5 => ⟨S2x80x1000, .i32⟩
  | 6 => ⟨S2x80x1000, .f32⟩
  | 7 => ⟨S2x80x1000, .i32⟩
  | 8 => ⟨S_, .i32⟩
  | 9 => ⟨S2x80x1000, .i32⟩
  | 10 => ⟨S2x80x1000, .i1⟩
  | 11 => ⟨S_, .i32⟩
  | 12 => ⟨S2x80x1000, .i32⟩
  | 13 => ⟨S2x80x1000, .i32⟩
  | 14 => ⟨S2x80x1000, .i32⟩
  | 15 => ⟨S2x80x1000x1, .i32⟩
  | 16 => ⟨S1, .i32⟩
  | 17 => ⟨S_, .i32⟩
  | 18 => ⟨S2x80x1000x1, .i32⟩
  | 19 => ⟨S2x80x1000x1, .i1⟩
  | 20 => ⟨S1x1x1x1, .i32⟩
  | 21 => ⟨S2x80x1000x1, .i32⟩
  | 22 => ⟨S2x80x1000x1, .i1⟩
  | 23 => ⟨S2x80x1000x1, .i1⟩
  | 24 => ⟨S_, .i1⟩
  | 25 => ⟨S2x80x1000, .i1⟩
  | 26 => ⟨S2x80x1000, .f32⟩
  | 27 => ⟨S_, .f32⟩
  | 28 => ⟨S2x80x1000, .f32⟩
  | 29 => ⟨S2x80x1000, .f32⟩
  | 30 => ⟨S_, .f32⟩
  | 31 => ⟨S2x80x1000, .f32⟩
  | 32 => ⟨S2x80x1000, .i1⟩
  | 33 => ⟨S2x80x1000, .f32⟩
  | 34 => ⟨S2x1000x1, .f32⟩
  | 35 => ⟨S2x1000, .f32⟩
  | 36 => ⟨S2x1x1000, .f32⟩
  | 37 => ⟨S2x80x1000, .f32⟩
  | 38 => ⟨S_, .i32⟩
  | 39 => ⟨S2x80x1000, .i32⟩
  | 40 => ⟨S2x80x1000, .i1⟩
  | 41 => ⟨S_, .i32⟩
  | 42 => ⟨S2x80x1000, .i32⟩
  | 43 => ⟨S2x80x1000, .i32⟩
  | 44 => ⟨S2x80x1000, .i32⟩
  | 45 => ⟨S2x80x1000x1, .i32⟩
  | 46 => ⟨S1, .i32⟩
  | 47 => ⟨S_, .i32⟩
  | 48 => ⟨S2x80x1000x1, .i32⟩
  | 49 => ⟨S2x80x1000x1, .i1⟩
  | 50 => ⟨S1x1x1x1, .i32⟩
  | 51 => ⟨S2x80x1000x1, .i32⟩
  | 52 => ⟨S2x80x1000x1, .i1⟩
  | 53 => ⟨S2x80x1000x1, .i1⟩
  | 54 => ⟨S_, .i1⟩
  | 55 => ⟨S2x80x1000, .i1⟩
  | 56 => ⟨S2x80x1000, .f32⟩
  | 57 => ⟨S_, .f32⟩
  | 58 => ⟨S2x80x1000, .f32⟩
  | 59 => ⟨S2x80x1000, .f32⟩
  | 60 => ⟨S_, .i32⟩
  | 61 => ⟨S_, .f32⟩
  | 62 => ⟨S2x128x1024, .f32⟩
  | 63 => ⟨S256x1024, .f32⟩
  | 64 => ⟨S2x1000x1, .f32⟩
  | 65 => ⟨S2x1000, .f32⟩
  | 66 => ⟨S2x1x1000, .f32⟩
  | 67 => ⟨S2x80x1000, .f32⟩
  | 68 => ⟨S_, .i32⟩
  | 69 => ⟨S2x80x1000, .i32⟩
  | 70 => ⟨S2x80x1000, .i1⟩
  | 71 => ⟨S_, .i32⟩
  | 72 => ⟨S2x80x1000, .i32⟩
  | 73 => ⟨S2x80x1000, .i32⟩
  | 74 => ⟨S2x80x1000, .i32⟩
  | 75 => ⟨S2x80x1000x1, .i32⟩
  | 76 => ⟨S1, .i32⟩
  | 77 => ⟨S_, .i32⟩
  | 78 => ⟨S2x80x1000x1, .i32⟩
  | 79 => ⟨S2x80x1000x1, .i1⟩
  | 80 => ⟨S1x1x1x1, .i32⟩
  | 81 => ⟨S2x80x1000x1, .i32⟩
  | 82 => ⟨S2x80x1000x1, .i1⟩
  | 83 => ⟨S2x80x1000x1, .i1⟩
  | 84 => ⟨S_, .i1⟩
  | 85 => ⟨S2x80x1000, .i1⟩
  | 86 => ⟨S2x80x1000, .f32⟩
  | 87 => ⟨S_, .f32⟩
  | 88 => ⟨S2x80x1000, .f32⟩
  | 89 => ⟨S2x80x1000, .f32⟩
  | 90 => ⟨S_, .i32⟩
  | 91 => ⟨S_, .f32⟩
  | 92 => ⟨S2x128x1024, .f32⟩
  | 93 => ⟨S256x1024, .f32⟩
  | 94 => ⟨S2x1000x1, .f32⟩
  | 95 => ⟨S2x1000, .f32⟩
  | 96 => ⟨S2x1x1000, .f32⟩
  | 97 => ⟨S2x80x1000, .f32⟩
  | 98 => ⟨S_, .i32⟩
  | 99 => ⟨S2x80x1000, .i32⟩
  | 100 => ⟨S2x80x1000, .i1⟩
  | 101 => ⟨S_, .i32⟩
  | 102 => ⟨S2x80x1000, .i32⟩
  | 103 => ⟨S2x80x1000, .i32⟩
  | 104 => ⟨S2x80x1000, .i32⟩
  | 105 => ⟨S2x80x1000x1, .i32⟩
  | 106 => ⟨S1, .i32⟩
  | 107 => ⟨S_, .i32⟩
  | 108 => ⟨S2x80x1000x1, .i32⟩
  | 109 => ⟨S2x80x1000x1, .i1⟩
  | 110 => ⟨S1x1x1x1, .i32⟩
  | 111 => ⟨S2x80x1000x1, .i32⟩
  | 112 => ⟨S2x80x1000x1, .i1⟩
  | 113 => ⟨S2x80x1000x1, .i1⟩
  | 114 => ⟨S_, .i1⟩
  | 115 => ⟨S2x80x1000, .i1⟩
  | 116 => ⟨S2x80x1000, .f32⟩
  | 117 => ⟨S_, .f32⟩
  | 118 => ⟨S2x80x1000, .f32⟩
  | 119 => ⟨S2x80x1000, .f32⟩
  | 120 => ⟨S_, .i32⟩
  | 121 => ⟨S_, .f32⟩
  | 122 => ⟨S2x128x1024, .f32⟩
  | 123 => ⟨S256x1024, .f32⟩
  | 124 => ⟨S2x1000x1, .f32⟩
  | 125 => ⟨S2x1000, .f32⟩
  | 126 => ⟨S2x1x1000, .f32⟩
  | 127 => ⟨S2x80x1000, .f32⟩
  | _ => ⟨S2x1000x4, .f32⟩

abbrev hbmTy0_1 (i : Nat) : BufTy := match i % 128 with
  | 0 => ⟨S_, .i32⟩
  | 1 => ⟨S2x80x1000, .i32⟩
  | 2 => ⟨S2x80x1000, .i1⟩
  | 3 => ⟨S_, .i32⟩
  | 4 => ⟨S2x80x1000, .i32⟩
  | 5 => ⟨S2x80x1000, .i32⟩
  | 6 => ⟨S2x80x1000, .i32⟩
  | 7 => ⟨S2x80x1000x1, .i32⟩
  | 8 => ⟨S1, .i32⟩
  | 9 => ⟨S_, .i32⟩
  | 10 => ⟨S2x80x1000x1, .i32⟩
  | 11 => ⟨S2x80x1000x1, .i1⟩
  | 12 => ⟨S1x1x1x1, .i32⟩
  | 13 => ⟨S2x80x1000x1, .i32⟩
  | 14 => ⟨S2x80x1000x1, .i1⟩
  | 15 => ⟨S2x80x1000x1, .i1⟩
  | 16 => ⟨S_, .i1⟩
  | 17 => ⟨S2x80x1000, .i1⟩
  | 18 => ⟨S2x80x1000, .f32⟩
  | 19 => ⟨S_, .f32⟩
  | 20 => ⟨S2x80x1000, .f32⟩
  | 21 => ⟨S2x80x1000, .f32⟩
  | 22 => ⟨S_, .i32⟩
  | 23 => ⟨S_, .f32⟩
  | 24 => ⟨S2x128x1024, .f32⟩
  | 25 => ⟨S256x1024, .f32⟩
  | 26 => ⟨S_, .i32⟩
  | 27 => ⟨S_, .f32⟩
  | 28 => ⟨S2x128x1024, .f32⟩
  | 29 => ⟨S256x1024, .f32⟩
  | 30 => ⟨S256x1024, .f32⟩
  | 31 => ⟨S2x128x1024, .f32⟩
  | 32 => ⟨S2x80x1024, .f32⟩
  | 33 => ⟨S_, .f32⟩
  | 34 => ⟨S2x80x1024, .f32⟩
  | 35 => ⟨S2x80x1024, .i1⟩
  | 36 => ⟨S2x80x1024, .i32⟩
  | 37 => ⟨S_, .i32⟩
  | 38 => ⟨S_, .i32⟩
  | 39 => ⟨S2x80x1024, .i32⟩
  | 40 => ⟨S_, .i32⟩
  | 41 => ⟨S2x80x1024, .i32⟩
  | 42 => ⟨S2x80x1024, .i32⟩
  | 43 => ⟨S_, .i32⟩
  | 44 => ⟨S2x80x1024, .i32⟩
  | 45 => ⟨S2x80x1024, .i1⟩
  | 46 => ⟨S2x80x1024, .i1⟩
  | 47 => ⟨S_, .f32⟩
  | 48 => ⟨S_, .f32⟩
  | 49 => ⟨S2x80x1024, .f32⟩
  | 50 => ⟨S_, .f32⟩
  | 51 => ⟨S_, .f32⟩
  | 52 => ⟨S2x80x1024, .f32⟩
  | 53 => ⟨S2x80x1024, .f32⟩
  | 54 => ⟨S2x81920, .f32⟩
  | 55 => ⟨S2x300, .f32⟩
  | 56 => ⟨S2x300, .i32⟩
  | 57 => ⟨S_, .i32⟩
  | 58 => ⟨S_, .i32⟩
  | 59 => ⟨S2x300, .i32⟩
  | 60 => ⟨S2x300, .i32⟩
  | 61 => ⟨S2x300, .i32⟩
  | 62 => ⟨S_, .i32⟩
  | 63 => ⟨S2x300, .i32⟩
  | 64 => ⟨S2x300, .i1⟩
  | 65 => ⟨S2x300, .i32⟩
  | 66 => ⟨S2x300, .i32⟩
  | 67 => ⟨S_, .i32⟩
  | 68 => ⟨S2x300, .i32⟩
  | 69 => ⟨S2x300, .i1⟩
  | 70 => ⟨S2x300, .i1⟩
  | 71 => ⟨S_, .i32⟩
  | 72 => ⟨S2x300, .i32⟩
  | 73 => ⟨S2x300, .i32⟩
  | 74 => ⟨S2x300, .i32⟩
  | 75 => ⟨S_, .i32⟩
  | 76 => ⟨S_, .i32⟩
  | 77 => ⟨S2x80x1024, .i32⟩
  | 78 => ⟨S2x81920, .i32⟩
  | 79 => ⟨S_, .i32⟩
  | 80 => ⟨S2x300, .i32⟩
  | 81 => ⟨S2x300, .i1⟩
  | 82 => ⟨S_, .i32⟩
  | 83 => ⟨S2x300, .i32⟩
  | 84 => ⟨S2x300, .i32⟩
  | 85 => ⟨S2x300, .i32⟩
  | 86 => ⟨S2x300x1, .i32⟩
  | 87 => ⟨S1, .i32⟩
  | 88 => ⟨S_, .i32⟩
  | 89 => ⟨S2x300x1, .i32⟩
  | 90 => ⟨S2x300x1, .i1⟩
  | 91 => ⟨S1x1x1, .i32⟩
  | 92 => ⟨S2x300x1, .i32⟩
  | 93 => ⟨S2x300x1, .i1⟩
  | 94 => ⟨S2x300x1, .i1⟩
  | 95 => ⟨S_, .i1⟩
  | 96 => ⟨S2x300, .i1⟩
  | 97 => ⟨S2x300, .i32⟩
  | 98 => ⟨S_, .i32⟩
  | 99 => ⟨S2x300, .i32⟩
  | 100 => ⟨S2x300, .i32⟩
  | 101 => ⟨S_, .f32⟩
  | 102 => ⟨S2x300, .f32⟩
  | 103 => ⟨S2x300, .i1⟩
  | 104 => ⟨S2x300x1, .i1⟩
  | 105 => ⟨S2x300x1, .i32⟩
  | 106 => ⟨S_, .i32⟩
  | 107 => ⟨S2x300x1, .i32⟩
  | 108 => ⟨S2x300x1, .i1⟩
  | 109 => ⟨S_, .i32⟩
  | 110 => ⟨S2x300x1, .i32⟩
  | 111 => ⟨S2x300x1, .i32⟩
  | 112 => ⟨S2x300x1, .i32⟩
  | 113 => ⟨S1, .i32⟩
  | 114 => ⟨S_, .i32⟩
  | 115 => ⟨S2x300x1, .i32⟩
  | 116 => ⟨S2x300x1, .i1⟩
  | 117 => ⟨S1x1x1, .i32⟩
  | 118 => ⟨S2x300x1, .i32⟩
  | 119 => ⟨S2x300x1, .i1⟩
  | 120 => ⟨S2x300x1, .i1⟩
  | 121 => ⟨S_, .i1⟩
  | 122 => ⟨S2x300, .i1⟩
  | 123 => ⟨S2x300x4, .f32⟩
  | 124 => ⟨S2x300x4, .i1⟩
  | 125 => ⟨S_, .f32⟩
  | 126 => ⟨S2x300x4, .f32⟩
  | 127 => ⟨S2x300x4, .f32⟩
  | _ => ⟨S2x1000x4, .f32⟩

abbrev hbmTy0_2 (i : Nat) : BufTy := match i % 128 with
  | 0 => ⟨S_, .f32⟩
  | 1 => ⟨S_, .f32⟩
  | 2 => ⟨S2x300x4, .i1⟩
  | 3 => ⟨S2x300x4, .f32⟩
  | 4 => ⟨S2x300x4, .f32⟩
  | 5 => ⟨S_, .f32⟩
  | 6 => ⟨S_, .f32⟩
  | 7 => ⟨S2x300, .f32⟩
  | 8 => ⟨S2x300, .f32⟩
  | 9 => ⟨S_, .i32⟩
  | 10 => ⟨S_, .i32⟩
  | 11 => ⟨S2x300, .i32⟩
  | 12 => ⟨S2x300, .i32⟩
  | 13 => ⟨S2x300x1, .i32⟩
  | 14 => ⟨S_, .i32⟩
  | 15 => ⟨S2x300x1, .i32⟩
  | 16 => ⟨S2x300x1, .i1⟩
  | 17 => ⟨S_, .i32⟩
  | 18 => ⟨S2x300x1, .i32⟩
  | 19 => ⟨S2x300x1, .i32⟩
  | 20 => ⟨S2x300x1, .i32⟩
  | 21 => ⟨S1, .i32⟩
  | 22 => ⟨S_, .i32⟩
  | 23 => ⟨S2x300x1, .i32⟩
  | 24 => ⟨S2x300x1, .i1⟩
  | 25 => ⟨S1x1x1, .i32⟩
  | 26 => ⟨S2x300x1, .i32⟩
  | 27 => ⟨S2x300x1, .i1⟩
  | 28 => ⟨S2x300x1, .i1⟩
  | 29 => ⟨S_, .i1⟩
  | 30 => ⟨S2x300, .i1⟩
  | 31 => ⟨S2x300x50, .f32⟩
  | 32 => ⟨S2x300x50, .i1⟩
  | 33 => ⟨S_, .f32⟩
  | 34 => ⟨S2x300x50, .f32⟩
  | 35 => ⟨S2x300x50, .f32⟩
  | 36 => ⟨S2x300x50, .i32⟩
  | 37 => ⟨S_, .f32⟩
  | 38 => ⟨S_, .i32⟩
  | 39 => ⟨S2x300, .f32⟩
  | 40 => ⟨S2x300, .i32⟩
  | 41 => ⟨S_, .i32⟩
  | 42 => ⟨S_, .i32⟩
  | 43 => ⟨S2x300, .i32⟩
  | 44 => ⟨S2x300, .i32⟩
  | 45 => ⟨S_, .f32⟩
  | 46 => ⟨S2x300, .f32⟩
  | 47 => ⟨S_, .f32⟩
  | 48 => ⟨S_, .f32⟩
  | 49 => ⟨S2x300, .f32⟩
  | 50 => ⟨S2x300, .f32⟩
  | _ => ⟨S2x1000x4, .f32⟩

abbrev hbmTy (i : Nat) : BufTy := match i / 128 with
  | 0 => hbmTy0_0 i
  | 1 => hbmTy0_1 i
  | 2 => hbmTy0_2 i
  | _ => ⟨S2x1000x4, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .i32⟩
  | .local _ .vmem, ⟨13, _⟩ => ⟨S1024x256, .f32⟩
  | _, _ => ⟨S2x1000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1_0 : Ref sig .tc := ⟨.hbm, 6, rfl⟩
abbrev main_v2 : Ref sig .tc := ⟨.hbm, 7, rfl⟩
abbrev main_call1_c : Ref sig .tc := ⟨.hbm, 8, rfl⟩
abbrev main_call1_v0 : Ref sig .tc := ⟨.hbm, 9, rfl⟩
abbrev main_call1_v1 : Ref sig .tc := ⟨.hbm, 10, rfl⟩
abbrev main_call1_c_0 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_c_1 : Ref sig .tc := ⟨.hbm, 16, rfl⟩
abbrev main_call1_c_2 : Ref sig .tc := ⟨.hbm, 17, rfl⟩
abbrev main_call1_v6 : Ref sig .tc := ⟨.hbm, 18, rfl⟩
abbrev main_call1_v7 : Ref sig .tc := ⟨.hbm, 19, rfl⟩
abbrev main_call1_v8 : Ref sig .tc := ⟨.hbm, 20, rfl⟩
abbrev main_call1_v9 : Ref sig .tc := ⟨.hbm, 21, rfl⟩
abbrev main_call1_v10 : Ref sig .tc := ⟨.hbm, 22, rfl⟩
abbrev main_call1_v11 : Ref sig .tc := ⟨.hbm, 23, rfl⟩
abbrev main_call1_c_3 : Ref sig .tc := ⟨.hbm, 24, rfl⟩
abbrev main_call1_v12 : Ref sig .tc := ⟨.hbm, 25, rfl⟩
abbrev main_call1_v13 : Ref sig .tc := ⟨.hbm, 26, rfl⟩
abbrev main_call1_cst : Ref sig .tc := ⟨.hbm, 27, rfl⟩
abbrev main_call1_v14 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_call2_c : Ref sig .tc := ⟨.hbm, 38, rfl⟩
abbrev main_call2_v0 : Ref sig .tc := ⟨.hbm, 39, rfl⟩
abbrev main_call2_v1 : Ref sig .tc := ⟨.hbm, 40, rfl⟩
abbrev main_call2_c_0 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_c_1 : Ref sig .tc := ⟨.hbm, 46, rfl⟩
abbrev main_call2_c_2 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_c_3 : Ref sig .tc := ⟨.hbm, 54, rfl⟩
abbrev main_call2_v12 : Ref sig .tc := ⟨.hbm, 55, rfl⟩
abbrev main_call2_v13 : Ref sig .tc := ⟨.hbm, 56, rfl⟩
abbrev main_call2_cst : Ref sig .tc := ⟨.hbm, 57, rfl⟩
abbrev main_call2_v14 : Ref sig .tc := ⟨.hbm, 58, rfl⟩
abbrev main_v11 : Ref sig .tc := ⟨.hbm, 59, rfl⟩
abbrev main_c : Ref sig .tc := ⟨.hbm, 60, rfl⟩
abbrev main_call3_v0 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_call4_c : Ref sig .tc := ⟨.hbm, 68, rfl⟩
abbrev main_call4_v0 : Ref sig .tc := ⟨.hbm, 69, rfl⟩
abbrev main_call4_v1 : Ref sig .tc := ⟨.hbm, 70, rfl⟩
abbrev main_call4_c_0 : Ref sig .tc := ⟨.hbm, 71, rfl⟩
abbrev main_call4_v2 : Ref sig .tc := ⟨.hbm, 72, rfl⟩
abbrev main_call4_v3 : Ref sig .tc := ⟨.hbm, 73, rfl⟩
abbrev main_call4_v4 : Ref sig .tc := ⟨.hbm, 74, rfl⟩
abbrev main_call4_v5 : Ref sig .tc := ⟨.hbm, 75, rfl⟩
abbrev main_call4_c_1 : Ref sig .tc := ⟨.hbm, 76, rfl⟩
abbrev main_call4_c_2 : Ref sig .tc := ⟨.hbm, 77, rfl⟩
abbrev main_call4_v6 : Ref sig .tc := ⟨.hbm, 78, rfl⟩
abbrev main_call4_v7 : Ref sig .tc := ⟨.hbm, 79, rfl⟩
abbrev main_call4_v8 : Ref sig .tc := ⟨.hbm, 80, rfl⟩
abbrev main_call4_v9 : Ref sig .tc := ⟨.hbm, 81, rfl⟩
abbrev main_call4_v10 : Ref sig .tc := ⟨.hbm, 82, rfl⟩
abbrev main_call4_v11 : Ref sig .tc := ⟨.hbm, 83, rfl⟩
abbrev main_call4_c_3 : Ref sig .tc := ⟨.hbm, 84, rfl⟩
abbrev main_call4_v12 : Ref sig .tc := ⟨.hbm, 85, rfl⟩
abbrev main_call4_v13 : Ref sig .tc := ⟨.hbm, 86, rfl⟩
abbrev main_call4_cst : Ref sig .tc := ⟨.hbm, 87, rfl⟩
abbrev main_call4_v14 : Ref sig .tc := ⟨.hbm, 88, rfl⟩
abbrev main_v18 : Ref sig .tc := ⟨.hbm, 89, rfl⟩
abbrev main_c_0 : Ref sig .tc := ⟨.hbm, 90, rfl⟩
abbrev main_call5_v0 : Ref sig .tc := ⟨.hbm, 91, rfl⟩
abbrev main_v19 : Ref sig .tc := ⟨.hbm, 92, rfl⟩
abbrev main_v20 : Ref sig .tc := ⟨.hbm, 93, rfl⟩
abbrev main_v21 : Ref sig .tc := ⟨.hbm, 94, rfl⟩
abbrev main_v22 : Ref sig .tc := ⟨.hbm, 95, rfl⟩
abbrev main_v23 : Ref sig .tc := ⟨.hbm, 96, rfl⟩
abbrev main_v24 : Ref sig .tc := ⟨.hbm, 97, rfl⟩
abbrev main_call6_c : Ref sig .tc := ⟨.hbm, 98, rfl⟩
abbrev main_call6_v0 : Ref sig .tc := ⟨.hbm, 99, rfl⟩
abbrev main_call6_v1 : Ref sig .tc := ⟨.hbm, 100, rfl⟩
abbrev main_call6_c_0 : Ref sig .tc := ⟨.hbm, 101, rfl⟩
abbrev main_call6_v2 : Ref sig .tc := ⟨.hbm, 102, rfl⟩
abbrev main_call6_v3 : Ref sig .tc := ⟨.hbm, 103, rfl⟩
abbrev main_call6_v4 : Ref sig .tc := ⟨.hbm, 104, rfl⟩
abbrev main_call6_v5 : Ref sig .tc := ⟨.hbm, 105, rfl⟩
abbrev main_call6_c_1 : Ref sig .tc := ⟨.hbm, 106, rfl⟩
abbrev main_call6_c_2 : Ref sig .tc := ⟨.hbm, 107, rfl⟩
abbrev main_call6_v6 : Ref sig .tc := ⟨.hbm, 108, rfl⟩
abbrev main_call6_v7 : Ref sig .tc := ⟨.hbm, 109, rfl⟩
abbrev main_call6_v8 : Ref sig .tc := ⟨.hbm, 110, rfl⟩
abbrev main_call6_v9 : Ref sig .tc := ⟨.hbm, 111, rfl⟩
abbrev main_call6_v10 : Ref sig .tc := ⟨.hbm, 112, rfl⟩
abbrev main_call6_v11 : Ref sig .tc := ⟨.hbm, 113, rfl⟩
abbrev main_call6_c_3 : Ref sig .tc := ⟨.hbm, 114, rfl⟩
abbrev main_call6_v12 : Ref sig .tc := ⟨.hbm, 115, rfl⟩
abbrev main_call6_v13 : Ref sig .tc := ⟨.hbm, 116, rfl⟩
abbrev main_call6_cst : Ref sig .tc := ⟨.hbm, 117, rfl⟩
abbrev main_call6_v14 : Ref sig .tc := ⟨.hbm, 118, rfl⟩
abbrev main_v25 : Ref sig .tc := ⟨.hbm, 119, rfl⟩
abbrev main_c_1 : Ref sig .tc := ⟨.hbm, 120, rfl⟩
abbrev main_call7_v0 : Ref sig .tc := ⟨.hbm, 121, rfl⟩
abbrev main_v26 : Ref sig .tc := ⟨.hbm, 122, rfl⟩
abbrev main_v27 : Ref sig .tc := ⟨.hbm, 123, rfl⟩
abbrev main_v28 : Ref sig .tc := ⟨.hbm, 124, rfl⟩
abbrev main_v29 : Ref sig .tc := ⟨.hbm, 125, rfl⟩
abbrev main_v30 : Ref sig .tc := ⟨.hbm, 126, rfl⟩
abbrev main_v31 : Ref sig .tc := ⟨.hbm, 127, rfl⟩
abbrev main_call8_c : Ref sig .tc := ⟨.hbm, 128, rfl⟩
abbrev main_call8_v0 : Ref sig .tc := ⟨.hbm, 129, rfl⟩
abbrev main_call8_v1 : Ref sig .tc := ⟨.hbm, 130, rfl⟩
abbrev main_call8_c_0 : Ref sig .tc := ⟨.hbm, 131, rfl⟩
abbrev main_call8_v2 : Ref sig .tc := ⟨.hbm, 132, rfl⟩
abbrev main_call8_v3 : Ref sig .tc := ⟨.hbm, 133, rfl⟩
abbrev main_call8_v4 : Ref sig .tc := ⟨.hbm, 134, rfl⟩
abbrev main_call8_v5 : Ref sig .tc := ⟨.hbm, 135, rfl⟩
abbrev main_call8_c_1 : Ref sig .tc := ⟨.hbm, 136, rfl⟩
abbrev main_call8_c_2 : Ref sig .tc := ⟨.hbm, 137, rfl⟩
abbrev main_call8_v6 : Ref sig .tc := ⟨.hbm, 138, rfl⟩
abbrev main_call8_v7 : Ref sig .tc := ⟨.hbm, 139, rfl⟩
abbrev main_call8_v8 : Ref sig .tc := ⟨.hbm, 140, rfl⟩
abbrev main_call8_v9 : Ref sig .tc := ⟨.hbm, 141, rfl⟩
abbrev main_call8_v10 : Ref sig .tc := ⟨.hbm, 142, rfl⟩
abbrev main_call8_v11 : Ref sig .tc := ⟨.hbm, 143, rfl⟩
abbrev main_call8_c_3 : Ref sig .tc := ⟨.hbm, 144, rfl⟩
abbrev main_call8_v12 : Ref sig .tc := ⟨.hbm, 145, rfl⟩
abbrev main_call8_v13 : Ref sig .tc := ⟨.hbm, 146, rfl⟩
abbrev main_call8_cst : Ref sig .tc := ⟨.hbm, 147, rfl⟩
abbrev main_call8_v14 : Ref sig .tc := ⟨.hbm, 148, rfl⟩
abbrev main_v32 : Ref sig .tc := ⟨.hbm, 149, rfl⟩
abbrev main_c_2 : Ref sig .tc := ⟨.hbm, 150, rfl⟩
abbrev main_call9_v0 : Ref sig .tc := ⟨.hbm, 151, rfl⟩
abbrev main_v33 : Ref sig .tc := ⟨.hbm, 152, rfl⟩
abbrev main_v34 : Ref sig .tc := ⟨.hbm, 153, rfl⟩
abbrev main_c_3 : Ref sig .tc := ⟨.hbm, 154, rfl⟩
abbrev main_call10_v0 : Ref sig .tc := ⟨.hbm, 155, rfl⟩
abbrev main_v35 : Ref sig .tc := ⟨.hbm, 156, rfl⟩
abbrev main_v36 : Ref sig .tc := ⟨.hbm, 157, rfl⟩
abbrev main_v37 : Ref sig .tc := ⟨.hbm, 158, rfl⟩
abbrev main_v38 : Ref sig .tc := ⟨.hbm, 159, rfl⟩
abbrev main_v39 : Ref sig .tc := ⟨.hbm, 160, rfl⟩
abbrev main_cst_4 : Ref sig .tc := ⟨.hbm, 161, rfl⟩
abbrev main_v40 : Ref sig .tc := ⟨.hbm, 162, rfl⟩
abbrev main_v41 : Ref sig .tc := ⟨.hbm, 163, rfl⟩
abbrev main_v42 : Ref sig .tc := ⟨.hbm, 164, rfl⟩
abbrev main_call11_call0_c : Ref sig .tc := ⟨.hbm, 165, rfl⟩
abbrev main_call11_call0_v0 : Ref sig .tc := ⟨.hbm, 166, rfl⟩
abbrev main_v43 : Ref sig .tc := ⟨.hbm, 167, rfl⟩
abbrev main_c_5 : Ref sig .tc := ⟨.hbm, 168, rfl⟩
abbrev main_v44 : Ref sig .tc := ⟨.hbm, 169, rfl⟩
abbrev main_v45 : Ref sig .tc := ⟨.hbm, 170, rfl⟩
abbrev main_c_6 : Ref sig .tc := ⟨.hbm, 171, rfl⟩
abbrev main_v46 : Ref sig .tc := ⟨.hbm, 172, rfl⟩
abbrev main_v47 : Ref sig .tc := ⟨.hbm, 173, rfl⟩
abbrev main_v48 : Ref sig .tc := ⟨.hbm, 174, rfl⟩
abbrev main_cst_7 : Ref sig .tc := ⟨.hbm, 175, rfl⟩
abbrev main_call12_v0 : Ref sig .tc := ⟨.hbm, 176, rfl⟩
abbrev main_v49 : Ref sig .tc := ⟨.hbm, 177, rfl⟩
abbrev main_cst_8 : Ref sig .tc := ⟨.hbm, 178, rfl⟩
abbrev main_call13_v0 : Ref sig .tc := ⟨.hbm, 179, rfl⟩
abbrev main_call13_v1 : Ref sig .tc := ⟨.hbm, 180, rfl⟩
abbrev main_v50 : Ref sig .tc := ⟨.hbm, 181, rfl⟩
abbrev main_v51 : Ref sig .tc := ⟨.hbm, 182, rfl⟩
abbrev main_values : Ref sig .tc := ⟨.hbm, 183, rfl⟩
abbrev main_indices : Ref sig .tc := ⟨.hbm, 184, rfl⟩
abbrev main_c_9 : Ref sig .tc := ⟨.hbm, 185, rfl⟩
abbrev main_call14_v0 : Ref sig .tc := ⟨.hbm, 186, rfl⟩
abbrev main_call14_v1 : Ref sig .tc := ⟨.hbm, 187, rfl⟩
abbrev main_call14_v2 : Ref sig .tc := ⟨.hbm, 188, rfl⟩
abbrev main_call14_v3 : Ref sig .tc := ⟨.hbm, 189, rfl⟩
abbrev main_call14_v4 : Ref sig .tc := ⟨.hbm, 190, rfl⟩
abbrev main_call14_v5 : Ref sig .tc := ⟨.hbm, 191, rfl⟩
abbrev main_call14_v6 : Ref sig .tc := ⟨.hbm, 192, rfl⟩
abbrev main_call14_v7 : Ref sig .tc := ⟨.hbm, 193, rfl⟩
abbrev main_call14_v8 : Ref sig .tc := ⟨.hbm, 194, rfl⟩
abbrev main_call14_c : Ref sig .tc := ⟨.hbm, 195, rfl⟩
abbrev main_call14_v9 : Ref sig .tc := ⟨.hbm, 196, rfl⟩
abbrev main_call14_v10 : Ref sig .tc := ⟨.hbm, 197, rfl⟩
abbrev main_call14_v11 : Ref sig .tc := ⟨.hbm, 198, rfl⟩
abbrev main_call14_c_0 : Ref sig .tc := ⟨.hbm, 199, rfl⟩
abbrev main_call14_v12 : Ref sig .tc := ⟨.hbm, 200, rfl⟩
abbrev main_call14_v13 : Ref sig .tc := ⟨.hbm, 201, rfl⟩
abbrev main_v52 : Ref sig .tc := ⟨.hbm, 202, rfl⟩
abbrev main_c_10 : Ref sig .tc := ⟨.hbm, 203, rfl⟩
abbrev main_call15_v0 : Ref sig .tc := ⟨.hbm, 204, rfl⟩
abbrev main_v53 : Ref sig .tc := ⟨.hbm, 205, rfl⟩
abbrev main_v54 : Ref sig .tc := ⟨.hbm, 206, rfl⟩
abbrev main_call16_c : Ref sig .tc := ⟨.hbm, 207, rfl⟩
abbrev main_call16_v0 : Ref sig .tc := ⟨.hbm, 208, rfl⟩
abbrev main_call16_v1 : Ref sig .tc := ⟨.hbm, 209, rfl⟩
abbrev main_call16_c_0 : Ref sig .tc := ⟨.hbm, 210, rfl⟩
abbrev main_call16_v2 : Ref sig .tc := ⟨.hbm, 211, rfl⟩
abbrev main_call16_v3 : Ref sig .tc := ⟨.hbm, 212, rfl⟩
abbrev main_call16_v4 : Ref sig .tc := ⟨.hbm, 213, rfl⟩
abbrev main_call16_v5 : Ref sig .tc := ⟨.hbm, 214, rfl⟩
abbrev main_call16_c_1 : Ref sig .tc := ⟨.hbm, 215, rfl⟩
abbrev main_call16_c_2 : Ref sig .tc := ⟨.hbm, 216, rfl⟩
abbrev main_call16_v6 : Ref sig .tc := ⟨.hbm, 217, rfl⟩
abbrev main_call16_v7 : Ref sig .tc := ⟨.hbm, 218, rfl⟩
abbrev main_call16_v8 : Ref sig .tc := ⟨.hbm, 219, rfl⟩
abbrev main_call16_v9 : Ref sig .tc := ⟨.hbm, 220, rfl⟩
abbrev main_call16_v10 : Ref sig .tc := ⟨.hbm, 221, rfl⟩
abbrev main_call16_v11 : Ref sig .tc := ⟨.hbm, 222, rfl⟩
abbrev main_call16_c_3 : Ref sig .tc := ⟨.hbm, 223, rfl⟩
abbrev main_call16_v12 : Ref sig .tc := ⟨.hbm, 224, rfl⟩
abbrev main_call16_v13 : Ref sig .tc := ⟨.hbm, 225, rfl⟩
abbrev main_call16_c_4 : Ref sig .tc := ⟨.hbm, 226, rfl⟩
abbrev main_call16_v14 : Ref sig .tc := ⟨.hbm, 227, rfl⟩
abbrev main_v55 : Ref sig .tc := ⟨.hbm, 228, rfl⟩
abbrev main_cst_11 : Ref sig .tc := ⟨.hbm, 229, rfl⟩
abbrev main_v56 : Ref sig .tc := ⟨.hbm, 230, rfl⟩
abbrev main_v57 : Ref sig .tc := ⟨.hbm, 231, rfl⟩
abbrev main_v58 : Ref sig .tc := ⟨.hbm, 232, rfl⟩
abbrev main_v59 : Ref sig .tc := ⟨.hbm, 233, rfl⟩
abbrev main_call17_c : Ref sig .tc := ⟨.hbm, 234, rfl⟩
abbrev main_call17_v0 : Ref sig .tc := ⟨.hbm, 235, rfl⟩
abbrev main_call17_v1 : Ref sig .tc := ⟨.hbm, 236, rfl⟩
abbrev main_call17_c_0 : Ref sig .tc := ⟨.hbm, 237, rfl⟩
abbrev main_call17_v2 : Ref sig .tc := ⟨.hbm, 238, rfl⟩
abbrev main_call17_v3 : Ref sig .tc := ⟨.hbm, 239, rfl⟩
abbrev main_call17_v4 : Ref sig .tc := ⟨.hbm, 240, rfl⟩
abbrev main_call17_c_1 : Ref sig .tc := ⟨.hbm, 241, rfl⟩
abbrev main_call17_c_2 : Ref sig .tc := ⟨.hbm, 242, rfl⟩
abbrev main_call17_v5 : Ref sig .tc := ⟨.hbm, 243, rfl⟩
abbrev main_call17_v6 : Ref sig .tc := ⟨.hbm, 244, rfl⟩
abbrev main_call17_v7 : Ref sig .tc := ⟨.hbm, 245, rfl⟩
abbrev main_call17_v8 : Ref sig .tc := ⟨.hbm, 246, rfl⟩
abbrev main_call17_v9 : Ref sig .tc := ⟨.hbm, 247, rfl⟩
abbrev main_call17_v10 : Ref sig .tc := ⟨.hbm, 248, rfl⟩
abbrev main_call17_c_3 : Ref sig .tc := ⟨.hbm, 249, rfl⟩
abbrev main_call17_v11 : Ref sig .tc := ⟨.hbm, 250, rfl⟩
abbrev main_call17_v12 : Ref sig .tc := ⟨.hbm, 251, rfl⟩
abbrev main_call17_v13 : Ref sig .tc := ⟨.hbm, 252, rfl⟩
abbrev main_call17_cst : Ref sig .tc := ⟨.hbm, 253, rfl⟩
abbrev main_call17_v14 : Ref sig .tc := ⟨.hbm, 254, rfl⟩
abbrev main_v60 : Ref sig .tc := ⟨.hbm, 255, rfl⟩
abbrev main_cst_12 : Ref sig .tc := ⟨.hbm, 256, rfl⟩
abbrev main_call18_v0 : Ref sig .tc := ⟨.hbm, 257, rfl⟩
abbrev main_call18_v1 : Ref sig .tc := ⟨.hbm, 258, rfl⟩
abbrev main_call18_v2 : Ref sig .tc := ⟨.hbm, 259, rfl⟩
abbrev main_v61 : Ref sig .tc := ⟨.hbm, 260, rfl⟩
abbrev main_cst_13 : Ref sig .tc := ⟨.hbm, 261, rfl⟩
abbrev main_call19_v0 : Ref sig .tc := ⟨.hbm, 262, rfl⟩
abbrev main_call19_v1 : Ref sig .tc := ⟨.hbm, 263, rfl⟩
abbrev main_v62 : Ref sig .tc := ⟨.hbm, 264, rfl⟩
abbrev main_c_14 : Ref sig .tc := ⟨.hbm, 265, rfl⟩
abbrev main_call20_v0 : Ref sig .tc := ⟨.hbm, 266, rfl⟩
abbrev main_call20_v1 : Ref sig .tc := ⟨.hbm, 267, rfl⟩
abbrev main_v63 : Ref sig .tc := ⟨.hbm, 268, rfl⟩
abbrev main_v64 : Ref sig .tc := ⟨.hbm, 269, rfl⟩
abbrev main_call21_c : Ref sig .tc := ⟨.hbm, 270, rfl⟩
abbrev main_call21_v0 : Ref sig .tc := ⟨.hbm, 271, rfl⟩
abbrev main_call21_v1 : Ref sig .tc := ⟨.hbm, 272, rfl⟩
abbrev main_call21_c_0 : Ref sig .tc := ⟨.hbm, 273, rfl⟩
abbrev main_call21_v2 : Ref sig .tc := ⟨.hbm, 274, rfl⟩
abbrev main_call21_v3 : Ref sig .tc := ⟨.hbm, 275, rfl⟩
abbrev main_call21_v4 : Ref sig .tc := ⟨.hbm, 276, rfl⟩
abbrev main_call21_c_1 : Ref sig .tc := ⟨.hbm, 277, rfl⟩
abbrev main_call21_c_2 : Ref sig .tc := ⟨.hbm, 278, rfl⟩
abbrev main_call21_v5 : Ref sig .tc := ⟨.hbm, 279, rfl⟩
abbrev main_call21_v6 : Ref sig .tc := ⟨.hbm, 280, rfl⟩
abbrev main_call21_v7 : Ref sig .tc := ⟨.hbm, 281, rfl⟩
abbrev main_call21_v8 : Ref sig .tc := ⟨.hbm, 282, rfl⟩
abbrev main_call21_v9 : Ref sig .tc := ⟨.hbm, 283, rfl⟩
abbrev main_call21_v10 : Ref sig .tc := ⟨.hbm, 284, rfl⟩
abbrev main_call21_c_3 : Ref sig .tc := ⟨.hbm, 285, rfl⟩
abbrev main_call21_v11 : Ref sig .tc := ⟨.hbm, 286, rfl⟩
abbrev main_call21_v12 : Ref sig .tc := ⟨.hbm, 287, rfl⟩
abbrev main_call21_v13 : Ref sig .tc := ⟨.hbm, 288, rfl⟩
abbrev main_call21_cst : Ref sig .tc := ⟨.hbm, 289, rfl⟩
abbrev main_call21_v14 : Ref sig .tc := ⟨.hbm, 290, rfl⟩
abbrev main_v65 : Ref sig .tc := ⟨.hbm, 291, rfl⟩
abbrev main_call22_v0 : Ref sig .tc := ⟨.hbm, 292, rfl⟩
abbrev main_call22_cst : Ref sig .tc := ⟨.hbm, 293, rfl⟩
abbrev main_call22_c : Ref sig .tc := ⟨.hbm, 294, rfl⟩
abbrev main_call22_v1_0 : Ref sig .tc := ⟨.hbm, 295, rfl⟩
abbrev main_v66 : Ref sig .tc := ⟨.hbm, 296, rfl⟩
abbrev main_c_15 : Ref sig .tc := ⟨.hbm, 297, rfl⟩
abbrev main_call23_v0 : Ref sig .tc := ⟨.hbm, 298, rfl⟩
abbrev main_call23_v1 : Ref sig .tc := ⟨.hbm, 299, rfl⟩
abbrev main_v67 : Ref sig .tc := ⟨.hbm, 300, rfl⟩
abbrev main_cst_16 : Ref sig .tc := ⟨.hbm, 301, rfl⟩
abbrev main_v68 : Ref sig .tc := ⟨.hbm, 302, rfl⟩
abbrev main_cst_17 : Ref sig .tc := ⟨.hbm, 303, rfl⟩
abbrev main_call24_v0 : Ref sig .tc := ⟨.hbm, 304, rfl⟩
abbrev main_call24_v1 : Ref sig .tc := ⟨.hbm, 305, rfl⟩
abbrev main_v69 : Ref sig .tc := ⟨.hbm, 306, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c128_i32 : BitVec 32 := 128#32
  let v49 : BitVec 32 := Scalar.addi c0_i32 c128_i32
  let c1_i32 : BitVec 32 := 1#32
  ⟨c0_i32, v49, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c0_i32_61 : BitVec 32 := 0#32
  let v63 : BitVec 1 := Scalar.cmpi .sgt arg14 c0_i32_61
  let v64 : BitVec 32 := Scalar.extui v63
  let c0_i32_62 : BitVec 32 := 0#32
  let v65 : BitVec 1 := Scalar.cmpi .slt arg14 c0_i32_62
  let v66 : BitVec 32 := Scalar.extui v65
  let v67 : BitVec 32 := Scalar.subi v64 v66
  let c8_i32 : BitVec 32 := 8#32
  let c0_i32_63 : BitVec 32 := 0#32
  let v68 : BitVec 1 := Scalar.cmpi .sgt c8_i32 c0_i32_63
  let v69 : BitVec 32 := Scalar.extui v68
  let c0_i32_64 : BitVec 32 := 0#32
  let v70 : BitVec 1 := Scalar.cmpi .slt c8_i32 c0_i32_64
  let v71 : BitVec 32 := Scalar.extui v70
  let v72 : BitVec 32 := Scalar.subi v69 v71
  let v73 : BitVec 1 := Scalar.cmpi .ne v67 v72
  let v74 : BitVec 32 := Scalar.remsi arg14 c8_i32
  let c0_i32_65 : BitVec 32 := 0#32
  let v75 : BitVec 1 := Scalar.cmpi .ne v74 c0_i32_65
  let v76 : BitVec 1 := Scalar.andi v73 v75
  let v62 : BitVec 32 := Scalar.divsi arg14 c8_i32
  let c1_i32_66 : BitVec 32 := 1#32
  let v77 : BitVec 32 := Scalar.subi v62 c1_i32_66
  let v78 : BitVec 32 := Scalar.select v76 v77 v62
  let c8_i32_67 : BitVec 32 := 8#32
  let v79 : BitVec 32 := Scalar.muli v78 c8_i32_67
  v79
def k0_off1 (k0_t1 : Fin k0_t1_loop.trips) : Fin 2 → Nat :=
  let c0_i32 : BitVec 32 := 0#32
  let c1_i32 : BitVec 32 := 1#32
  let arg14 : BitVec 32 := Scf.iv c0_i32 c1_i32 k0_t1
  let c0_i32_61 : BitVec 32 := 0#32
  let v63 : BitVec 1 := Scalar.cmpi .sgt arg14 c0_i32_61
  let v64 : BitVec 32 := Scalar.extui v63
  let c0_i32_62 : BitVec 32 := 0#32
  let v65 : BitVec 1 := Scalar.cmpi .slt arg14 c0_i32_62
  let v66 : BitVec 32 := Scalar.extui v65
  let v67 : BitVec 32 := Scalar.subi v64 v66
  let c8_i32 : BitVec 32 := 8#32
  let c0_i32_63 : BitVec 32 := 0#32
  let v68 : BitVec 1 := Scalar.cmpi .sgt c8_i32 c0_i32_63
  let v69 : BitVec 32 := Scalar.extui v68
  let c0_i32_64 : BitVec 32 := 0#32
  let v70 : BitVec 1 := Scalar.cmpi .slt c8_i32 c0_i32_64
  let v71 : BitVec 32 := Scalar.extui v70
  let v72 : BitVec 32 := Scalar.subi v69 v71
  let v73 : BitVec 1 := Scalar.cmpi .ne v67 v72
  let v74 : BitVec 32 := Scalar.remsi arg14 c8_i32
  let c0_i32_65 : BitVec 32 := 0#32
  let v75 : BitVec 1 := Scalar.cmpi .ne v74 c0_i32_65
  let v76 : BitVec 1 := Scalar.andi v73 v75
  let v62 : BitVec 32 := Scalar.divsi arg14 c8_i32
  let c1_i32_66 : BitVec 32 := 1#32
  let v77 : BitVec 32 := Scalar.subi v62 c1_i32_66
  let v78 : BitVec 32 := Scalar.select v76 v77 v62
  let c8_i32_67 : BitVec 32 := 8#32
  let v79 : BitVec 32 := Scalar.muli v78 c8_i32_67
  let v80 : BitVec 32 := v79
  let v93 : Index := Scalar.indexCast v80
  let c0_74 : Index := 0#32
  ![v93.toNat, 0]
@[reducible] def k0_t2_loop : Scf.Loop 32 :=
  let c128_i32_34 : BitVec 32 := 128#32
  let c128_i32_35 : BitVec 32 := 128#32
  let v50 : BitVec 32 := Scalar.addi c128_i32_34 c128_i32_35
  let c1_i32_36 : BitVec 32 := 1#32
  ⟨c128_i32_34, v50, c1_i32_36⟩
def k0_mult2 (k0_t2 : Fin k0_t2_loop.trips) : BitVec 32 :=
  let c128_i32_34 : BitVec 32 := 128#32
  let c1_i32_36 : BitVec 32 := 1#32
  let arg14 : BitVec 32 := Scf.iv c128_i32_34 c1_i32_36 k0_t2
  let c0_i32_61 : BitVec 32 := 0#32
  let v63 : BitVec 1 := Scalar.cmpi .sgt arg14 c0_i32_61
  let v64 : BitVec 32 := Scalar.extui v63
  let c0_i32_62 : BitVec 32 := 0#32
  let v65 : BitVec 1 := Scalar.cmpi .slt arg14 c0_i32_62
  let v66 : BitVec 32 := Scalar.extui v65
  let v67 : BitVec 32 := Scalar.subi v64 v66
  let c8_i32 : BitVec 32 := 8#32
  let c0_i32_63 : BitVec 32 := 0#32
  let v68 : BitVec 1 := Scalar.cmpi .sgt c8_i32 c0_i32_63
  let v69 : BitVec 32 := Scalar.extui v68
  let c0_i32_64 : BitVec 32 := 0#32
  let v70 : BitVec 1 := Scalar.cmpi .slt c8_i32 c0_i32_64
  let v71 : BitVec 32 := Scalar.extui v70
  let v72 : BitVec 32 := Scalar.subi v69 v71
  let v73 : BitVec 1 := Scalar.cmpi .ne v67 v72
  let v74 : BitVec 32 := Scalar.remsi arg14 c8_i32
  let c0_i32_65 : BitVec 32 := 0#32
  let v75 : BitVec 1 := Scalar.cmpi .ne v74 c0_i32_65
  let v76 : BitVec 1 := Scalar.andi v73 v75
  let v62 : BitVec 32 := Scalar.divsi arg14 c8_i32
  let c1_i32_66 : BitVec 32 := 1#32
  let v77 : BitVec 32 := Scalar.subi v62 c1_i32_66
  let v78 : BitVec 32 := Scalar.select v76 v77 v62
  let c8_i32_67 : BitVec 32 := 8#32
  let v79 : BitVec 32 := Scalar.muli v78 c8_i32_67
  v79
def k0_off2 (k0_t2 : Fin k0_t2_loop.trips) : Fin 2 → Nat :=
  let c128_i32_34 : BitVec 32 := 128#32
  let c1_i32_36 : BitVec 32 := 1#32
  let arg14 : BitVec 32 := Scf.iv c128_i32_34 c1_i32_36 k0_t2
  let c0_i32_61 : BitVec 32 := 0#32
  let v63 : BitVec 1 := Scalar.cmpi .sgt arg14 c0_i32_61
  let v64 : BitVec 32 := Scalar.extui v63
  let c0_i32_62 : BitVec 32 := 0#32
  let v65 : BitVec 1 := Scalar.cmpi .slt arg14 c0_i32_62
  let v66 : BitVec 32 := Scalar.extui v65
  let v67 : BitVec 32 := Scalar.subi v64 v66
  let c8_i32 : BitVec 32 := 8#32
  let c0_i32_63 : BitVec 32 := 0#32
  let v68 : BitVec 1 := Scalar.cmpi .sgt c8_i32 c0_i32_63
  let v69 : BitVec 32 := Scalar.extui v68
  let c0_i32_64 : BitVec 32 := 0#32
  let v70 : BitVec 1 := Scalar.cmpi .slt c8_i32 c0_i32_64
  let v71 : BitVec 32 := Scalar.extui v70
  let v72 : BitVec 32 := Scalar.subi v69 v71
  let v73 : BitVec 1 := Scalar.cmpi .ne v67 v72
  let v74 : BitVec 32 := Scalar.remsi arg14 c8_i32
  let c0_i32_65 : BitVec 32 := 0#32
  let v75 : BitVec 1 := Scalar.cmpi .ne v74 c0_i32_65
  let v76 : BitVec 1 := Scalar.andi v73 v75
  let v62 : BitVec 32 := Scalar.divsi arg14 c8_i32
  let c1_i32_66 : BitVec 32 := 1#32
  let v77 : BitVec 32 := Scalar.subi v62 c1_i32_66
  let v78 : BitVec 32 := Scalar.select v76 v77 v62
  let c8_i32_67 : BitVec 32 := 8#32
  let v79 : BitVec 32 := Scalar.muli v78 c8_i32_67
  let v80 : BitVec 32 := v79
  let v93 : Index := Scalar.indexCast v80
  let c0_74 : Index := 0#32
  ![v93.toNat, 0]
@[reducible] def k0_t3_loop : Scf.Loop 32 :=
  let c256_i32 : BitVec 32 := 256#32
  let c128_i32_38 : BitVec 32 := 128#32
  let v51 : BitVec 32 := Scalar.addi c256_i32 c128_i32_38
  let c1_i32_39 : BitVec 32 := 1#32
  ⟨c256_i32, v51, c1_i32_39⟩
def k0_mult3 (k0_t3 : Fin k0_t3_loop.trips) : BitVec 32 :=
  let c256_i32 : BitVec 32 := 256#32
  let c1_i32_39 : BitVec 32 := 1#32
  let arg14 : BitVec 32 := Scf.iv c256_i32 c1_i32_39 k0_t3
  let c0_i32_61 : BitVec 32 := 0#32
  let v63 : BitVec 1 := Scalar.cmpi .sgt arg14 c0_i32_61
  let v64 : BitVec 32 := Scalar.extui v63
  let c0_i32_62 : BitVec 32 := 0#32
  let v65 : BitVec 1 := Scalar.cmpi .slt arg14 c0_i32_62
  let v66 : BitVec 32 := Scalar.extui v65
  let v67 : BitVec 32 := Scalar.subi v64 v66
  let c8_i32 : BitVec 32 := 8#32
  let c0_i32_63 : BitVec 32 := 0#32
  let v68 : BitVec 1 := Scalar.cmpi .sgt c8_i32 c0_i32_63
  let v69 : BitVec 32 := Scalar.extui v68
  let c0_i32_64 : BitVec 32 := 0#32
  let v70 : BitVec 1 := Scalar.cmpi .slt c8_i32 c0_i32_64
  let v71 : BitVec 32 := Scalar.extui v70
  let v72 : BitVec 32 := Scalar.subi v69 v71
  let v73 : BitVec 1 := Scalar.cmpi .ne v67 v72
  let v74 : BitVec 32 := Scalar.remsi arg14 c8_i32
  let c0_i32_65 : BitVec 32 := 0#32
  let v75 : BitVec 1 := Scalar.cmpi .ne v74 c0_i32_65
  let v76 : BitVec 1 := Scalar.andi v73 v75
  let v62 : BitVec 32 := Scalar.divsi arg14 c8_i32
  let c1_i32_66 : BitVec 32 := 1#32
  let v77 : BitVec 32 := Scalar.subi v62 c1_i32_66
  let v78 : BitVec 32 := Scalar.select v76 v77 v62
  let c8_i32_67 : BitVec 32 := 8#32
  let v79 : BitVec 32 := Scalar.muli v78 c8_i32_67
  v79
def k0_off3 (k0_t3 : Fin k0_t3_loop.trips) : Fin 2 → Nat :=
  let c256_i32 : BitVec 32 := 256#32
  let c1_i32_39 : BitVec 32 := 1#32
  let arg14 : BitVec 32 := Scf.iv c256_i32 c1_i32_39 k0_t3
  let c0_i32_61 : BitVec 32 := 0#32
  let v63 : BitVec 1 := Scalar.cmpi .sgt arg14 c0_i32_61
  let v64 : BitVec 32 := Scalar.extui v63
  let c0_i32_62 : BitVec 32 := 0#32
  let v65 : BitVec 1 := Scalar.cmpi .slt arg14 c0_i32_62
  let v66 : BitVec 32 := Scalar.extui v65
  let v67 : BitVec 32 := Scalar.subi v64 v66
  let c8_i32 : BitVec 32 := 8#32
  let c0_i32_63 : BitVec 32 := 0#32
  let v68 : BitVec 1 := Scalar.cmpi .sgt c8_i32 c0_i32_63
  let v69 : BitVec 32 := Scalar.extui v68
  let c0_i32_64 : BitVec 32 := 0#32
  let v70 : BitVec 1 := Scalar.cmpi .slt c8_i32 c0_i32_64
  let v71 : BitVec 32 := Scalar.extui v70
  let v72 : BitVec 32 := Scalar.subi v69 v71
  let v73 : BitVec 1 := Scalar.cmpi .ne v67 v72
  let v74 : BitVec 32 := Scalar.remsi arg14 c8_i32
  let c0_i32_65 : BitVec 32 := 0#32
  let v75 : BitVec 1 := Scalar.cmpi .ne v74 c0_i32_65
  let v76 : BitVec 1 := Scalar.andi v73 v75
  let v62 : BitVec 32 := Scalar.divsi arg14 c8_i32
  let c1_i32_66 : BitVec 32 := 1#32
  let v77 : BitVec 32 := Scalar.subi v62 c1_i32_66
  let v78 : BitVec 32 := Scalar.select v76 v77 v62
  let c8_i32_67 : BitVec 32 := 8#32
  let v79 : BitVec 32 := Scalar.muli v78 c8_i32_67
  let v80 : BitVec 32 := v79
  let v93 : Index := Scalar.indexCast v80
  let c0_74 : Index := 0#32
  ![v93.toNat, 0]
@[reducible] def k0_t4_loop : Scf.Loop 32 :=
  let c384_i32 : BitVec 32 := 384#32
  let c128_i32_41 : BitVec 32 := 128#32
  let v52 : BitVec 32 := Scalar.addi c384_i32 c128_i32_41
  let c1_i32_42 : BitVec 32 := 1#32
  ⟨c384_i32, v52, c1_i32_42⟩
def k0_mult4 (k0_t4 : Fin k0_t4_loop.trips) : BitVec 32 :=
  let c384_i32 : BitVec 32 := 384#32
  let c1_i32_42 : BitVec 32 := 1#32
  let arg14 : BitVec 32 := Scf.iv c384_i32 c1_i32_42 k0_t4
  let c0_i32_61 : BitVec 32 := 0#32
  let v63 : BitVec 1 := Scalar.cmpi .sgt arg14 c0_i32_61
  let v64 : BitVec 32 := Scalar.extui v63
  let c0_i32_62 : BitVec 32 := 0#32
  let v65 : BitVec 1 := Scalar.cmpi .slt arg14 c0_i32_62
  let v66 : BitVec 32 := Scalar.extui v65
  let v67 : BitVec 32 := Scalar.subi v64 v66
  let c8_i32 : BitVec 32 := 8#32
  let c0_i32_63 : BitVec 32 := 0#32
  let v68 : BitVec 1 := Scalar.cmpi .sgt c8_i32 c0_i32_63
  let v69 : BitVec 32 := Scalar.extui v68
  let c0_i32_64 : BitVec 32 := 0#32
  let v70 : BitVec 1 := Scalar.cmpi .slt c8_i32 c0_i32_64
  let v71 : BitVec 32 := Scalar.extui v70
  let v72 : BitVec 32 := Scalar.subi v69 v71
  let v73 : BitVec 1 := Scalar.cmpi .ne v67 v72
  let v74 : BitVec 32 := Scalar.remsi arg14 c8_i32
  let c0_i32_65 : BitVec 32 := 0#32
  let v75 : BitVec 1 := Scalar.cmpi .ne v74 c0_i32_65
  let v76 : BitVec 1 := Scalar.andi v73 v75
  let v62 : BitVec 32 := Scalar.divsi arg14 c8_i32
  let c1_i32_66 : BitVec 32 := 1#32
  let v77 : BitVec 32 := Scalar.subi v62 c1_i32_66
  let v78 : BitVec 32 := Scalar.select v76 v77 v62
  let c8_i32_67 : BitVec 32 := 8#32
  let v79 : BitVec 32 := Scalar.muli v78 c8_i32_67
  v79
def k0_off4 (k0_t4 : Fin k0_t4_loop.trips) : Fin 2 → Nat :=
  let c384_i32 : BitVec 32 := 384#32
  let c1_i32_42 : BitVec 32 := 1#32
  let arg14 : BitVec 32 := Scf.iv c384_i32 c1_i32_42 k0_t4
  let c0_i32_61 : BitVec 32 := 0#32
  let v63 : BitVec 1 := Scalar.cmpi .sgt arg14 c0_i32_61
  let v64 : BitVec 32 := Scalar.extui v63
  let c0_i32_62 : BitVec 32 := 0#32
  let v65 : BitVec 1 := Scalar.cmpi .slt arg14 c0_i32_62
  let v66 : BitVec 32 := Scalar.extui v65
  let v67 : BitVec 32 := Scalar.subi v64 v66
  let c8_i32 : BitVec 32 := 8#32
  let c0_i32_63 : BitVec 32 := 0#32
  let v68 : BitVec 1 := Scalar.cmpi .sgt c8_i32 c0_i32_63
  let v69 : BitVec 32 := Scalar.extui v68
  let c0_i32_64 : BitVec 32 := 0#32
  let v70 : BitVec 1 := Scalar.cmpi .slt c8_i32 c0_i32_64
  let v71 : BitVec 32 := Scalar.extui v70
  let v72 : BitVec 32 := Scalar.subi v69 v71
  let v73 : BitVec 1 := Scalar.cmpi .ne v67 v72
  let v74 : BitVec 32 := Scalar.remsi arg14 c8_i32
  let c0_i32_65 : BitVec 32 := 0#32
  let v75 : BitVec 1 := Scalar.cmpi .ne v74 c0_i32_65
  let v76 : BitVec 1 := Scalar.andi v73 v75
  let v62 : BitVec 32 := Scalar.divsi arg14 c8_i32
  let c1_i32_66 : BitVec 32 := 1#32
  let v77 : BitVec 32 := Scalar.subi v62 c1_i32_66
  let v78 : BitVec 32 := Scalar.select v76 v77 v62
  let c8_i32_67 : BitVec 32 := 8#32
  let v79 : BitVec 32 := Scalar.muli v78 c8_i32_67
  let v80 : BitVec 32 := v79
  let v93 : Index := Scalar.indexCast v80
  let c0_74 : Index := 0#32
  ![v93.toNat, 0]
@[reducible] def k0_t5_loop : Scf.Loop 32 :=
  let c512_i32 : BitVec 32 := 512#32
  let c128_i32_44 : BitVec 32 := 128#32
  let v53 : BitVec 32 := Scalar.addi c512_i32 c128_i32_44
  let c1_i32_45 : BitVec 32 := 1#32
  ⟨c512_i32, v53, c1_i32_45⟩
def k0_mult5 (k0_t5 : Fin k0_t5_loop.trips) : BitVec 32 :=
  let c512_i32 : BitVec 32 := 512#32
  let c1_i32_45 : BitVec 32 := 1#32
  let arg14 : BitVec 32 := Scf.iv c512_i32 c1_i32_45 k0_t5
  let c0_i32_61 : BitVec 32 := 0#32
  let v63 : BitVec 1 := Scalar.cmpi .sgt arg14 c0_i32_61
  let v64 : BitVec 32 := Scalar.extui v63
  let c0_i32_62 : BitVec 32 := 0#32
  let v65 : BitVec 1 := Scalar.cmpi .slt arg14 c0_i32_62
  let v66 : BitVec 32 := Scalar.extui v65
  let v67 : BitVec 32 := Scalar.subi v64 v66
  let c8_i32 : BitVec 32 := 8#32
  let c0_i32_63 : BitVec 32 := 0#32
  let v68 : BitVec 1 := Scalar.cmpi .sgt c8_i32 c0_i32_63
  let v69 : BitVec 32 := Scalar.extui v68
  let c0_i32_64 : BitVec 32 := 0#32
  let v70 : BitVec 1 := Scalar.cmpi .slt c8_i32 c0_i32_64
  let v71 : BitVec 32 := Scalar.extui v70
  let v72 : BitVec 32 := Scalar.subi v69 v71
  let v73 : BitVec 1 := Scalar.cmpi .ne v67 v72
  let v74 : BitVec 32 := Scalar.remsi arg14 c8_i32
  let c0_i32_65 : BitVec 32 := 0#32
  let v75 : BitVec 1 := Scalar.cmpi .ne v74 c0_i32_65
  let v76 : BitVec 1 := Scalar.andi v73 v75
  let v62 : BitVec 32 := Scalar.divsi arg14 c8_i32
  let c1_i32_66 : BitVec 32 := 1#32
  let v77 : BitVec 32 := Scalar.subi v62 c1_i32_66
  let v78 : BitVec 32 := Scalar.select v76 v77 v62
  let c8_i32_67 : BitVec 32 := 8#32
  let v79 : BitVec 32 := Scalar.muli v78 c8_i32_67
  v79
def k0_off5 (k0_t5 : Fin k0_t5_loop.trips) : Fin 2 → Nat :=
  let c512_i32 : BitVec 32 := 512#32
  let c1_i32_45 : BitVec 32 := 1#32
  let arg14 : BitVec 32 := Scf.iv c512_i32 c1_i32_45 k0_t5
  let c0_i32_61 : BitVec 32 := 0#32
  let v63 : BitVec 1 := Scalar.cmpi .sgt arg14 c0_i32_61
  let v64 : BitVec 32 := Scalar.extui v63
  let c0_i32_62 : BitVec 32 := 0#32
  let v65 : BitVec 1 := Scalar.cmpi .slt arg14 c0_i32_62
  let v66 : BitVec 32 := Scalar.extui v65
  let v67 : BitVec 32 := Scalar.subi v64 v66
  let c8_i32 : BitVec 32 := 8#32
  let c0_i32_63 : BitVec 32 := 0#32
  let v68 : BitVec 1 := Scalar.cmpi .sgt c8_i32 c0_i32_63
  let v69 : BitVec 32 := Scalar.extui v68
  let c0_i32_64 : BitVec 32 := 0#32
  let v70 : BitVec 1 := Scalar.cmpi .slt c8_i32 c0_i32_64
  let v71 : BitVec 32 := Scalar.extui v70
  let v72 : BitVec 32 := Scalar.subi v69 v71
  let v73 : BitVec 1 := Scalar.cmpi .ne v67 v72
  let v74 : BitVec 32 := Scalar.remsi arg14 c8_i32
  let c0_i32_65 : BitVec 32 := 0#32
  let v75 : BitVec 1 := Scalar.cmpi .ne v74 c0_i32_65
  let v76 : BitVec 1 := Scalar.andi v73 v75
  let v62 : BitVec 32 := Scalar.divsi arg14 c8_i32
  let c1_i32_66 : BitVec 32 := 1#32
  let v77 : BitVec 32 := Scalar.subi v62 c1_i32_66
  let v78 : BitVec 32 := Scalar.select v76 v77 v62
  let c8_i32_67 : BitVec 32 := 8#32
  let v79 : BitVec 32 := Scalar.muli v78 c8_i32_67
  let v80 : BitVec 32 := v79
  let v93 : Index := Scalar.indexCast v80
  let c0_74 : Index := 0#32
  ![v93.toNat, 0]
@[reducible] def k0_t6_loop : Scf.Loop 32 :=
  let c640_i32 : BitVec 32 := 640#32
  let c128_i32_47 : BitVec 32 := 128#32
  let v54 : BitVec 32 := Scalar.addi c640_i32 c128_i32_47
  let c1_i32_48 : BitVec 32 := 1#32
  ⟨c640_i32, v54, c1_i32_48⟩
def k0_mult6 (k0_t6 : Fin k0_t6_loop.trips) : BitVec 32 :=
  let c640_i32 : BitVec 32 := 640#32
  let c1_i32_48 : BitVec 32 := 1#32
  let arg14 : BitVec 32 := Scf.iv c640_i32 c1_i32_48 k0_t6
  let c0_i32_61 : BitVec 32 := 0#32
  let v63 : BitVec 1 := Scalar.cmpi .sgt arg14 c0_i32_61
  let v64 : BitVec 32 := Scalar.extui v63
  let c0_i32_62 : BitVec 32 := 0#32
  let v65 : BitVec 1 := Scalar.cmpi .slt arg14 c0_i32_62
  let v66 : BitVec 32 := Scalar.extui v65
  let v67 : BitVec 32 := Scalar.subi v64 v66
  let c8_i32 : BitVec 32 := 8#32
  let c0_i32_63 : BitVec 32 := 0#32
  let v68 : BitVec 1 := Scalar.cmpi .sgt c8_i32 c0_i32_63
  let v69 : BitVec 32 := Scalar.extui v68
  let c0_i32_64 : BitVec 32 := 0#32
  let v70 : BitVec 1 := Scalar.cmpi .slt c8_i32 c0_i32_64
  let v71 : BitVec 32 := Scalar.extui v70
  let v72 : BitVec 32 := Scalar.subi v69 v71
  let v73 : BitVec 1 := Scalar.cmpi .ne v67 v72
  let v74 : BitVec 32 := Scalar.remsi arg14 c8_i32
  let c0_i32_65 : BitVec 32 := 0#32
  let v75 : BitVec 1 := Scalar.cmpi .ne v74 c0_i32_65
  let v76 : BitVec 1 := Scalar.andi v73 v75
  let v62 : BitVec 32 := Scalar.divsi arg14 c8_i32
  let c1_i32_66 : BitVec 32 := 1#32
  let v77 : BitVec 32 := Scalar.subi v62 c1_i32_66
  let v78 : BitVec 32 := Scalar.select v76 v77 v62
  let c8_i32_67 : BitVec 32 := 8#32
  let v79 : BitVec 32 := Scalar.muli v78 c8_i32_67
  v79
def k0_off6 (k0_t6 : Fin k0_t6_loop.trips) : Fin 2 → Nat :=
  let c640_i32 : BitVec 32 := 640#32
  let c1_i32_48 : BitVec 32 := 1#32
  let arg14 : BitVec 32 := Scf.iv c640_i32 c1_i32_48 k0_t6
  let c0_i32_61 : BitVec 32 := 0#32
  let v63 : BitVec 1 := Scalar.cmpi .sgt arg14 c0_i32_61
  let v64 : BitVec 32 := Scalar.extui v63
  let c0_i32_62 : BitVec 32 := 0#32
  let v65 : BitVec 1 := Scalar.cmpi .slt arg14 c0_i32_62
  let v66 : BitVec 32 := Scalar.extui v65
  let v67 : BitVec 32 := Scalar.subi v64 v66
  let c8_i32 : BitVec 32 := 8#32
  let c0_i32_63 : BitVec 32 := 0#32
  let v68 : BitVec 1 := Scalar.cmpi .sgt c8_i32 c0_i32_63
  let v69 : BitVec 32 := Scalar.extui v68
  let c0_i32_64 : BitVec 32 := 0#32
  let v70 : BitVec 1 := Scalar.cmpi .slt c8_i32 c0_i32_64
  let v71 : BitVec 32 := Scalar.extui v70
  let v72 : BitVec 32 := Scalar.subi v69 v71
  let v73 : BitVec 1 := Scalar.cmpi .ne v67 v72
  let v74 : BitVec 32 := Scalar.remsi arg14 c8_i32
  let c0_i32_65 : BitVec 32 := 0#32
  let v75 : BitVec 1 := Scalar.cmpi .ne v74 c0_i32_65
  let v76 : BitVec 1 := Scalar.andi v73 v75
  let v62 : BitVec 32 := Scalar.divsi arg14 c8_i32
  let c1_i32_66 : BitVec 32 := 1#32
  let v77 : BitVec 32 := Scalar.subi v62 c1_i32_66
  let v78 : BitVec 32 := Scalar.select v76 v77 v62
  let c8_i32_67 : BitVec 32 := 8#32
  let v79 : BitVec 32 := Scalar.muli v78 c8_i32_67
  let v80 : BitVec 32 := v79
  let v93 : Index := Scalar.indexCast v80
  let c0_74 : Index := 0#32
  ![v93.toNat, 0]
@[reducible] def k0_t7_loop : Scf.Loop 32 :=
  let c768_i32 : BitVec 32 := 768#32
  let c128_i32_50 : BitVec 32 := 128#32
  let v55 : BitVec 32 := Scalar.addi c768_i32 c128_i32_50
  let c1_i32_51 : BitVec 32 := 1#32
  ⟨c768_i32, v55, c1_i32_51⟩
def k0_mult7 (k0_t7 : Fin k0_t7_loop.trips) : BitVec 32 :=
  let c768_i32 : BitVec 32 := 768#32
  let c1_i32_51 : BitVec 32 := 1#32
  let arg14 : BitVec 32 := Scf.iv c768_i32 c1_i32_51 k0_t7
  let c0_i32_61 : BitVec 32 := 0#32
  let v63 : BitVec 1 := Scalar.cmpi .sgt arg14 c0_i32_61
  let v64 : BitVec 32 := Scalar.extui v63
  let c0_i32_62 : BitVec 32 := 0#32
  let v65 : BitVec 1 := Scalar.cmpi .slt arg14 c0_i32_62
  let v66 : BitVec 32 := Scalar.extui v65
  let v67 : BitVec 32 := Scalar.subi v64 v66
  let c8_i32 : BitVec 32 := 8#32
  let c0_i32_63 : BitVec 32 := 0#32
  let v68 : BitVec 1 := Scalar.cmpi .sgt c8_i32 c0_i32_63
  let v69 : BitVec 32 := Scalar.extui v68
  let c0_i32_64 : BitVec 32 := 0#32
  let v70 : BitVec 1 := Scalar.cmpi .slt c8_i32 c0_i32_64
  let v71 : BitVec 32 := Scalar.extui v70
  let v72 : BitVec 32 := Scalar.subi v69 v71
  let v73 : BitVec 1 := Scalar.cmpi .ne v67 v72
  let v74 : BitVec 32 := Scalar.remsi arg14 c8_i32
  let c0_i32_65 : BitVec 32 := 0#32
  let v75 : BitVec 1 := Scalar.cmpi .ne v74 c0_i32_65
  let v76 : BitVec 1 := Scalar.andi v73 v75
  let v62 : BitVec 32 := Scalar.divsi arg14 c8_i32
  let c1_i32_66 : BitVec 32 := 1#32
  let v77 : BitVec 32 := Scalar.subi v62 c1_i32_66
  let v78 : BitVec 32 := Scalar.select v76 v77 v62
  let c8_i32_67 : BitVec 32 := 8#32
  let v79 : BitVec 32 := Scalar.muli v78 c8_i32_67
  v79
def k0_off7 (k0_t7 : Fin k0_t7_loop.trips) : Fin 2 → Nat :=
  let c768_i32 : BitVec 32 := 768#32
  let c1_i32_51 : BitVec 32 := 1#32
  let arg14 : BitVec 32 := Scf.iv c768_i32 c1_i32_51 k0_t7
  let c0_i32_61 : BitVec 32 := 0#32
  let v63 : BitVec 1 := Scalar.cmpi .sgt arg14 c0_i32_61
  let v64 : BitVec 32 := Scalar.extui v63
  let c0_i32_62 : BitVec 32 := 0#32
  let v65 : BitVec 1 := Scalar.cmpi .slt arg14 c0_i32_62
  let v66 : BitVec 32 := Scalar.extui v65
  let v67 : BitVec 32 := Scalar.subi v64 v66
  let c8_i32 : BitVec 32 := 8#32
  let c0_i32_63 : BitVec 32 := 0#32
  let v68 : BitVec 1 := Scalar.cmpi .sgt c8_i32 c0_i32_63
  let v69 : BitVec 32 := Scalar.extui v68
  let c0_i32_64 : BitVec 32 := 0#32
  let v70 : BitVec 1 := Scalar.cmpi .slt c8_i32 c0_i32_64
  let v71 : BitVec 32 := Scalar.extui v70
  let v72 : BitVec 32 := Scalar.subi v69 v71
  let v73 : BitVec 1 := Scalar.cmpi .ne v67 v72
  let v74 : BitVec 32 := Scalar.remsi arg14 c8_i32
  let c0_i32_65 : BitVec 32 := 0#32
  let v75 : BitVec 1 := Scalar.cmpi .ne v74 c0_i32_65
  let v76 : BitVec 1 := Scalar.andi v73 v75
  let v62 : BitVec 32 := Scalar.divsi arg14 c8_i32
  let c1_i32_66 : BitVec 32 := 1#32
  let v77 : BitVec 32 := Scalar.subi v62 c1_i32_66
  let v78 : BitVec 32 := Scalar.select v76 v77 v62
  let c8_i32_67 : BitVec 32 := 8#32
  let v79 : BitVec 32 := Scalar.muli v78 c8_i32_67
  let v80 : BitVec 32 := v79
  let v93 : Index := Scalar.indexCast v80
  let c0_74 : Index := 0#32
  ![v93.toNat, 0]
@[reducible] def k0_t8_loop : Scf.Loop 32 :=
  let c896_i32 : BitVec 32 := 896#32
  let c104_i32 : BitVec 32 := 104#32
  let v56 : BitVec 32 := Scalar.addi c896_i32 c104_i32
  let c1_i32_53 : BitVec 32 := 1#32
  ⟨c896_i32, v56, c1_i32_53⟩
def k0_mult8 (k0_t8 : Fin k0_t8_loop.trips) : BitVec 32 :=
  let c896_i32 : BitVec 32 := 896#32
  let c1_i32_53 : BitVec 32 := 1#32
  let arg14 : BitVec 32 := Scf.iv c896_i32 c1_i32_53 k0_t8
  let c0_i32_61 : BitVec 32 := 0#32
  let v63 : BitVec 1 := Scalar.cmpi .sgt arg14 c0_i32_61
  let v64 : BitVec 32 := Scalar.extui v63
  let c0_i32_62 : BitVec 32 := 0#32
  let v65 : BitVec 1 := Scalar.cmpi .slt arg14 c0_i32_62
  let v66 : BitVec 32 := Scalar.extui v65
  let v67 : BitVec 32 := Scalar.subi v64 v66
  let c8_i32 : BitVec 32 := 8#32
  let c0_i32_63 : BitVec 32 := 0#32
  let v68 : BitVec 1 := Scalar.cmpi .sgt c8_i32 c0_i32_63
  let v69 : BitVec 32 := Scalar.extui v68
  let c0_i32_64 : BitVec 32 := 0#32
  let v70 : BitVec 1 := Scalar.cmpi .slt c8_i32 c0_i32_64
  let v71 : BitVec 32 := Scalar.extui v70
  let v72 : BitVec 32 := Scalar.subi v69 v71
  let v73 : BitVec 1 := Scalar.cmpi .ne v67 v72
  let v74 : BitVec 32 := Scalar.remsi arg14 c8_i32
  let c0_i32_65 : BitVec 32 := 0#32
  let v75 : BitVec 1 := Scalar.cmpi .ne v74 c0_i32_65
  let v76 : BitVec 1 := Scalar.andi v73 v75
  let v62 : BitVec 32 := Scalar.divsi arg14 c8_i32
  let c1_i32_66 : BitVec 32 := 1#32
  let v77 : BitVec 32 := Scalar.subi v62 c1_i32_66
  let v78 : BitVec 32 := Scalar.select v76 v77 v62
  let c8_i32_67 : BitVec 32 := 8#32
  let v79 : BitVec 32 := Scalar.muli v78 c8_i32_67
  v79
def k0_off8 (k0_t8 : Fin k0_t8_loop.trips) : Fin 2 → Nat :=
  let c896_i32 : BitVec 32 := 896#32
  let c1_i32_53 : BitVec 32 := 1#32
  let arg14 : BitVec 32 := Scf.iv c896_i32 c1_i32_53 k0_t8
  let c0_i32_61 : BitVec 32 := 0#32
  let v63 : BitVec 1 := Scalar.cmpi .sgt arg14 c0_i32_61
  let v64 : BitVec 32 := Scalar.extui v63
  let c0_i32_62 : BitVec 32 := 0#32
  let v65 : BitVec 1 := Scalar.cmpi .slt arg14 c0_i32_62
  let v66 : BitVec 32 := Scalar.extui v65
  let v67 : BitVec 32 := Scalar.subi v64 v66
  let c8_i32 : BitVec 32 := 8#32
  let c0_i32_63 : BitVec 32 := 0#32
  let v68 : BitVec 1 := Scalar.cmpi .sgt c8_i32 c0_i32_63
  let v69 : BitVec 32 := Scalar.extui v68
  let c0_i32_64 : BitVec 32 := 0#32
  let v70 : BitVec 1 := Scalar.cmpi .slt c8_i32 c0_i32_64
  let v71 : BitVec 32 := Scalar.extui v70
  let v72 : BitVec 32 := Scalar.subi v69 v71
  let v73 : BitVec 1 := Scalar.cmpi .ne v67 v72
  let v74 : BitVec 32 := Scalar.remsi arg14 c8_i32
  let c0_i32_65 : BitVec 32 := 0#32
  let v75 : BitVec 1 := Scalar.cmpi .ne v74 c0_i32_65
  let v76 : BitVec 1 := Scalar.andi v73 v75
  let v62 : BitVec 32 := Scalar.divsi arg14 c8_i32
  let c1_i32_66 : BitVec 32 := 1#32
  let v77 : BitVec 32 := Scalar.subi v62 c1_i32_66
  let v78 : BitVec 32 := Scalar.select v76 v77 v62
  let c8_i32_67 : BitVec 32 := 8#32
  let v79 : BitVec 32 := Scalar.muli v78 c8_i32_67
  let v80 : BitVec 32 := v79
  let v93 : Index := Scalar.indexCast v80
  let c0_74 : Index := 0#32
  ![v93.toNat, 0]
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x1000x4 : Shape := ⟨3, ![2, 1000, 4]⟩
abbrev S2x1000x80 : Shape := ⟨3, ![2, 1000, 80]⟩
abbrev S2x1000x50 : Shape := ⟨3, ![2, 1000, 50]⟩
abbrev S2x80x1000 : Shape := ⟨3, ![2, 80, 1000]⟩
abbrev S_ : Shape := ⟨0, ![]⟩
abbrev S2x80x1000x1 : Shape := ⟨4, ![2, 80, 1000, 1]⟩
abbrev S1 : Shape := ⟨1, ![1]⟩
abbrev S1x1x1x1 : Shape := ⟨4, ![1, 1, 1, 1]⟩
abbrev S2x1000x1 : Shape := ⟨3, ![2, 1000, 1]⟩
abbrev S2x1000 : Shape := ⟨2, ![2, 1000]⟩
abbrev S2x1x1000 : Shape := ⟨3, ![2, 1, 1000]⟩
abbrev S2x1000x1000 : Shape := ⟨3, ![2, 1000, 1000]⟩
abbrev S1000 : Shape := ⟨1, ![1000]⟩
abbrev S2x80x1 : Shape := ⟨3, ![2, 80, 1]⟩
abbrev S1x1x1 : Shape := ⟨3, ![1, 1, 1]⟩
abbrev S2x80 : Shape := ⟨2, ![2, 80]⟩
abbrev S1x1x1000 : Shape := ⟨3, ![1, 1, 1000]⟩
abbrev S2 : Shape := ⟨1, ![2]⟩
abbrev S2x1x1 : Shape := ⟨3, ![2, 1, 1]⟩
abbrev S80 : Shape := ⟨1, ![80]⟩
abbrev S1x80x1 : Shape := ⟨3, ![1, 80, 1]⟩
abbrev S2x80x1000x3 : Shape := ⟨4, ![2, 80, 1000, 3]⟩
abbrev S2x80000 : Shape := ⟨2, ![2, 80000]⟩
abbrev S2x300 : Shape := ⟨2, ![2, 300]⟩
abbrev S2x300x1 : Shape := ⟨3, ![2, 300, 1]⟩
abbrev S2x300x4 : Shape := ⟨3, ![2, 300, 4]⟩
abbrev S2x300x50 : Shape := ⟨3, ![2, 300, 50]⟩

abbrev nBuf : Space → Nat
  | .hbm => 327
  | .vmem => 0
  | .smem => 0
  | _ => 0

abbrev hbmTy0_0 (i : Nat) : BufTy := match i % 128 with
  | 0 => ⟨S2x1000x4, .f32⟩
  | 1 => ⟨S2x1000x80, .f32⟩
  | 2 => ⟨S2x1000x50, .f32⟩
  | 3 => ⟨S2x80x1000, .f32⟩
  | 4 => ⟨S2x80x1000, .f32⟩
  | 5 => ⟨S2x80x1000, .i32⟩
  | 6 => ⟨S2x80x1000, .f32⟩
  | 7 => ⟨S2x80x1000, .i32⟩
  | 8 => ⟨S_, .i32⟩
  | 9 => ⟨S2x80x1000, .i32⟩
  | 10 => ⟨S2x80x1000, .i1⟩
  | 11 => ⟨S_, .i32⟩
  | 12 => ⟨S2x80x1000, .i32⟩
  | 13 => ⟨S2x80x1000, .i32⟩
  | 14 => ⟨S2x80x1000, .i32⟩
  | 15 => ⟨S2x80x1000x1, .i32⟩
  | 16 => ⟨S1, .i32⟩
  | 17 => ⟨S_, .i32⟩
  | 18 => ⟨S2x80x1000x1, .i32⟩
  | 19 => ⟨S2x80x1000x1, .i1⟩
  | 20 => ⟨S1x1x1x1, .i32⟩
  | 21 => ⟨S2x80x1000x1, .i32⟩
  | 22 => ⟨S2x80x1000x1, .i1⟩
  | 23 => ⟨S2x80x1000x1, .i1⟩
  | 24 => ⟨S_, .i1⟩
  | 25 => ⟨S2x80x1000, .i1⟩
  | 26 => ⟨S2x80x1000, .f32⟩
  | 27 => ⟨S_, .f32⟩
  | 28 => ⟨S2x80x1000, .f32⟩
  | 29 => ⟨S2x80x1000, .f32⟩
  | 30 => ⟨S2x1000x1, .f32⟩
  | 31 => ⟨S2x1000, .f32⟩
  | 32 => ⟨S2x1000x1, .f32⟩
  | 33 => ⟨S2x1000, .f32⟩
  | 34 => ⟨S2x1000x1, .f32⟩
  | 35 => ⟨S2x1000, .f32⟩
  | 36 => ⟨S2x1000x1, .f32⟩
  | 37 => ⟨S2x1000, .f32⟩
  | 38 => ⟨S2x1000, .f32⟩
  | 39 => ⟨S2x1000, .f32⟩
  | 40 => ⟨S2x1000, .f32⟩
  | 41 => ⟨S2x1000x1, .f32⟩
  | 42 => ⟨S2x1x1000, .f32⟩
  | 43 => ⟨S2x1000x1000, .f32⟩
  | 44 => ⟨S2x1000x1000, .f32⟩
  | 45 => ⟨S2x1000x1000, .f32⟩
  | 46 => ⟨S2x1000x1, .f32⟩
  | 47 => ⟨S2x1x1000, .f32⟩
  | 48 => ⟨S2x1000x1000, .f32⟩
  | 49 => ⟨S2x1000x1000, .f32⟩
  | 50 => ⟨S2x1000x1000, .f32⟩
  | 51 => ⟨S2x1000x1, .f32⟩
  | 52 => ⟨S2x1x1000, .f32⟩
  | 53 => ⟨S2x1000x1000, .f32⟩
  | 54 => ⟨S2x1000x1000, .f32⟩
  | 55 => ⟨S2x1000x1000, .f32⟩
  | 56 => ⟨S2x1000x1, .f32⟩
  | 57 => ⟨S2x1x1000, .f32⟩
  | 58 => ⟨S2x1000x1000, .f32⟩
  | 59 => ⟨S2x1000x1000, .f32⟩
  | 60 => ⟨S2x1000x1000, .f32⟩
  | 61 => ⟨S2x1000x1000, .f32⟩
  | 62 => ⟨S_, .f32⟩
  | 63 => ⟨S2x1000x1000, .f32⟩
  | 64 => ⟨S2x1000x1000, .f32⟩
  | 65 => ⟨S2x1000x1000, .f32⟩
  | 66 => ⟨S_, .f32⟩
  | 67 => ⟨S2x1000x1000, .f32⟩
  | 68 => ⟨S2x1000x1000, .f32⟩
  | 69 => ⟨S2x1000x1000, .f32⟩
  | 70 => ⟨S2x1000x1, .f32⟩
  | 71 => ⟨S2x1x1000, .f32⟩
  | 72 => ⟨S2x1000x1000, .f32⟩
  | 73 => ⟨S2x1000x1000, .f32⟩
  | 74 => ⟨S2x1000x1000, .f32⟩
  | 75 => ⟨S2x1000x1000, .f32⟩
  | 76 => ⟨S_, .f32⟩
  | 77 => ⟨S2x1000x1000, .f32⟩
  | 78 => ⟨S2x1000x1000, .f32⟩
  | 79 => ⟨S2x1000x1000, .f32⟩
  | 80 => ⟨S_, .f32⟩
  | 81 => ⟨S2x80x1000, .f32⟩
  | 82 => ⟨S2x80x1000, .i1⟩
  | 83 => ⟨S1000, .i32⟩
  | 84 => ⟨S_, .i1⟩
  | 85 => ⟨S2x80x1000, .i1⟩
  | 86 => ⟨S_, .i32⟩
  | 87 => ⟨S_, .i32⟩
  | 88 => ⟨S2x80x1000, .i32⟩
  | 89 => ⟨S2x1000x1000, .f32⟩
  | 90 => ⟨S1000, .i32⟩
  | 91 => ⟨S2x80x1000, .i1⟩
  | 92 => ⟨S_, .i32⟩
  | 93 => ⟨S_, .i32⟩
  | 94 => ⟨S2x80x1000, .i1⟩
  | 95 => ⟨S_, .i32⟩
  | 96 => ⟨S_, .i1⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S2x80x1, .i32⟩
  | 108 => ⟨S_, .i32⟩
  | 109 => ⟨S2x80x1, .i32⟩
  | 110 => ⟨S2x80x1, .i1⟩
  | 111 => ⟨S_, .i32⟩
  | 112 => ⟨S2x80x1, .i32⟩
  | 113 => ⟨S2x80x1, .i32⟩
  | 114 => ⟨S2x80x1, .i32⟩
  | 115 => ⟨S1, .i32⟩
  | 116 => ⟨S_, .i32⟩
  | 117 => ⟨S2x80x1, .i32⟩
  | 118 => ⟨S2x80x1, .i1⟩
  | 119 => ⟨S1x1x1, .i32⟩
  | 120 => ⟨S2x80x1, .i32⟩
  | 121 => ⟨S2x80x1, .i1⟩
  | 122 => ⟨S2x80x1, .i1⟩
  | 123 => ⟨S_, .i1⟩
  | 124 => ⟨S2x80, .i1⟩
  | 125 => ⟨S2x80x1000, .f32⟩
  | 126 => ⟨S2x80x1000, .i1⟩
  | 127 => ⟨S_, .f32⟩
  | _ => ⟨S2x1000x4, .f32⟩

abbrev hbmTy0_1 (i : Nat) : BufTy := match i % 128 with
  | 0 => ⟨S2x80x1000, .f32⟩
  | 1 => ⟨S2x80x1000, .f32⟩
  | 2 => ⟨S_, .i32⟩
  | 3 => ⟨S2x80x1000, .i32⟩
  | 4 => ⟨S2x80x1000, .i1⟩
  | 5 => ⟨S_, .i32⟩
  | 6 => ⟨S2x80x1000, .i32⟩
  | 7 => ⟨S2x80x1000, .i32⟩
  | 8 => ⟨S2x80x1000, .i32⟩
  | 9 => ⟨S2x80x1000x1, .i32⟩
  | 10 => ⟨S1, .i32⟩
  | 11 => ⟨S_, .i32⟩
  | 12 => ⟨S2x80x1000x1, .i32⟩
  | 13 => ⟨S2x80x1000x1, .i1⟩
  | 14 => ⟨S1x1x1x1, .i32⟩
  | 15 => ⟨S2x80x1000x1, .i32⟩
  | 16 => ⟨S2x80x1000x1, .i1⟩
  | 17 => ⟨S2x80x1000x1, .i1⟩
  | 18 => ⟨S_, .i1⟩
  | 19 => ⟨S2x80x1000, .i1⟩
  | 20 => ⟨S2x80x1000, .f32⟩
  | 21 => ⟨S_, .f32⟩
  | 22 => ⟨S2x80x1000, .f32⟩
  | 23 => ⟨S2x80x1000, .f32⟩
  | 24 => ⟨S_, .f32⟩
  | 25 => ⟨S2x80x1000, .f32⟩
  | 26 => ⟨S2x80x1000, .i1⟩
  | 27 => ⟨S_, .i32⟩
  | 28 => ⟨S1000, .i32⟩
  | 29 => ⟨S1000, .i1⟩
  | 30 => ⟨S1x1x1000, .i1⟩
  | 31 => ⟨S2x80x1000, .i1⟩
  | 32 => ⟨S2x80x1000, .i1⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S2x80x1, .i1⟩
  | 42 => ⟨S2x80x1000, .i1⟩
  | 43 => ⟨S2x80x1000, .i1⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S2x80x1, .i1⟩
  | 53 => ⟨S2x80x1000, .i1⟩
  | 54 => ⟨S2x80x1000, .i1⟩
  | 55 => ⟨S2x80x1000, .i1⟩
  | 56 => ⟨S2x80x1000, .i1⟩
  | 57 => ⟨S_, .i32⟩
  | 58 => ⟨S_, .i32⟩
  | 59 => ⟨S_, .f32⟩
  | 60 => ⟨S2x80x1000, .f32⟩
  | 61 => ⟨S2x80x1000, .i1⟩
  | 62 => ⟨S2x80x1000, .i1⟩
  | 63 => ⟨S2x80x1000, .i32⟩
  | 64 => ⟨S_, .i32⟩
  | 65 => ⟨S_, .i32⟩
  | 66 => ⟨S2x80x1000, .i32⟩
  | 67 => ⟨S_, .i32⟩
  | 68 => ⟨S2x80x1000, .i32⟩
  | 69 => ⟨S2x80x1000, .i32⟩
  | 70 => ⟨S_, .i32⟩
  | 71 => ⟨S2x80x1000, .i32⟩
  | 72 => ⟨S2x80x1000, .i1⟩
  | 73 => ⟨S2x80x1000, .i1⟩
  | 74 => ⟨S_, .f32⟩
  | 75 => ⟨S_, .f32⟩
  | 76 => ⟨S2x80x1000, .f32⟩
  | 77 => ⟨S2x80x1000, .f32⟩
  | 78 => ⟨S2, .i32⟩
  | 79 => ⟨S2x1x1, .i32⟩
  | 80 => ⟨S80, .i32⟩
  | 81 => ⟨S1x80x1, .i32⟩
  | 82 => ⟨S_, .f32⟩
  | 83 => ⟨S2x80x1000, .f32⟩
  | 84 => ⟨S_, .i32⟩
  | 85 => ⟨S2x1x1, .i32⟩
  | 86 => ⟨S2x1x1, .i1⟩
  | 87 => ⟨S_, .i32⟩
  | 88 => ⟨S2x1x1, .i32⟩
  | 89 => ⟨S2x1x1, .i32⟩
  | 90 => ⟨S2x1x1, .i32⟩
  | 91 => ⟨S_, .i32⟩
  | 92 => ⟨S1x80x1, .i32⟩
  | 93 => ⟨S1x80x1, .i1⟩
  | 94 => ⟨S_, .i32⟩
  | 95 => ⟨S1x80x1, .i32⟩
  | 96 => ⟨S1x80x1, .i32⟩
  | 97 => ⟨S1x80x1, .i32⟩
  | 98 => ⟨S_, .i32⟩
  | 99 => ⟨S2x80x1000, .i32⟩
  | 100 => ⟨S2x80x1000, .i1⟩
  | 101 => ⟨S_, .i32⟩
  | 102 => ⟨S2x80x1000, .i32⟩
  | 103 => ⟨S2x80x1000, .i32⟩
  | 104 => ⟨S2x80x1000, .i32⟩
  | 105 => ⟨S2x80x1000, .i32⟩
  | 106 => ⟨S2x80x1000, .i32⟩
  | 107 => ⟨S2x80x1000x1, .i32⟩
  | 108 => ⟨S2x80x1000x1, .i32⟩
  | 109 => ⟨S2x80x1000x1, .i32⟩
  | 110 => ⟨S2x80x1000x3, .i32⟩
  | 111 => ⟨S2x80x1000, .f32⟩
  | 112 => ⟨S2x80000, .f32⟩
  | 113 => ⟨S2x300, .f32⟩
  | 114 => ⟨S2x300, .i32⟩
  | 115 => ⟨S_, .i32⟩
  | 116 => ⟨S2x300, .i32⟩
  | 117 => ⟨S2x300, .i32⟩
  | 118 => ⟨S_, .i32⟩
  | 119 => ⟨S2x300, .i32⟩
  | 120 => ⟨S2x300, .i32⟩
  | 121 => ⟨S_, .f32⟩
  | 122 => ⟨S2x300, .f32⟩
  | 123 => ⟨S2x300, .i1⟩
  | 124 => ⟨S2x300x1, .i1⟩
  | 125 => ⟨S2x300x1, .i32⟩
  | 126 => ⟨S_, .i32⟩
  | 127 => ⟨S2x300x1, .i32⟩
  | _ => ⟨S2x1000x4, .f32⟩

abbrev hbmTy0_2 (i : Nat) : BufTy := match i % 128 with
  | 0 => ⟨S2x300x1, .i1⟩
  | 1 => ⟨S_, .i32⟩
  | 2 => ⟨S2x300x1, .i32⟩
  | 3 => ⟨S2x300x1, .i32⟩
  | 4 => ⟨S2x300x1, .i32⟩
  | 5 => ⟨S1, .i32⟩
  | 6 => ⟨S_, .i32⟩
  | 7 => ⟨S2x300x1, .i32⟩
  | 8 => ⟨S2x300x1, .i1⟩
  | 9 => ⟨S1x1x1, .i32⟩
  | 10 => ⟨S2x300x1, .i32⟩
  | 11 => ⟨S2x300x1, .i1⟩
  | 12 => ⟨S2x300x1, .i1⟩
  | 13 => ⟨S_, .i1⟩
  | 14 => ⟨S2x300, .i1⟩
  | 15 => ⟨S2x300x4, .f32⟩
  | 16 => ⟨S2x300x4, .i1⟩
  | 17 => ⟨S_, .f32⟩
  | 18 => ⟨S2x300x4, .f32⟩
  | 19 => ⟨S2x300x4, .f32⟩
  | 20 => ⟨S_, .f32⟩
  | 21 => ⟨S_, .f32⟩
  | 22 => ⟨S2x300x4, .i1⟩
  | 23 => ⟨S2x300x4, .f32⟩
  | 24 => ⟨S2x300x4, .f32⟩
  | 25 => ⟨S_, .f32⟩
  | 26 => ⟨S_, .f32⟩
  | 27 => ⟨S2x300, .f32⟩
  | 28 => ⟨S2x300, .f32⟩
  | 29 => ⟨S_, .i32⟩
  | 30 => ⟨S_, .i32⟩
  | 31 => ⟨S2x300, .i32⟩
  | 32 => ⟨S2x300, .i32⟩
  | 33 => ⟨S2x300x1, .i32⟩
  | 34 => ⟨S_, .i32⟩
  | 35 => ⟨S2x300x1, .i32⟩
  | 36 => ⟨S2x300x1, .i1⟩
  | 37 => ⟨S_, .i32⟩
  | 38 => ⟨S2x300x1, .i32⟩
  | 39 => ⟨S2x300x1, .i32⟩
  | 40 => ⟨S2x300x1, .i32⟩
  | 41 => ⟨S1, .i32⟩
  | 42 => ⟨S_, .i32⟩
  | 43 => ⟨S2x300x1, .i32⟩
  | 44 => ⟨S2x300x1, .i1⟩
  | 45 => ⟨S1x1x1, .i32⟩
  | 46 => ⟨S2x300x1, .i32⟩
  | 47 => ⟨S2x300x1, .i1⟩
  | 48 => ⟨S2x300x1, .i1⟩
  | 49 => ⟨S_, .i1⟩
  | 50 => ⟨S2x300, .i1⟩
  | 51 => ⟨S2x300x50, .f32⟩
  | 52 => ⟨S2x300x50, .i1⟩
  | 53 => ⟨S_, .f32⟩
  | 54 => ⟨S2x300x50, .f32⟩
  | 55 => ⟨S2x300x50, .f32⟩
  | 56 => ⟨S2x300x50, .i32⟩
  | 57 => ⟨S_, .f32⟩
  | 58 => ⟨S_, .i32⟩
  | 59 => ⟨S2x300, .f32⟩
  | 60 => ⟨S2x300, .i32⟩
  | 61 => ⟨S_, .i32⟩
  | 62 => ⟨S_, .i32⟩
  | 63 => ⟨S2x300, .i32⟩
  | 64 => ⟨S2x300, .i32⟩
  | 65 => ⟨S_, .f32⟩
  | 66 => ⟨S2x300, .f32⟩
  | 67 => ⟨S_, .f32⟩
  | 68 => ⟨S_, .f32⟩
  | 69 => ⟨S2x300, .f32⟩
  | 70 => ⟨S2x300, .f32⟩
  | _ => ⟨S2x1000x4, .f32⟩

abbrev hbmTy (i : Nat) : BufTy := match i / 128 with
  | 0 => hbmTy0_0 i
  | 1 => hbmTy0_1 i
  | 2 => hbmTy0_2 i
  | _ => ⟨S2x1000x4, .f32⟩

abbrev bufTy : (tb : Table) → Fin (tcTables nBuf tb) → BufTy
  | .hbm, ⟨i, _⟩ => hbmTy i
  | _, _ => ⟨S2x1000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1_0 : Ref sig .tc := ⟨.hbm, 6, rfl⟩
abbrev main_v2 : Ref sig .tc := ⟨.hbm, 7, rfl⟩
abbrev main_call1_c : Ref sig .tc := ⟨.hbm, 8, rfl⟩
abbrev main_call1_v0 : Ref sig .tc := ⟨.hbm, 9, rfl⟩
abbrev main_call1_v1 : Ref sig .tc := ⟨.hbm, 10, rfl⟩
abbrev main_call1_c_0 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_c_1 : Ref sig .tc := ⟨.hbm, 16, rfl⟩
abbrev main_call1_c_2 : Ref sig .tc := ⟨.hbm, 17, rfl⟩
abbrev main_call1_v6 : Ref sig .tc := ⟨.hbm, 18, rfl⟩
abbrev main_call1_v7 : Ref sig .tc := ⟨.hbm, 19, rfl⟩
abbrev main_call1_v8 : Ref sig .tc := ⟨.hbm, 20, rfl⟩
abbrev main_call1_v9 : Ref sig .tc := ⟨.hbm, 21, rfl⟩
abbrev main_call1_v10 : Ref sig .tc := ⟨.hbm, 22, rfl⟩
abbrev main_call1_v11 : Ref sig .tc := ⟨.hbm, 23, rfl⟩
abbrev main_call1_c_3 : Ref sig .tc := ⟨.hbm, 24, rfl⟩
abbrev main_call1_v12 : Ref sig .tc := ⟨.hbm, 25, rfl⟩
abbrev main_call1_v13 : Ref sig .tc := ⟨.hbm, 26, rfl⟩
abbrev main_call1_cst : Ref sig .tc := ⟨.hbm, 27, rfl⟩
abbrev main_call1_v14 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_0 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_1 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_2 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c : Ref sig .tc := ⟨.hbm, 84, rfl⟩
abbrev main_v54 : Ref sig .tc := ⟨.hbm, 85, rfl⟩
abbrev main_c_3 : Ref sig .tc := ⟨.hbm, 86, rfl⟩
abbrev main_c_4 : Ref sig .tc := ⟨.hbm, 87, rfl⟩
abbrev main_v55_0 : Ref sig .tc := ⟨.hbm, 88, rfl⟩
abbrev main_v55_1 : Ref sig .tc := ⟨.hbm, 89, rfl⟩
abbrev main_v55_2 : Ref sig .tc := ⟨.hbm, 90, rfl⟩
abbrev main_v55_3 : Ref sig .tc := ⟨.hbm, 91, rfl⟩
abbrev main_v55_4 : Ref sig .tc := ⟨.hbm, 92, rfl⟩
abbrev main_v55_5 : Ref sig .tc := ⟨.hbm, 93, rfl⟩
abbrev main_v55_6 : Ref sig .tc := ⟨.hbm, 94, rfl⟩
abbrev main_while0c_c_31 : Ref sig .tc := ⟨.hbm, 95, rfl⟩
abbrev main_while0c_v113 : Ref sig .tc := ⟨.hbm, 96, rfl⟩
abbrev main_while0b_c_31 : Ref sig .tc := ⟨.hbm, 97, rfl⟩
abbrev main_while0b_v113 : Ref sig .tc := ⟨.hbm, 98, rfl⟩
abbrev main_while0b_c_32 : Ref sig .tc := ⟨.hbm, 99, rfl⟩
abbrev main_while0b_v114 : Ref sig .tc := ⟨.hbm, 100, rfl⟩
abbrev main_while0b_v115 : Ref sig .tc := ⟨.hbm, 101, rfl⟩
abbrev main_while0b_c_33 : Ref sig .tc := ⟨.hbm, 102, rfl⟩
abbrev main_while0b_v116 : Ref sig .tc := ⟨.hbm, 103, rfl⟩
abbrev main_while0b_v117 : Ref sig .tc := ⟨.hbm, 104, rfl⟩
abbrev main_while0b_c_34 : Ref sig .tc := ⟨.hbm, 105, rfl⟩
abbrev main_while0b_c_35 : Ref sig .tc := ⟨.hbm, 106, rfl⟩
abbrev main_while0b_v118 : Ref sig .tc := ⟨.hbm, 107, rfl⟩
abbrev main_while0b_call2_c : Ref sig .tc := ⟨.hbm, 108, rfl⟩
abbrev main_while0b_call2_v0 : Ref sig .tc := ⟨.hbm, 109, rfl⟩
abbrev main_while0b_call2_v1 : Ref sig .tc := ⟨.hbm, 110, rfl⟩
abbrev main_while0b_call2_c_0 : Ref sig .tc := ⟨.hbm, 111, rfl⟩
abbrev main_while0b_call2_v2 : Ref sig .tc := ⟨.hbm, 112, rfl⟩
abbrev main_while0b_call2_v3 : Ref sig .tc := ⟨.hbm, 113, rfl⟩
abbrev main_while0b_call2_v4 : Ref sig .tc := ⟨.hbm, 114, rfl⟩
abbrev main_while0b_call2_c_1 : Ref sig .tc := ⟨.hbm, 115, rfl⟩
abbrev main_while0b_call2_c_2 : Ref sig .tc := ⟨.hbm, 116, rfl⟩
abbrev main_while0b_call2_v5 : Ref sig .tc := ⟨.hbm, 117, rfl⟩
abbrev main_while0b_call2_v6 : Ref sig .tc := ⟨.hbm, 118, rfl⟩
abbrev main_while0b_call2_v7 : Ref sig .tc := ⟨.hbm, 119, rfl⟩
abbrev main_while0b_call2_v8 : Ref sig .tc := ⟨.hbm, 120, rfl⟩
abbrev main_while0b_call2_v9 : Ref sig .tc := ⟨.hbm, 121, rfl⟩
abbrev main_while0b_call2_v10 : Ref sig .tc := ⟨.hbm, 122, rfl⟩
abbrev main_while0b_call2_c_3 : Ref sig .tc := ⟨.hbm, 123, rfl⟩
abbrev main_while0b_call2_v11 : Ref sig .tc := ⟨.hbm, 124, rfl⟩
abbrev main_while0b_call2_v12 : Ref sig .tc := ⟨.hbm, 125, rfl⟩
abbrev main_while0b_call2_v13 : Ref sig .tc := ⟨.hbm, 126, rfl⟩
abbrev main_while0b_call2_cst : Ref sig .tc := ⟨.hbm, 127, rfl⟩
abbrev main_while0b_call2_v14 : Ref sig .tc := ⟨.hbm, 128, rfl⟩
abbrev main_while0b_v119 : Ref sig .tc := ⟨.hbm, 129, rfl⟩
abbrev main_while0b_call3_c : Ref sig .tc := ⟨.hbm, 130, rfl⟩
abbrev main_while0b_call3_v0 : Ref sig .tc := ⟨.hbm, 131, rfl⟩
abbrev main_while0b_call3_v1 : Ref sig .tc := ⟨.hbm, 132, rfl⟩
abbrev main_while0b_call3_c_0 : Ref sig .tc := ⟨.hbm, 133, rfl⟩
abbrev main_while0b_call3_v2 : Ref sig .tc := ⟨.hbm, 134, rfl⟩
abbrev main_while0b_call3_v3 : Ref sig .tc := ⟨.hbm, 135, rfl⟩
abbrev main_while0b_call3_v4 : Ref sig .tc := ⟨.hbm, 136, rfl⟩
abbrev main_while0b_call3_v5 : Ref sig .tc := ⟨.hbm, 137, rfl⟩
abbrev main_while0b_call3_c_1 : Ref sig .tc := ⟨.hbm, 138, rfl⟩
abbrev main_while0b_call3_c_2 : Ref sig .tc := ⟨.hbm, 139, rfl⟩
abbrev main_while0b_call3_v6 : Ref sig .tc := ⟨.hbm, 140, rfl⟩
abbrev main_while0b_call3_v7 : Ref sig .tc := ⟨.hbm, 141, rfl⟩
abbrev main_while0b_call3_v8 : Ref sig .tc := ⟨.hbm, 142, rfl⟩
abbrev main_while0b_call3_v9 : Ref sig .tc := ⟨.hbm, 143, rfl⟩
abbrev main_while0b_call3_v10 : Ref sig .tc := ⟨.hbm, 144, rfl⟩
abbrev main_while0b_call3_v11 : Ref sig .tc := ⟨.hbm, 145, rfl⟩
abbrev main_while0b_call3_c_3 : Ref sig .tc := ⟨.hbm, 146, rfl⟩
abbrev main_while0b_call3_v12 : Ref sig .tc := ⟨.hbm, 147, rfl⟩
abbrev main_while0b_call3_v13 : Ref sig .tc := ⟨.hbm, 148, rfl⟩
abbrev main_while0b_call3_cst : Ref sig .tc := ⟨.hbm, 149, rfl⟩
abbrev main_while0b_call3_v14 : Ref sig .tc := ⟨.hbm, 150, rfl⟩
abbrev main_while0b_v120 : Ref sig .tc := ⟨.hbm, 151, rfl⟩
abbrev main_while0b_cst_36 : Ref sig .tc := ⟨.hbm, 152, rfl⟩
abbrev main_while0b_v121 : Ref sig .tc := ⟨.hbm, 153, rfl⟩
abbrev main_while0b_v122 : Ref sig .tc := ⟨.hbm, 154, rfl⟩
abbrev main_while0b_v123 : Ref sig .tc := ⟨.hbm, 155, rfl⟩
abbrev main_while0b_v124 : Ref sig .tc := ⟨.hbm, 156, rfl⟩
abbrev main_while0b_v125 : Ref sig .tc := ⟨.hbm, 157, rfl⟩
abbrev main_while0b_v126 : Ref sig .tc := ⟨.hbm, 158, rfl⟩
abbrev main_while0b_v127 : Ref sig .tc := ⟨.hbm, 159, rfl⟩
abbrev main_while0b_v128 : Ref sig .tc := ⟨.hbm, 160, rfl⟩
abbrev main_while0b_c_37 : Ref sig .tc := ⟨.hbm, 161, rfl⟩
abbrev main_while0b_v129 : Ref sig .tc := ⟨.hbm, 162, rfl⟩
abbrev main_while0b_v130 : Ref sig .tc := ⟨.hbm, 163, rfl⟩
abbrev main_while0b_c_38 : Ref sig .tc := ⟨.hbm, 164, rfl⟩
abbrev main_while0b_v131 : Ref sig .tc := ⟨.hbm, 165, rfl⟩
abbrev main_while0b_v132 : Ref sig .tc := ⟨.hbm, 166, rfl⟩
abbrev main_while0b_c_39 : Ref sig .tc := ⟨.hbm, 167, rfl⟩
abbrev main_while0b_c_40 : Ref sig .tc := ⟨.hbm, 168, rfl⟩
abbrev main_while0b_v133 : Ref sig .tc := ⟨.hbm, 169, rfl⟩
abbrev main_while0b_v134 : Ref sig .tc := ⟨.hbm, 170, rfl⟩
abbrev main_while0b_v135 : Ref sig .tc := ⟨.hbm, 171, rfl⟩
abbrev main_while0b_c_41 : Ref sig .tc := ⟨.hbm, 172, rfl⟩
abbrev main_while0b_v136 : Ref sig .tc := ⟨.hbm, 173, rfl⟩
abbrev main_while0b_v137 : Ref sig .tc := ⟨.hbm, 174, rfl⟩
abbrev main_while0b_c_42 : Ref sig .tc := ⟨.hbm, 175, rfl⟩
abbrev main_while0b_v138 : Ref sig .tc := ⟨.hbm, 176, rfl⟩
abbrev main_while0b_v139 : Ref sig .tc := ⟨.hbm, 177, rfl⟩
abbrev main_while0b_c_43 : Ref sig .tc := ⟨.hbm, 178, rfl⟩
abbrev main_while0b_c_44 : Ref sig .tc := ⟨.hbm, 179, rfl⟩
abbrev main_while0b_v140 : Ref sig .tc := ⟨.hbm, 180, rfl⟩
abbrev main_while0b_v141 : Ref sig .tc := ⟨.hbm, 181, rfl⟩
abbrev main_while0b_v142 : Ref sig .tc := ⟨.hbm, 182, rfl⟩
abbrev main_while0b_v143 : Ref sig .tc := ⟨.hbm, 183, rfl⟩
abbrev main_while0b_v144 : Ref sig .tc := ⟨.hbm, 184, rfl⟩
abbrev main_while0b_c_45 : Ref sig .tc := ⟨.hbm, 185, rfl⟩
abbrev main_while0b_v145 : Ref sig .tc := ⟨.hbm, 186, rfl⟩
abbrev main_cst_5 : Ref sig .tc := ⟨.hbm, 187, rfl⟩
abbrev main_v56 : Ref sig .tc := ⟨.hbm, 188, rfl⟩
abbrev main_v57 : Ref sig .tc := ⟨.hbm, 189, rfl⟩
abbrev main_v58 : Ref sig .tc := ⟨.hbm, 190, rfl⟩
abbrev main_v59 : Ref sig .tc := ⟨.hbm, 191, rfl⟩
abbrev main_call4_call0_c : Ref sig .tc := ⟨.hbm, 192, rfl⟩
abbrev main_call4_call0_v0 : Ref sig .tc := ⟨.hbm, 193, rfl⟩
abbrev main_v60 : Ref sig .tc := ⟨.hbm, 194, rfl⟩
abbrev main_c_6 : Ref sig .tc := ⟨.hbm, 195, rfl⟩
abbrev main_v61 : Ref sig .tc := ⟨.hbm, 196, rfl⟩
abbrev main_v62 : Ref sig .tc := ⟨.hbm, 197, rfl⟩
abbrev main_c_7 : Ref sig .tc := ⟨.hbm, 198, rfl⟩
abbrev main_v63 : Ref sig .tc := ⟨.hbm, 199, rfl⟩
abbrev main_v64 : Ref sig .tc := ⟨.hbm, 200, rfl⟩
abbrev main_v65 : Ref sig .tc := ⟨.hbm, 201, rfl⟩
abbrev main_cst_8 : Ref sig .tc := ⟨.hbm, 202, rfl⟩
abbrev main_call5_v0 : Ref sig .tc := ⟨.hbm, 203, rfl⟩
abbrev main_call5_v1 : Ref sig .tc := ⟨.hbm, 204, rfl⟩
abbrev main_v66 : Ref sig .tc := ⟨.hbm, 205, rfl⟩
abbrev main_v67 : Ref sig .tc := ⟨.hbm, 206, rfl⟩
abbrev main_v68 : Ref sig .tc := ⟨.hbm, 207, rfl⟩
abbrev main_v69 : Ref sig .tc := ⟨.hbm, 208, rfl⟩
abbrev main_v70 : Ref sig .tc := ⟨.hbm, 209, rfl⟩
abbrev main_cst_9 : Ref sig .tc := ⟨.hbm, 210, rfl⟩
abbrev main_v71 : Ref sig .tc := ⟨.hbm, 211, rfl⟩
abbrev main_c_10 : Ref sig .tc := ⟨.hbm, 212, rfl⟩
abbrev main_v72 : Ref sig .tc := ⟨.hbm, 213, rfl⟩
abbrev main_v73 : Ref sig .tc := ⟨.hbm, 214, rfl⟩
abbrev main_c_11 : Ref sig .tc := ⟨.hbm, 215, rfl⟩
abbrev main_v74 : Ref sig .tc := ⟨.hbm, 216, rfl⟩
abbrev main_v75 : Ref sig .tc := ⟨.hbm, 217, rfl⟩
abbrev main_v76 : Ref sig .tc := ⟨.hbm, 218, rfl⟩
abbrev main_c_12 : Ref sig .tc := ⟨.hbm, 219, rfl⟩
abbrev main_v77 : Ref sig .tc := ⟨.hbm, 220, rfl⟩
abbrev main_v78 : Ref sig .tc := ⟨.hbm, 221, rfl⟩
abbrev main_c_13 : Ref sig .tc := ⟨.hbm, 222, rfl⟩
abbrev main_v79 : Ref sig .tc := ⟨.hbm, 223, rfl⟩
abbrev main_v80 : Ref sig .tc := ⟨.hbm, 224, rfl⟩
abbrev main_v81 : Ref sig .tc := ⟨.hbm, 225, rfl⟩
abbrev main_c_14 : Ref sig .tc := ⟨.hbm, 226, rfl⟩
abbrev main_v82 : Ref sig .tc := ⟨.hbm, 227, rfl⟩
abbrev main_v83 : Ref sig .tc := ⟨.hbm, 228, rfl⟩
abbrev main_c_15 : Ref sig .tc := ⟨.hbm, 229, rfl⟩
abbrev main_v84 : Ref sig .tc := ⟨.hbm, 230, rfl⟩
abbrev main_v85 : Ref sig .tc := ⟨.hbm, 231, rfl⟩
abbrev main_v86 : Ref sig .tc := ⟨.hbm, 232, rfl⟩
abbrev main_v87 : Ref sig .tc := ⟨.hbm, 233, rfl⟩
abbrev main_v88 : Ref sig .tc := ⟨.hbm, 234, rfl⟩
abbrev main_v89 : Ref sig .tc := ⟨.hbm, 235, rfl⟩
abbrev main_v90 : Ref sig .tc := ⟨.hbm, 236, rfl⟩
abbrev main_v91 : Ref sig .tc := ⟨.hbm, 237, rfl⟩
abbrev main_v92 : Ref sig .tc := ⟨.hbm, 238, rfl⟩
abbrev main_v93 : Ref sig .tc := ⟨.hbm, 239, rfl⟩
abbrev main_v94 : Ref sig .tc := ⟨.hbm, 240, rfl⟩
abbrev main_values : Ref sig .tc := ⟨.hbm, 241, rfl⟩
abbrev main_indices : Ref sig .tc := ⟨.hbm, 242, rfl⟩
abbrev main_c_16 : Ref sig .tc := ⟨.hbm, 243, rfl⟩
abbrev main_v95 : Ref sig .tc := ⟨.hbm, 244, rfl⟩
abbrev main_v96 : Ref sig .tc := ⟨.hbm, 245, rfl⟩
abbrev main_c_17 : Ref sig .tc := ⟨.hbm, 246, rfl⟩
abbrev main_v97 : Ref sig .tc := ⟨.hbm, 247, rfl⟩
abbrev main_v98 : Ref sig .tc := ⟨.hbm, 248, rfl⟩
abbrev main_cst_18 : Ref sig .tc := ⟨.hbm, 249, rfl⟩
abbrev main_v99 : Ref sig .tc := ⟨.hbm, 250, rfl⟩
abbrev main_v100 : Ref sig .tc := ⟨.hbm, 251, rfl⟩
abbrev main_v101 : Ref sig .tc := ⟨.hbm, 252, rfl⟩
abbrev main_v102 : Ref sig .tc := ⟨.hbm, 253, rfl⟩
abbrev main_call6_c : Ref sig .tc := ⟨.hbm, 254, rfl⟩
abbrev main_call6_v0 : Ref sig .tc := ⟨.hbm, 255, rfl⟩
abbrev main_call6_v1 : Ref sig .tc := ⟨.hbm, 256, rfl⟩
abbrev main_call6_c_0 : Ref sig .tc := ⟨.hbm, 257, rfl⟩
abbrev main_call6_v2 : Ref sig .tc := ⟨.hbm, 258, rfl⟩
abbrev main_call6_v3 : Ref sig .tc := ⟨.hbm, 259, rfl⟩
abbrev main_call6_v4 : Ref sig .tc := ⟨.hbm, 260, rfl⟩
abbrev main_call6_c_1 : Ref sig .tc := ⟨.hbm, 261, rfl⟩
abbrev main_call6_c_2 : Ref sig .tc := ⟨.hbm, 262, rfl⟩
abbrev main_call6_v5 : Ref sig .tc := ⟨.hbm, 263, rfl⟩
abbrev main_call6_v6 : Ref sig .tc := ⟨.hbm, 264, rfl⟩
abbrev main_call6_v7 : Ref sig .tc := ⟨.hbm, 265, rfl⟩
abbrev main_call6_v8 : Ref sig .tc := ⟨.hbm, 266, rfl⟩
abbrev main_call6_v9 : Ref sig .tc := ⟨.hbm, 267, rfl⟩
abbrev main_call6_v10 : Ref sig .tc := ⟨.hbm, 268, rfl⟩
abbrev main_call6_c_3 : Ref sig .tc := ⟨.hbm, 269, rfl⟩
abbrev main_call6_v11 : Ref sig .tc := ⟨.hbm, 270, rfl⟩
abbrev main_call6_v12 : Ref sig .tc := ⟨.hbm, 271, rfl⟩
abbrev main_call6_v13 : Ref sig .tc := ⟨.hbm, 272, rfl⟩
abbrev main_call6_cst : Ref sig .tc := ⟨.hbm, 273, rfl⟩
abbrev main_call6_v14 : Ref sig .tc := ⟨.hbm, 274, rfl⟩
abbrev main_v103 : Ref sig .tc := ⟨.hbm, 275, rfl⟩
abbrev main_cst_19 : Ref sig .tc := ⟨.hbm, 276, rfl⟩
abbrev main_call7_v0 : Ref sig .tc := ⟨.hbm, 277, rfl⟩
abbrev main_call7_v1 : Ref sig .tc := ⟨.hbm, 278, rfl⟩
abbrev main_call7_v2 : Ref sig .tc := ⟨.hbm, 279, rfl⟩
abbrev main_v104 : Ref sig .tc := ⟨.hbm, 280, rfl⟩
abbrev main_cst_20 : Ref sig .tc := ⟨.hbm, 281, rfl⟩
abbrev main_call8_v0 : Ref sig .tc := ⟨.hbm, 282, rfl⟩
abbrev main_call8_v1 : Ref sig .tc := ⟨.hbm, 283, rfl⟩
abbrev main_v105 : Ref sig .tc := ⟨.hbm, 284, rfl⟩
abbrev main_c_21 : Ref sig .tc := ⟨.hbm, 285, rfl⟩
abbrev main_call9_v0 : Ref sig .tc := ⟨.hbm, 286, rfl⟩
abbrev main_call9_v1 : Ref sig .tc := ⟨.hbm, 287, rfl⟩
abbrev main_v106 : Ref sig .tc := ⟨.hbm, 288, rfl⟩
abbrev main_v107 : Ref sig .tc := ⟨.hbm, 289, rfl⟩
abbrev main_call10_c : Ref sig .tc := ⟨.hbm, 290, rfl⟩
abbrev main_call10_v0 : Ref sig .tc := ⟨.hbm, 291, rfl⟩
abbrev main_call10_v1 : Ref sig .tc := ⟨.hbm, 292, rfl⟩
abbrev main_call10_c_0 : Ref sig .tc := ⟨.hbm, 293, rfl⟩
abbrev main_call10_v2 : Ref sig .tc := ⟨.hbm, 294, rfl⟩
abbrev main_call10_v3 : Ref sig .tc := ⟨.hbm, 295, rfl⟩
abbrev main_call10_v4 : Ref sig .tc := ⟨.hbm, 296, rfl⟩
abbrev main_call10_c_1 : Ref sig .tc := ⟨.hbm, 297, rfl⟩
abbrev main_call10_c_2 : Ref sig .tc := ⟨.hbm, 298, rfl⟩
abbrev main_call10_v5 : Ref sig .tc := ⟨.hbm, 299, rfl⟩
abbrev main_call10_v6 : Ref sig .tc := ⟨.hbm, 300, rfl⟩
abbrev main_call10_v7 : Ref sig .tc := ⟨.hbm, 301, rfl⟩
abbrev main_call10_v8 : Ref sig .tc := ⟨.hbm, 302, rfl⟩
abbrev main_call10_v9 : Ref sig .tc := ⟨.hbm, 303, rfl⟩
abbrev main_call10_v10 : Ref sig .tc := ⟨.hbm, 304, rfl⟩
abbrev main_call10_c_3 : Ref sig .tc := ⟨.hbm, 305, rfl⟩
abbrev main_call10_v11 : Ref sig .tc := ⟨.hbm, 306, rfl⟩
abbrev main_call10_v12 : Ref sig .tc := ⟨.hbm, 307, rfl⟩
abbrev main_call10_v13 : Ref sig .tc := ⟨.hbm, 308, rfl⟩
abbrev main_call10_cst : Ref sig .tc := ⟨.hbm, 309, rfl⟩
abbrev main_call10_v14 : Ref sig .tc := ⟨.hbm, 310, rfl⟩
abbrev main_v108 : Ref sig .tc := ⟨.hbm, 311, rfl⟩
abbrev main_call11_v0 : Ref sig .tc := ⟨.hbm, 312, rfl⟩
abbrev main_call11_cst : Ref sig .tc := ⟨.hbm, 313, rfl⟩
abbrev main_call11_c : Ref sig .tc := ⟨.hbm, 314, rfl⟩
abbrev main_call11_v1_0 : Ref sig .tc := ⟨.hbm, 315, rfl⟩
abbrev main_v109 : Ref sig .tc := ⟨.hbm, 316, rfl⟩
abbrev main_c_22 : Ref sig .tc := ⟨.hbm, 317, rfl⟩
abbrev main_call12_v0 : Ref sig .tc := ⟨.hbm, 318, rfl⟩
abbrev main_call12_v1 : Ref sig .tc := ⟨.hbm, 319, rfl⟩
abbrev main_v110 : Ref sig .tc := ⟨.hbm, 320, rfl⟩
abbrev main_cst_23 : Ref sig .tc := ⟨.hbm, 321, rfl⟩
abbrev main_v111 : Ref sig .tc := ⟨.hbm, 322, rfl⟩
abbrev main_cst_24 : Ref sig .tc := ⟨.hbm, 323, rfl⟩
abbrev main_call13_v0 : Ref sig .tc := ⟨.hbm, 324, rfl⟩
abbrev main_call13_v1 : Ref sig .tc := ⟨.hbm, 325, rfl⟩
abbrev main_v112 : Ref sig .tc := ⟨.hbm, 326, rfl⟩

abbrev nD : Nat := 1
abbrev τ : Topo := Topo.v7x

variable {F : FTy → Type} [FloatOps F]

abbrev main_while0_count : Scf.Loop 32 := ⟨0#32, 1000#32, 1#32⟩
-- ==== Proof.KernelFrame.Runs.lean ====
/- Launch set-up for the frame of `Kernel`, part 1: the generated text, with a longer limit for the two
   declarations that compare the long lists of written buffers. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`, `hostOps0_2`, `hostOps0_3`, `hostOps0_4`, `hostOps0_5`, `hostOps0_6`, `hostOps0_7`, `hostOps0_8`, `hostOps0_9`, `hostOps0_10`, `hostOps0_11`, `hostOps0_12`, `hostOps0_13`, `hostOps0_14`, `hostOps0_15`, `hostOps0_16`, `hostOps0_17`, `hostOps0_18`, `hostOps0_19`, `hostOps0_20`, `hostOps0_21`). -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v38, main_v39, main_cst_4, main_v40, main_v41, main_v42]
theorem hostOps1_writes : (hostOps1 : List (HloOp τ sig (Elt F))).Forall fun op => op.writes ⊆ (hostOps1_W.map (Proc.devRef (τ := τ) .tc)).toFinset :=
  StableHlo.forall_writes_sub_of_map rfl
theorem hostOps1_1_fresh : (hostOps1_1 : List (HloOp τ sig (Elt F))).Forall fun op => op.fresh = ∅ := by
  simp only [List.Forall]; repeat' constructor
/-- The reference each operation of `hostOps1_1` writes, in order. -/
abbrev hostOps1_1_W : List (Ref sig .tc) := [main_call11_call0_c, main_call11_call0_v0, main_v43]
theorem hostOps1_1_writes : (hostOps1_1 : List (HloOp τ sig (Elt F))).Forall fun op => op.writes ⊆ (hostOps1_1_W.map (Proc.devRef (τ := τ) .tc)).toFinset :=
  StableHlo.forall_writes_sub_of_map rfl
theorem hostOps1_2_fresh : (hostOps1_2 : List (HloOp τ sig (Elt F))).Forall fun op => op.fresh = ∅ := by
  simp only [List.Forall]; repeat' constructor
/-- The reference each operation of `hostOps1_2` writes, in order. -/
abbrev hostOps1_2_W : List (Ref sig .tc) := [main_c_5, main_v44, main_v45, main_c_6, main_v46, main_v47, main_v48, main_cst_7]
theorem hostOps1_2_writes : (hostOps1_2 : List (HloOp τ sig (Elt F))).Forall fun op => op.writes ⊆ (hostOps1_2_W.map (Proc.devRef (τ := τ) .tc)).toFinset :=
  StableHlo.forall_writes_sub_of_map rfl
theorem hostOps1_3_fresh : (hostOps1_3 : List (HloOp τ sig (Elt F))).Forall fun op => op.fresh = ∅ := by
  simp only [List.Forall]; repeat' constructor
/-- The reference each operation of `hostOps1_3` writes, in order. -/
abbrev hostOps1_3_W : List (Ref sig .tc) := [main_call12_v0, main_v49]
theorem hostOps1_3_writes : (hostOps1_3 : List (HloOp τ sig (Elt F))).Forall fun op => op.writes ⊆ (hostOps1_3_W.map (Proc.devRef (τ := τ) .tc)).toFinset :=
  StableHlo.forall_writes_sub_of_map rfl
theorem hostOps1_4_fresh : (hostOps1_4 : List (HloOp τ sig (Elt F))).Forall fun op => op.fresh = ∅ := by
  simp only [List.Forall]; repeat' constructor
/-- The reference each operation of `hostOps1_4` writes, in order. -/
abbrev hostOps1_4_W : List (Ref sig .tc) := [main_cst_8]
theorem hostOps1_4_writes : (hostOps1_4 : List (HloOp τ sig (Elt F))).Forall fun op => op.writes ⊆ (hostOps1_4_W.map (Proc.devRef (τ := τ) .tc)).toFinset :=
  StableHlo.forall_writes_sub_of_map rfl
theorem hostOps1_5_fresh : (hostOps1_5 : List (HloOp τ sig (Elt F))).Forall fun op => op.fresh = ∅ := by
  simp only [List.Forall]; repeat' constructor
/-- The reference each operation of `hostOps1_5` writes, in order. -/
abbrev hostOps1_5_W : List (Ref sig .tc) := [main_call13_v0, main_call13_v1, main_v50]
theorem hostOps1_5_writes : (hostOps1_5 : List (HloOp τ sig (Elt F))).Forall fun op => op.writes ⊆ (hostOps1_5_W.map (Proc.devRef (τ := τ) .tc)).toFinset :=
  StableHlo.forall_writes_sub_of_map rfl
theorem hostOps1_6_fresh : (hostOps1_6 : List (HloOp τ sig (Elt F))).Forall fun op => op.fresh = ∅ := by
  simp only [List.Forall]; repeat' constructor
/-- The reference each operation of `hostOps1_6` writes, in order. -/
abbrev hostOps1_6_W : List (Ref sig .tc) := [main_v51, main_values, main_indices, main_c_9]
theorem hostOps1_6_writes : (hostOps1_6 : List (HloOp τ sig (Elt F))).Forall fun op => op.writes ⊆ (hostOps1_6_W.map (Proc.devRef (τ := τ) .tc)).toFinset :=
  StableHlo.forall_writes_sub_of_map rfl
theorem hostOps1_7_fresh : (hostOps1_7 : List (HloOp τ sig (Elt F))).Forall fun op => op.fresh = ∅ := by
  simp only [List.Forall]; repeat' constructor
/-- The reference each operation of `hostOps1_7` writes, in order. -/
abbrev hostOps1_7_W : List (Ref sig .tc) := [main_call14_v0, main_call14_v1, main_call14_v2, main_call14_v3, main_call14_v4, main_call14_v5, main_call14_v6, main_call14_v7, main_call14_v8, main_call14_c, main_call14_v9, main_call14_v10, main_call14_v11, main_call14_c_0, main_call14_v12, main_call14_v13, main_v52]
theorem hostOps1_7_writes : (hostOps1_7 : List (HloOp τ sig (Elt F))).Forall fun op => op.writes ⊆ (hostOps1_7_W.map (Proc.devRef (τ := τ) .tc)).toFinset :=
  StableHlo.forall_writes_sub_of_map rfl
theorem hostOps1_8_fresh : (hostOps1_8 : List (HloOp τ sig (Elt F))).Forall fun op => op.fresh = ∅ := by
  simp only [List.Forall]; repeat' constructor
/-- The reference each operation of `hostOps1_8` writes, in order. -/
abbrev hostOps1_8_W : List (Ref sig .tc) := [main_c_10]
theorem hostOps1_8_writes : (hostOps1_8 : List (HloOp τ sig (Elt F))).Forall fun op => op.writes ⊆ (hostOps1_8_W.map (Proc.devRef (τ := τ) .tc)).toFinset :=
  StableHlo.forall_writes_sub_of_map rfl
theorem hostOps1_9_fresh : (hostOps1_9 : List (HloOp τ sig (Elt F))).Forall fun op => op.fresh = ∅ := by
  simp only [List.Forall]; repeat' constructor
/-- The reference each operation of `hostOps1_9` writes, in order. -/
abbrev hostOps1_9_W : List (Ref sig .tc) := [main_call15_v0, main_v53]
theorem hostOps1_9_writes : (hostOps1_9 : List (HloOp τ sig (Elt F))).Forall fun op => op.writes ⊆ (hostOps1_9_W.map (Proc.devRef (τ := τ) .tc)).toFinset :=
  StableHlo.forall_writes_sub_of_map rfl
theorem hostOps1_10_fresh : (hostOps1_10 : List (HloOp τ sig (Elt F))).Forall fun op => op.fresh = ∅ := by
  simp only [List.Forall]; repeat' constructor
/-- The reference each operation of `hostOps1_10` writes, in order. -/
abbrev hostOps1_10_W : List (Ref sig .tc) := [main_v54]
theorem hostOps1_10_writes : (hostOps1_10 : List (HloOp τ sig (Elt F))).Forall fun op => op.writes ⊆ (hostOps1_10_W.map (Proc.devRef (τ := τ) .tc)).toFinset :=
  StableHlo.forall_writes_sub_of_map rfl
theorem hostOps1_11_fresh : (hostOps1_11 : List (HloOp τ sig (Elt F))).Forall fun op => op.fresh = ∅ := by
  simp only [List.Forall]; repeat' constructor
/-- The reference each operation of `hostOps1_11` writes, in order. -/
abbrev hostOps1_11_W : List (Ref sig .tc) := [main_call16_c, main_call16_v0, main_call16_v1, main_call16_c_0, main_call16_v2, main_call16_v3, main_call16_v4, main_call16_v5, main_call16_c_1, main_call16_c_2, main_call16_v6, main_call16_v7, main_call16_v8, main_call16_v9, main_call16_v10, main_call16_v11, main_call16_c_3, main_call16_v12, main_call16_v13, main_call16_c_4, main_call16_v14, main_v55]
theorem hostOps1_11_writes : (hostOps1_11 : List (HloOp τ sig (Elt F))).Forall fun op => op.writes ⊆ (hostOps1_11_W.map (Proc.devRef (τ := τ) .tc)).toFinset :=
  StableHlo.forall_writes_sub_of_map rfl
theorem hostOps1_12_fresh : (hostOps1_12 : List (HloOp τ sig (Elt F))).Forall fun op => op.fresh = ∅ := by
  simp only [List.Forall]; repeat' constructor
/-- The reference each operation of `hostOps1_12` writes, in order. -/
abbrev hostOps1_12_W : List (Ref sig .tc) := [main_cst_11, main_v56, main_v57, main_v58, main_v59]
theorem hostOps1_12_writes : (hostOps1_12 : List (HloOp τ sig (Elt F))).Forall fun op => op.writes ⊆ (hostOps1_12_W.map (Proc.devRef (τ := τ) .tc)).toFinset :=
  StableHlo.forall_writes_sub_of_map rfl
theorem hostOps1_13_fresh : (hostOps1_13 : List (HloOp τ sig (Elt F))).Forall fun op => op.fresh = ∅ := by
  simp only [List.Forall]; repeat' constructor
/-- The reference each operation of `hostOps1_13` writes, in order. -/
abbrev hostOps1_13_W : List (Ref sig .tc) := [main_call17_c, main_call17_v0, main_call17_v1, main_call17_c_0, main_call17_v2, main_call17_v3, main_call17_v4, main_call17_c_1, main_call17_c_2, main_call17_v5, main_call17_v6, main_call17_v7, main_call17_v8, main_call17_v9, main_call17_v10, main_call17_c_3, main_call17_v11, main_call17_v12, main_call17_v13, main_call17_cst, main_call17_v14, main_v60]
theorem hostOps1_13_writes : (hostOps1_13 : List (HloOp τ sig (Elt F))).Forall fun op => op.writes ⊆ (hostOps1_13_W.map (Proc.devRef (τ := τ) .tc)).toFinset :=
  StableHlo.forall_writes_sub_of_map rfl
theorem hostOps1_14_fresh : (hostOps1_14 : List (HloOp τ sig (Elt F))).Forall fun op => op.fresh = ∅ := by
  simp only [List.Forall]; repeat' constructor
/-- The reference each operation of `hostOps1_14` writes, in order. -/
abbrev hostOps1_14_W : List (Ref sig .tc) := [main_cst_12]
theorem hostOps1_14_writes : (hostOps1_14 : List (HloOp τ sig (Elt F))).Forall fun op => op.writes ⊆ (hostOps1_14_W.map (Proc.devRef (τ := τ) .tc)).toFinset :=
  StableHlo.forall_writes_sub_of_map rfl
theorem hostOps1_15_fresh : (hostOps1_15 : List (HloOp τ sig (Elt F))).Forall fun op => op.fresh = ∅ := by
  simp only [List.Forall]; repeat' constructor
/-- The reference each operation of `hostOps1_15` writes, in order. -/
abbrev hostOps1_15_W : List (Ref sig .tc) := [main_call18_v0, main_call18_v1, main_call18_v2, main_v61]
theorem hostOps1_15_writes : (hostOps1_15 : List (HloOp τ sig (Elt F))).Forall fun op => op.writes ⊆ (hostOps1_15_W.map (Proc.devRef (τ := τ) .tc)).toFinset :=
  StableHlo.forall_writes_sub_of_map rfl
theorem hostOps1_16_fresh : (hostOps1_16 : List (HloOp τ sig (Elt F))).Forall fun op => op.fresh = ∅ := by
  simp only [List.Forall]; repeat' constructor
/-- The reference each operation of `hostOps1_16` writes, in order. -/
abbrev hostOps1_16_W : List (Ref sig .tc) := [main_cst_13]
theorem hostOps1_16_writes : (hostOps1_16 : List (HloOp τ sig (Elt F))).Forall fun op => op.writes ⊆ (hostOps1_16_W.map (Proc.devRef (τ := τ) .tc)).toFinset :=
  StableHlo.forall_writes_sub_of_map rfl
theorem hostOps1_17_fresh : (hostOps1_17 : List (HloOp τ sig (Elt F))).Forall fun op => op.fresh = ∅ := by
  simp only [List.Forall]; repeat' constructor
/-- The reference each operation of `hostOps1_17` writes, in order. -/
abbrev hostOps1_17_W : List (Ref sig .tc) := [main_call19_v0, main_call19_v1, main_v62]
theorem hostOps1_17_writes : (hostOps1_17 : List (HloOp τ sig (Elt F))).Forall fun op => op.writes ⊆ (hostOps1_17_W.map (Proc.devRef (τ := τ) .tc)).toFinset :=
  StableHlo.forall_writes_sub_of_map rfl
theorem hostOps1_18_fresh : (hostOps1_18 : List (HloOp τ sig (Elt F))).Forall fun op => op.fresh = ∅ := by
  simp only [List.Forall]; repeat' constructor
/-- The reference each operation of `hostOps1_18` writes, in order. -/
abbrev hostOps1_18_W : List (Ref sig .tc) := [main_c_14]
theorem hostOps1_18_writes : (hostOps1_18 : List (HloOp τ sig (Elt F))).Forall fun op => op.writes ⊆ (hostOps1_18_W.map (Proc.devRef (τ := τ) .tc)).toFinset :=
  StableHlo.forall_writes_sub_of_map rfl
theorem hostOps1_19_fresh : (hostOps1_19 : List (HloOp τ sig (Elt F))).Forall fun op => op.fresh = ∅ := by
  simp only [List.Forall]; repeat' constructor
/-- The reference each operation of `hostOps1_19` writes, in order. -/
abbrev hostOps1_19_W : List (Ref sig .tc) := [main_call20_v0, main_call20_v1, main_v63]
theorem hostOps1_19_writes : (hostOps1_19 : List (HloOp τ sig (Elt F))).Forall fun op => op.writes ⊆ (hostOps1_19_W.map (Proc.devRef (τ := τ) .tc)).toFinset :=
  StableHlo.forall_writes_sub_of_map rfl
theorem hostOps1_20_fresh : (hostOps1_20 : List (HloOp τ sig (Elt F))).Forall fun op => op.fresh = ∅ := by
  simp only [List.Forall]; repeat' constructor
/-- The reference each operation of `hostOps1_20` writes, in order. -/
abbrev hostOps1_20_W : List (Ref sig .tc) := [main_v64]
theorem hostOps1_20_writes : (hostOps1_20 : List (HloOp τ sig (Elt F))).Forall fun op => op.writes ⊆ (hostOps1_20_W.map (Proc.devRef (τ := τ) .tc)).toFinset :=
  StableHlo.forall_writes_sub_of_map rfl
theorem hostOps1_21_fresh : (hostOps1_21 : List (HloOp τ sig (Elt F))).Forall fun op => op.fresh = ∅ := by
  simp only [List.Forall]; repeat' constructor
/-- The reference each operation of `hostOps1_21` writes, in order. -/
abbrev hostOps1_21_W : List (Ref sig .tc) := [main_call21_c, main_call21_v0, main_call21_v1, main_call21_c_0, main_call21_v2, main_call21_v3, main_call21_v4, main_call21_c_1, main_call21_c_2, main_call21_v5, main_call21_v6, main_call21_v7, main_call21_v8, main_call21_v9, main_call21_v10, main_call21_c_3, main_call21_v11, main_call21_v12, main_call21_v13, main_call21_cst, main_call21_v14, main_v65]
theorem hostOps1_21_writes : (hostOps1_21 : List (HloOp τ sig (Elt F))).Forall fun op => op.writes ⊆ (hostOps1_21_W.map (Proc.devRef (τ := τ) .tc)).toFinset :=
  StableHlo.forall_writes_sub_of_map rfl
theorem hostOps1_22_fresh : (hostOps1_22 : List (HloOp τ sig (Elt F))).Forall fun op => op.fresh = ∅ := by
  simp only [List.Forall]; repeat' constructor
/-- The reference each operation of `hostOps1_22` writes, in order. -/
abbrev hostOps1_22_W : List (Ref sig .tc) := [main_call22_v0, main_call22_cst, main_call22_c, main_call22_v1_0, main_v66]
theorem hostOps1_22_writes : (hostOps1_22 : List (HloOp τ sig (Elt F))).Forall fun op => op.writes ⊆ (hostOps1_22_W.map (Proc.devRef (τ := τ) .tc)).toFinset :=
  StableHlo.forall_writes_sub_of_map rfl
theorem hostOps1_23_fresh : (hostOps1_23 : List (HloOp τ sig (Elt F))).Forall fun op => op.fresh = ∅ := by
  simp only [List.Forall]; repeat' constructor
/-- The reference each operation of `hostOps1_23` writes, in order. -/
abbrev hostOps1_23_W : List (Ref sig .tc) := [main_c_15]
theorem hostOps1_23_writes : (hostOps1_23 : List (HloOp τ sig (Elt F))).Forall fun op => op.writes ⊆ (hostOps1_23_W.map (Proc.devRef (τ := τ) .tc)).toFinset :=
  StableHlo.forall_writes_sub_of_map rfl
theorem hostOps1_24_fresh : (hostOps1_24 : List (HloOp τ sig (Elt F))).Forall fun op => op.fresh = ∅ := by
  simp only [List.Forall]; repeat' constructor
/-- The reference each operation of `hostOps1_24` writes, in order. -/
abbrev hostOps1_24_W : List (Ref sig .tc) := [main_call23_v0, main_call23_v1, main_v67]
theorem hostOps1_24_writes : (hostOps1_24 : List (HloOp τ sig (Elt F))).Forall fun op => op.writes ⊆ (hostOps1_24_W.map (Proc.devRef (τ := τ) .tc)).toFinset :=
  StableHlo.forall_writes_sub_of_map rfl
theorem hostOps1_25_fresh : (hostOps1_25 : List (HloOp τ sig (Elt F))).Forall fun op => op.fresh = ∅ := by
  simp only [List.Forall]; repeat' constructor
/-- The reference each operation of `hostOps1_25` writes, in order. -/
abbrev hostOps1_25_W : List (Ref sig .tc) := [main_cst_16, main_v68, main_cst_17]
theorem hostOps1_25_writes : (hostOps1_25 : List (HloOp τ sig (Elt F))).Forall fun op => op.writes ⊆ (hostOps1_25_W.map (Proc.devRef (τ := τ) .tc)).toFinset :=
  StableHlo.forall_writes_sub_of_map rfl
theorem hostOps1_26_fresh : (hostOps1_26 : List (HloOp τ sig (Elt F))).Forall fun op => op.fresh = ∅ := by
  simp only [List.Forall]; repeat' constructor
/-- The reference each operation of `hostOps1_26` writes, in order. -/
abbrev hostOps1_26_W : List (Ref sig .tc) := [main_call24_v0, main_call24_v1, main_v69]
theorem hostOps1_26_writes : (hostOps1_26 : List (HloOp τ sig (Elt F))).Forall fun op => op.writes ⊆ (hostOps1_26_W.map (Proc.devRef (τ := τ) .tc)).toFinset :=
  StableHlo.forall_writes_sub_of_map rfl

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26].map StableHlo.seq)) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21] [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh⟩) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)
  · exact Pipeline.sub_ucRefs op ((List.forall_iff_forall_mem.mp hostOps1_17_sub) op hop)
  · exact Pipeline.sub_ucRefs op ((List.forall_iff_forall_mem.mp hostOps1_18_sub) op hop)
  · exact Pipeline.sub_ucRefs op ((List.forall_iff_forall_mem.mp hostOps1_19_sub) op hop)
  · exact Pipeline.sub_ucRefs op ((List.forall_iff_forall_mem.mp hostOps1_20_sub) op hop)
  · exact Pipeline.sub_ucRefs op ((List.forall_iff_forall_mem.mp hostOps1_21_sub) op hop)
  · exact Pipeline.sub_ucRefs op ((List.forall_iff_forall_mem.mp hostOps1_22_sub) op hop)
  · exact Pipeline.sub_ucRefs op ((List.forall_iff_forall_mem.mp hostOps1_23_sub) op hop)
  · exact Pipeline.sub_ucRefs op ((List.forall_iff_forall_mem.mp hostOps1_24_sub) op hop)
  · exact Pipeline.sub_ucRefs op ((List.forall_iff_forall_mem.mp hostOps1_25_sub) op hop)
  · exact Pipeline.sub_ucRefs op ((List.forall_iff_forall_mem.mp hostOps1_26_sub) op hop)
/-- They allocate nothing. -/
theorem sfx_fresh : ∀ ops ∈ ([hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26] : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop
  · exact (List.forall_iff_forall_mem.mp hostOps1_17_fresh) op hop
  · exact (List.forall_iff_forall_mem.mp hostOps1_18_fresh) op hop
  · exact (List.forall_iff_forall_mem.mp hostOps1_19_fresh) op hop
  · exact (List.forall_iff_forall_mem.mp hostOps1_20_fresh) op hop
  · exact (List.forall_iff_forall_mem.mp hostOps1_21_fresh) op hop
  · exact (List.forall_iff_forall_mem.mp hostOps1_22_fresh) op hop
  · exact (List.forall_iff_forall_mem.mp hostOps1_23_fresh) op hop
  · exact (List.forall_iff_forall_mem.mp hostOps1_24_fresh) op hop
  · exact (List.forall_iff_forall_mem.mp hostOps1_25_fresh) op hop
  · exact (List.forall_iff_forall_mem.mp hostOps1_26_fresh) op hop
/-- And write no array of the pipeline: every operation's writes lie within its line's list (`hostOps1_W` to `hostOps1_26_W`), and no
    window's array is in such a list (decided). -/
theorem sfx_keeps : ∀ ops ∈ ([hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl | rfl | rfl | rfl
  · intro w hb
    obtain ⟨y, hy, he⟩ := List.mem_map.mp (List.mem_toFinset.mp ((List.forall_iff_forall_mem.mp hostOps1_writes) op hop hb))
    exact (by decide +kernel : ∀ w, Pipeline.arrRef spec0 w ∉ hostOps1_W) w (Proc.devRef_injective _ he ▸ hy)
  · intro w hb
    obtain ⟨y, hy, he⟩ := List.mem_map.mp (List.mem_toFinset.mp ((List.forall_iff_forall_mem.mp hostOps1_1_writes) op hop hb))
    exact (by decide +kernel : ∀ w, Pipeline.arrRef spec0 w ∉ hostOps1_1_W) w (Proc.devRef_injective _ he ▸ hy)
  · intro w hb
    obtain ⟨y, hy, he⟩ := List.mem_map.mp (List.mem_toFinset.mp ((List.forall_iff_forall_mem.mp hostOps1_2_writes) op hop hb))
    exact (by decide +kernel : ∀ w, Pipeline.arrRef spec0 w ∉ hostOps1_2_W) w (Proc.devRef_injective _ he ▸ hy)
  · intro w hb
    obtain ⟨y, hy, he⟩ := List.mem_map.mp (List.mem_toFinset.mp ((List.forall_iff_forall_mem.mp hostOps1_3_writes) op hop hb))
    exact (by decide +kernel : ∀ w, Pipeline.arrRef spec0 w ∉ hostOps1_3_W) w (Proc.devRef_injective _ he ▸ hy)
  · intro w hb
    obtain ⟨y, hy, he⟩ := List.mem_map.mp (List.mem_toFinset.mp ((List.forall_iff_forall_mem.mp hostOps1_4_writes) op hop hb))
    exact (by decide +kernel : ∀ w, Pipeline.arrRef spec0 w ∉ hostOps1_4_W) w (Proc.devRef_injective _ he ▸ hy)
  · intro w hb
    obtain ⟨y, hy, he⟩ := List.mem_map.mp (List.mem_toFinset.mp ((List.forall_iff_forall_mem.mp hostOps1_5_writes) op hop hb))
    exact (by decide +kernel : ∀ w, Pipeline.arrRef spec0 w ∉ hostOps1_5_W) w (Proc.devRef_injective _ he ▸ hy)
  · intro w hb
    obtain ⟨y, hy, he⟩ := List.mem_map.mp (List.mem_toFinset.mp ((List.forall_iff_forall_mem.mp hostOps1_6_writes) op hop hb))
    exact (by decide +kernel : ∀ w, Pipeline.arrRef spec0 w ∉ hostOps1_6_W) w (Proc.devRef_injective _ he ▸ hy)
  · intro w hb
    obtain ⟨y, hy, he⟩ := List.mem_map.mp (List.mem_toFinset.mp ((List.forall_iff_forall_mem.mp hostOps1_7_writes) op hop hb))
    exact (by decide +kernel : ∀ w, Pipeline.arrRef spec0 w ∉ hostOps1_7_W) w (Proc.devRef_injective _ he ▸ hy)
  · intro w hb
    obtain ⟨y, hy, he⟩ := List.mem_map.mp (List.mem_toFinset.mp ((List.forall_iff_forall_mem.mp hostOps1_8_writes) op hop hb))
    exact (by decide +kernel : ∀ w, Pipeline.arrRef spec0 w ∉ hostOps1_8_W) w (Proc.devRef_injective _ he ▸ hy)
  · intro w hb
    obtain ⟨y, hy, he⟩ := List.mem_map.mp (List.mem_toFinset.mp ((List.forall_iff_forall_mem.mp hostOps1_9_writes) op hop hb))
    exact (by decide +kernel : ∀ w, Pipeline.arrRef spec0 w ∉ hostOps1_9_W) w (Proc.devRef_injective _ he ▸ hy)
  · intro w hb
    obtain ⟨y, hy, he⟩ := List.mem_map.mp (List.mem_toFinset.mp ((List.forall_iff_forall_mem.mp hostOps1_10_writes) op hop hb))
    exact (by decide +kernel : ∀ w, Pipeline.arrRef spec0 w ∉ hostOps1_10_W) w (Proc.devRef_injective _ he ▸ hy)
  · intro w hb
    obtain ⟨y, hy, he⟩ := List.mem_map.mp (List.mem_toFinset.mp ((List.forall_iff_forall_mem.mp hostOps1_11_writes) op hop hb))
    exact (by decide +kernel : ∀ w, Pipeline.arrRef spec0 w ∉ hostOps1_11_W) w (Proc.devRef_injective _ he ▸ hy)
  · intro w hb
    obtain ⟨y, hy, he⟩ := List.mem_map.mp (List.mem_toFinset.mp ((List.forall_iff_forall_mem.mp hostOps1_12_writes) op hop hb))
    exact (by decide +kernel : ∀ w, Pipeline.arrRef spec0 w ∉ hostOps1_12_W) w (Proc.devRef_injective _ he ▸ hy)
  · intro w hb
    obtain ⟨y, hy, he⟩ := List.mem_map.mp (List.mem_toFinset.mp ((List.forall_iff_forall_mem.mp hostOps1_13_writes) op hop hb))
    exact (by decide +kernel : ∀ w, Pipeline.arrRef spec0 w ∉ hostOps1_13_W) w (Proc.devRef_injective _ he ▸ hy)
  · intro w hb
    obtain ⟨y, hy, he⟩ := List.mem_map.mp (List.mem_toFinset.mp ((List.forall_iff_forall_mem.mp hostOps1_14_writes) op hop hb))
    exact (by decide +kernel : ∀ w, Pipeline.arrRef spec0 w ∉ hostOps1_14_W) w (Proc.devRef_injective _ he ▸ hy)
  · intro w hb
    obtain ⟨y, hy, he⟩ := List.mem_map.mp (List.mem_toFinset.mp ((List.forall_iff_forall_mem.mp hostOps1_15_writes) op hop hb))
    exact (by decide +kernel : ∀ w, Pipeline.arrRef spec0 w ∉ hostOps1_15_W) w (Proc.devRef_injective _ he ▸ hy)
  · intro w hb
    obtain ⟨y, hy, he⟩ := List.mem_map.mp (List.mem_toFinset.mp ((List.forall_iff_forall_mem.mp hostOps1_16_writes) op hop hb))
    exact (by decide +kernel : ∀ w, Pipeline.arrRef spec0 w ∉ hostOps1_16_W) w (Proc.devRef_injective _ he ▸ hy)
  · intro w hb
    obtain ⟨y, hy, he⟩ := List.mem_map.mp (List.mem_toFinset.mp ((List.forall_iff_forall_mem.mp hostOps1_17_writes) op hop hb))
    exact (by decide +kernel : ∀ w, Pipeline.arrRef spec0 w ∉ hostOps1_17_W) w (Proc.devRef_injective _ he ▸ hy)
  · intro w hb
    obtain ⟨y, hy, he⟩ := List.mem_map.mp (List.mem_toFinset.mp ((List.forall_iff_forall_mem.mp hostOps1_18_writes) op hop hb))
    exact (by decide +kernel : ∀ w, Pipeline.arrRef spec0 w ∉ hostOps1_18_W) w (Proc.devRef_injective _ he ▸ hy)
  · intro w hb
    obtain ⟨y, hy, he⟩ := List.mem_map.mp (List.mem_toFinset.mp ((List.forall_iff_forall_mem.mp hostOps1_19_writes) op hop hb))
    exact (by decide +kernel : ∀ w, Pipeline.arrRef spec0 w ∉ hostOps1_19_W) w (Proc.devRef_injective _ he ▸ hy)
  · intro w hb
    obtain ⟨y, hy, he⟩ := List.mem_map.mp (List.mem_toFinset.mp ((List.forall_iff_forall_mem.mp hostOps1_20_writes) op hop hb))
    exact (by decide +kernel : ∀ w, Pipeline.arrRef spec0 w ∉ hostOps1_20_W) w (Proc.devRef_injective _ he ▸ hy)
  · intro w hb
    obtain ⟨y, hy, he⟩ := List.mem_map.mp (List.mem_toFinset.mp ((List.forall_iff_forall_mem.mp hostOps1_21_writes) op hop hb))
    exact (by decide +kernel : ∀ w, Pipeline.arrRef spec0 w ∉ hostOps1_21_W) w (Proc.devRef_injective _ he ▸ hy)
  · intro w hb
    obtain ⟨y, hy, he⟩ := List.mem_map.mp (List.mem_toFinset.mp ((List.forall_iff_forall_mem.mp hostOps1_22_writes) op hop hb))
    exact (by decide +kernel : ∀ w, Pipeline.arrRef spec0 w ∉ hostOps1_22_W) w (Proc.devRef_injective _ he ▸ hy)
  · intro w hb
    obtain ⟨y, hy, he⟩ := List.mem_map.mp (List.mem_toFinset.mp ((List.forall_iff_forall_mem.mp hostOps1_23_writes) op hop hb))
    exact (by decide +kernel : ∀ w, Pipeline.arrRef spec0 w ∉ hostOps1_23_W) w (Proc.devRef_injective _ he ▸ hy)
  · intro w hb
    obtain ⟨y, hy, he⟩ := List.mem_map.mp (List.mem_toFinset.mp ((List.forall_iff_forall_mem.mp hostOps1_24_writes) op hop hb))
    exact (by decide +kernel : ∀ w, Pipeline.arrRef spec0 w ∉ hostOps1_24_W) w (Proc.devRef_injective _ he ▸ hy)
  · intro w hb
    obtain ⟨y, hy, he⟩ := List.mem_map.mp (List.mem_toFinset.mp ((List.forall_iff_forall_mem.mp hostOps1_25_writes) op hop hb))
    exact (by decide +kernel : ∀ w, Pipeline.arrRef spec0 w ∉ hostOps1_25_W) w (Proc.devRef_injective _ he ▸ hy)
  · intro w hb
    obtain ⟨y, hy, he⟩ := List.mem_map.mp (List.mem_toFinset.mp ((List.forall_iff_forall_mem.mp hostOps1_26_writes) op hop hb))
    exact (by decide +kernel : ∀ w, Pipeline.arrRef spec0 w ∉ hostOps1_26_W) w (Proc.devRef_injective _ he ▸ hy)

/-- The buffers the lines after the region WRITE, as references: results computed from contents the run does not name
    (an operand the body wrote by its own DMA, or a forgotten output), so nothing is stated of them either. -/
def T0 : Finset (Ref sig .tc) := {main_c_10, main_c_14, main_c_15, main_c_5, main_c_6, main_c_9, main_call11_call0_c, main_call11_call0_v0, main_call12_v0, main_call13_v0, main_call13_v1, main_call14_c, main_call14_c_0, main_call14_v0, main_call14_v1, main_call14_v10, main_call14_v11, main_call14_v12, main_call14_v13, main_call14_v2, main_call14_v3, main_call14_v4, main_call14_v5, main_call14_v6, main_call14_v7, main_call14_v8, main_call14_v9, main_call15_v0, main_call16_c, main_call16_c_0, main_call16_c_1, main_call16_c_2, main_call16_c_3, main_call16_c_4, main_call16_v0, main_call16_v1, main_call16_v10, main_call16_v11, main_call16_v12, main_call16_v13, main_call16_v14, main_call16_v2, main_call16_v3, main_call16_v4, main_call16_v5, main_call16_v6, main_call16_v7, main_call16_v8, main_call16_v9, main_call17_c, main_call17_c_0, main_call17_c_1, main_call17_c_2, main_call17_c_3, main_call17_cst, main_call17_v0, main_call17_v1, main_call17_v10, main_call17_v11, main_call17_v12, main_call17_v13, main_call17_v14, main_call17_v2, main_call17_v3, main_call17_v4, main_call17_v5, main_call17_v6, main_call17_v7, main_call17_v8, main_call17_v9, main_call18_v0, main_call18_v1, main_call18_v2, main_call19_v0, main_call19_v1, main_call20_v0, main_call20_v1, main_call21_c, main_call21_c_0, main_call21_c_1, main_call21_c_2, main_call21_c_3, main_call21_cst, main_call21_v0, main_call21_v1, main_call21_v10, main_call21_v11, main_call21_v12, main_call21_v13, main_call21_v14, main_call21_v2, main_call21_v3, main_call21_v4, main_call21_v5, main_call21_v6, main_call21_v7, main_call21_v8, main_call21_v9, main_call22_c, main_call22_cst, main_call22_v0, main_call22_v1_0, main_call23_v0, main_call23_v1, main_call24_v0, main_call24_v1, main_cst_11, main_cst_12, main_cst_13, main_cst_16, main_cst_17, main_cst_4, main_cst_7, main_cst_8, main_indices, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_values}
set_option maxHeartbeats 8000000 in
/-- Every reference a later line writes is in `T0`: each line's list (`hostOps1_W` to `hostOps1_26_W`) lies within it (decided). -/
theorem sfx_writes : ∀ ops ∈ ([hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl | rfl | rfl | rfl
  · intro b hb
    obtain ⟨y, hy, he⟩ := List.mem_map.mp (List.mem_toFinset.mp ((List.forall_iff_forall_mem.mp hostOps1_writes) op hop hb))
    exact Proc.devRef_injective _ he ▸ (ListAll.forall_mem_of_all_decide (by decide +kernel) : ∀ r ∈ hostOps1_W, r ∈ T0) y hy
  · intro b hb
    obtain ⟨y, hy, he⟩ := List.mem_map.mp (List.mem_toFinset.mp ((List.forall_iff_forall_mem.mp hostOps1_1_writes) op hop hb))
    exact Proc.devRef_injective _ he ▸ (ListAll.forall_mem_of_all_decide (by decide +kernel) : ∀ r ∈ hostOps1_1_W, r ∈ T0) y hy
  · intro b hb
    obtain ⟨y, hy, he⟩ := List.mem_map.mp (List.mem_toFinset.mp ((List.forall_iff_forall_mem.mp hostOps1_2_writes) op hop hb))
    exact Proc.devRef_injective _ he ▸ (ListAll.forall_mem_of_all_decide (by decide +kernel) : ∀ r ∈ hostOps1_2_W, r ∈ T0) y hy
  · intro b hb
    obtain ⟨y, hy, he⟩ := List.mem_map.mp (List.mem_toFinset.mp ((List.forall_iff_forall_mem.mp hostOps1_3_writes) op hop hb))
    exact Proc.devRef_injective _ he ▸ (ListAll.forall_mem_of_all_decide (by decide +kernel) : ∀ r ∈ hostOps1_3_W, r ∈ T0) y hy
  · intro b hb
    obtain ⟨y, hy, he⟩ := List.mem_map.mp (List.mem_toFinset.mp ((List.forall_iff_forall_mem.mp hostOps1_4_writes) op hop hb))
    exact Proc.devRef_injective _ he ▸ (ListAll.forall_mem_of_all_decide (by decide +kernel) : ∀ r ∈ hostOps1_4_W, r ∈ T0) y hy
  · intro b hb
    obtain ⟨y, hy, he⟩ := List.mem_map.mp (List.mem_toFinset.mp ((List.forall_iff_forall_mem.mp hostOps1_5_writes) op hop hb))
    exact Proc.devRef_injective _ he ▸ (ListAll.forall_mem_of_all_decide (by decide +kernel) : ∀ r ∈ hostOps1_5_W, r ∈ T0) y hy
  · intro b hb
    obtain ⟨y, hy, he⟩ := List.mem_map.mp (List.mem_toFinset.mp ((List.forall_iff_forall_mem.mp hostOps1_6_writes) op hop hb))
    exact Proc.devRef_injective _ he ▸ (ListAll.forall_mem_of_all_decide (by decide +kernel) : ∀ r ∈ hostOps1_6_W, r ∈ T0) y hy
  · intro b hb
    obtain ⟨y, hy, he⟩ := List.mem_map.mp (List.mem_toFinset.mp ((List.forall_iff_forall_mem.mp hostOps1_7_writes) op hop hb))
    exact Proc.devRef_injective _ he ▸ (ListAll.forall_mem_of_all_decide (by decide +kernel) : ∀ r ∈ hostOps1_7_W, r ∈ T0) y hy
  · intro b hb
    obtain ⟨y, hy, he⟩ := List.mem_map.mp (List.mem_toFinset.mp ((List.forall_iff_forall_mem.mp hostOps1_8_writes) op hop hb))
    exact Proc.devRef_injective _ he ▸ (ListAll.forall_mem_of_all_decide (by decide +kernel) : ∀ r ∈ hostOps1_8_W, r ∈ T0) y hy
  · intro b hb
    obtain ⟨y, hy, he⟩ := List.mem_map.mp (List.mem_toFinset.mp ((List.forall_iff_forall_mem.mp hostOps1_9_writes) op hop hb))
    exact Proc.devRef_injective _ he ▸ (ListAll.forall_mem_of_all_decide (by decide +kernel) : ∀ r ∈ hostOps1_9_W, r ∈ T0) y hy
  · intro b hb
    obtain ⟨y, hy, he⟩ := List.mem_map.mp (List.mem_toFinset.mp ((List.forall_iff_forall_mem.mp hostOps1_10_writes) op hop hb))
    exact Proc.devRef_injective _ he ▸ (ListAll.forall_mem_of_all_decide (by decide +kernel) : ∀ r ∈ hostOps1_10_W, r ∈ T0) y hy
  · intro b hb
    obtain ⟨y, hy, he⟩ := List.mem_map.mp (List.mem_toFinset.mp ((List.forall_iff_forall_mem.mp hostOps1_11_writes) op hop hb))
    exact Proc.devRef_injective _ he ▸ (ListAll.forall_mem_of_all_decide (by decide +kernel) : ∀ r ∈ hostOps1_11_W, r ∈ T0) y hy
  · intro b hb
    obtain ⟨y, hy, he⟩ := List.mem_map.mp (List.mem_toFinset.mp ((List.forall_iff_forall_mem.mp hostOps1_12_writes) op hop hb))
    exact Proc.devRef_injective _ he ▸ (ListAll.forall_mem_of_all_decide (by decide +kernel) : ∀ r ∈ hostOps1_12_W, r ∈ T0) y hy
  · intro b hb
    obtain ⟨y, hy, he⟩ := List.mem_map.mp (List.mem_toFinset.mp ((List.forall_iff_forall_mem.mp hostOps1_13_writes) op hop hb))
    exact Proc.devRef_injective _ he ▸ (ListAll.forall_mem_of_all_decide (by decide +kernel) : ∀ r ∈ hostOps1_13_W, r ∈ T0) y hy
  · intro b hb
    obtain ⟨y, hy, he⟩ := List.mem_map.mp (List.mem_toFinset.mp ((List.forall_iff_forall_mem.mp hostOps1_14_writes) op hop hb))
    exact Proc.devRef_injective _ he ▸ (ListAll.forall_mem_of_all_decide (by decide +kernel) : ∀ r ∈ hostOps1_14_W, r ∈ T0) y hy
  · intro b hb
    obtain ⟨y, hy, he⟩ := List.mem_map.mp (List.mem_toFinset.mp ((List.forall_iff_forall_mem.mp hostOps1_15_writes) op hop hb))
    exact Proc.devRef_injective _ he ▸ (ListAll.forall_mem_of_all_decide (by decide +kernel) : ∀ r ∈ hostOps1_15_W, r ∈ T0) y hy
  · intro b hb
    obtain ⟨y, hy, he⟩ := List.mem_map.mp (List.mem_toFinset.mp ((List.forall_iff_forall_mem.mp hostOps1_16_writes) op hop hb))
    exact Proc.devRef_injective _ he ▸ (ListAll.forall_mem_of_all_decide (by decide +kernel) : ∀ r ∈ hostOps1_16_W, r ∈ T0) y hy
  · intro b hb
    obtain ⟨y, hy, he⟩ := List.mem_map.mp (List.mem_toFinset.mp ((List.forall_iff_forall_mem.mp hostOps1_17_writes) op hop hb))
    exact Proc.devRef_injective _ he ▸ (ListAll.forall_mem_of_all_decide (by decide +kernel) : ∀ r ∈ hostOps1_17_W, r ∈ T0) y hy
  · intro b hb
    obtain ⟨y, hy, he⟩ := List.mem_map.mp (List.mem_toFinset.mp ((List.forall_iff_forall_mem.mp hostOps1_18_writes) op hop hb))
    exact Proc.devRef_injective _ he ▸ (ListAll.forall_mem_of_all_decide (by decide +kernel) : ∀ r ∈ hostOps1_18_W, r ∈ T0) y hy
  · intro b hb
    obtain ⟨y, hy, he⟩ := List.mem_map.mp (List.mem_toFinset.mp ((List.forall_iff_forall_mem.mp hostOps1_19_writes) op hop hb))
    exact Proc.devRef_injective _ he ▸ (ListAll.forall_mem_of_all_decide (by decide +kernel) : ∀ r ∈ hostOps1_19_W, r ∈ T0) y hy
  · intro b hb
    obtain ⟨y, hy, he⟩ := List.mem_map.mp (List.mem_toFinset.mp ((List.forall_iff_forall_mem.mp hostOps1_20_writes) op hop hb))
    exact Proc.devRef_injective _ he ▸ (ListAll.forall_mem_of_all_decide (by decide +kernel) : ∀ r ∈ hostOps1_20_W, r ∈ T0) y hy
  · intro b hb
    obtain ⟨y, hy, he⟩ := List.mem_map.mp (List.mem_toFinset.mp ((List.forall_iff_forall_mem.mp hostOps1_21_writes) op hop hb))
    exact Proc.devRef_injective _ he ▸ (ListAll.forall_mem_of_all_decide (by decide +kernel) : ∀ r ∈ hostOps1_21_W, r ∈ T0) y hy
  · intro b hb
    obtain ⟨y, hy, he⟩ := List.mem_map.mp (List.mem_toFinset.mp ((List.forall_iff_forall_mem.mp hostOps1_22_writes) op hop hb))
    exact Proc.devRef_injective _ he ▸ (ListAll.forall_mem_of_all_decide (by decide +kernel) : ∀ r ∈ hostOps1_22_W, r ∈ T0) y hy
  · intro b hb
    obtain ⟨y, hy, he⟩ := List.mem_map.mp (List.mem_toFinset.mp ((List.forall_iff_forall_mem.mp hostOps1_23_writes) op hop hb))
    exact Proc.devRef_injective _ he ▸ (ListAll.forall_mem_of_all_decide (by decide +kernel) : ∀ r ∈ hostOps1_23_W, r ∈ T0) y hy
  · intro b hb
    obtain ⟨y, hy, he⟩ := List.mem_map.mp (List.mem_toFinset.mp ((List.forall_iff_forall_mem.mp hostOps1_24_writes) op hop hb))
    exact Proc.devRef_injective _ he ▸ (ListAll.forall_mem_of_all_decide (by decide +kernel) : ∀ r ∈ hostOps1_24_W, r ∈ T0) y hy
  · intro b hb
    obtain ⟨y, hy, he⟩ := List.mem_map.mp (List.mem_toFinset.mp ((List.forall_iff_forall_mem.mp hostOps1_25_writes) op hop hb))
    exact Proc.devRef_injective _ he ▸ (ListAll.forall_mem_of_all_decide (by decide +kernel) : ∀ r ∈ hostOps1_25_W, r ∈ T0) y hy
  · intro b hb
    obtain ⟨y, hy, he⟩ := List.mem_map.mp (List.mem_toFinset.mp ((List.forall_iff_forall_mem.mp hostOps1_26_writes) op hop hb))
    exact Proc.devRef_injective _ he ▸ (ListAll.forall_mem_of_all_decide (by decide +kernel) : ∀ r ∈ hostOps1_26_W, r ∈ T0) y hy

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0` (it is in no line's list of written references, `hostOps1_W` to `hostOps1_26_W`): it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26] c main_arg0 = m ((c : Thread nD τ).loc main_arg0) := by
  unfold Pipeline.afterTail₀
  rw [List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_nil, List.append_nil, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append,
    StableHlo.after_of_writes_sub (r := main_arg0) hostOps1_26 _ hostOps1_26_writes (by decide +kernel),
    StableHlo.after_of_writes_sub (r := main_arg0) hostOps1_25 _ hostOps1_25_writes (by decide +kernel),
    StableHlo.after_of_writes_sub (r := main_arg0) hostOps1_24 _ hostOps1_24_writes (by decide +kernel),
    StableHlo.after_of_writes_sub (r := main_arg0) hostOps1_23 _ hostOps1_23_writes (by decide +kernel),
    StableHlo.after_of_writes_sub (r := main_arg0) hostOps1_22 _ hostOps1_22_writes (by decide +kernel),
    StableHlo.after_of_writes_sub (r := main_arg0) hostOps1_21 _ hostOps1_21_writes (by decide +kernel),
    StableHlo.after_of_writes_sub (r := main_arg0) hostOps1_20 _ hostOps1_20_writes (by decide +kernel),
    StableHlo.after_of_writes_sub (r := main_arg0) hostOps1_19 _ hostOps1_19_writes (by decide +kernel),
    StableHlo.after_of_writes_sub (r := main_arg0) hostOps1_18 _ hostOps1_18_writes (by decide +kernel),
    StableHlo.after_of_writes_sub (r := main_arg0) hostOps1_17 _ hostOps1_17_writes (by decide +kernel),
    StableHlo.after_of_writes_sub (r := main_arg0) hostOps1_16 _ hostOps1_16_writes (by decide +kernel),
    StableHlo.after_of_writes_sub (r := main_arg0) hostOps1_15 _ hostOps1_15_writes (by decide +kernel),
    StableHlo.after_of_writes_sub (r := main_arg0) hostOps1_14 _ hostOps1_14_writes (by decide +kernel),
    StableHlo.after_of_writes_sub (r := main_arg0) hostOps1_13 _ hostOps1_13_writes (by decide +kernel),
    StableHlo.after_of_writes_sub (r := main_arg0) hostOps1_12 _ hostOps1_12_writes (by decide +kernel),
    StableHlo.after_of_writes_sub (r := main_arg0) hostOps1_11 _ hostOps1_11_writes (by decide +kernel),
    StableHlo.after_of_writes_sub (r := main_arg0) hostOps1_10 _ hostOps1_10_writes (by decide +kernel),
    StableHlo.after_of_writes_sub (r := main_arg0) hostOps1_9 _ hostOps1_9_writes (by decide +kernel),
    StableHlo.after_of_writes_sub (r := main_arg0) hostOps1_8 _ hostOps1_8_writes (by decide +kernel),
    StableHlo.after_of_writes_sub (r := main_arg0) hostOps1_7 _ hostOps1_7_writes (by decide +kernel),
    StableHlo.after_of_writes_sub (r := main_arg0) hostOps1_6 _ hostOps1_6_writes (by decide +kernel),
    StableHlo.after_of_writes_sub (r := main_arg0) hostOps1_5 _ hostOps1_5_writes (by decide +kernel),
    StableHlo.after_of_writes_sub (r := main_arg0) hostOps1_4 _ hostOps1_4_writes (by decide +kernel),
    StableHlo.after_of_writes_sub (r := main_arg0) hostOps1_3 _ hostOps1_3_writes (by decide +kernel),
    StableHlo.after_of_writes_sub (r := main_arg0) hostOps1_2 _ hostOps1_2_writes (by decide +kernel),
    StableHlo.after_of_writes_sub (r := main_arg0) hostOps1_1 _ hostOps1_1_writes (by decide +kernel),
    StableHlo.after_of_writes_sub (r := main_arg0) hostOps1 _ hostOps1_writes (by decide +kernel),
    Pipeline.withArrays_of_ne _ c (V0 m c) _ main_arg0 (by exact (by decide : ∀ w, Pipeline.arrRef spec0 w ≠ main_arg0))]
  exact V_main_arg0 m c
/-- No host operation after the region writes `main_arg1` (it is in no line's list of written references, `hostOps1_W` to `hostOps1_26_W`): it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26] c main_arg1 = m ((c : Thread nD τ).loc main_arg1) := by
  unfold Pipeline.afterTail₀
  rw [List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_nil, List.append_nil, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append,
    StableHlo.after_of_writes_sub (r := main_arg1) hostOps1_26 _ hostOps1_26_writes (by decide +kernel),
    StableHlo.after_of_writes_sub (r := main_arg1) hostOps1_25 _ hostOps1_25_writes (by decide +kernel),
    StableHlo.after_of_writes_sub (r := main_arg1) hostOps1_24 _ hostOps1_24_writes (by decide +kernel),
    StableHlo.after_of_writes_sub (r := main_arg1) hostOps1_23 _ hostOps1_23_writes (by decide +kernel),
    StableHlo.after_of_writes_sub (r := main_arg1) hostOps1_22 _ hostOps1_22_writes (by decide +kernel),
    StableHlo.after_of_writes_sub (r := main_arg1) hostOps1_21 _ hostOps1_21_writes (by decide +kernel),
    StableHlo.after_of_writes_sub (r := main_arg1) hostOps1_20 _ hostOps1_20_writes (by decide +kernel),
    StableHlo.after_of_writes_sub (r := main_arg1) hostOps1_19 _ hostOps1_19_writes (by decide +kernel),
    StableHlo.after_of_writes_sub (r := main_arg1) hostOps1_18 _ hostOps1_18_writes (by decide +kernel),
    StableHlo.after_of_writes_sub (r := main_arg1) hostOps1_17 _ hostOps1_17_writes (by decide +kernel),
    StableHlo.after_of_writes_sub (r := main_arg1) hostOps1_16 _ hostOps1_16_writes (by decide +kernel),
    StableHlo.after_of_writes_sub (r := main_arg1) hostOps1_15 _ hostOps1_15_writes (by decide +kernel),
    StableHlo.after_of_writes_sub (r := main_arg1) hostOps1_14 _ hostOps1_14_writes (by decide +kernel),
    StableHlo.after_of_writes_sub (r := main_arg1) hostOps1_13 _ hostOps1_13_writes (by decide +kernel),
    StableHlo.after_of_writes_sub (r := main_arg1) hostOps1_12 _ hostOps1_12_writes (by decide +kernel),
    StableHlo.after_of_writes_sub (r := main_arg1) hostOps1_11 _ hostOps1_11_writes (by decide +kernel),
    StableHlo.after_of_writes_sub (r := main_arg1) hostOps1_10 _ hostOps1_10_writes (by decide +kernel),
    StableHlo.after_of_writes_sub (r := main_arg1) hostOps1_9 _ hostOps1_9_writes (by decide +kernel),
    StableHlo.after_of_writes_sub (r := main_arg1) hostOps1_8 _ hostOps1_8_writes (by decide +kernel),
    StableHlo.after_of_writes_sub (r := main_arg1) hostOps1_7 _ hostOps1_7_writes (by decide +kernel),
    StableHlo.after_of_writes_sub (r := main_arg1) hostOps1_6 _ hostOps1_6_writes (by decide +kernel),
    StableHlo.after_of_writes_sub (r := main_arg1) hostOps1_5 _ hostOps1_5_writes (by decide +kernel),
    StableHlo.after_of_writes_sub (r := main_arg1) hostOps1_4 _ hostOps1_4_writes (by decide +kernel),
    StableHlo.after_of_writes_sub (r := main_arg1) hostOps1_3 _ hostOps1_3_writes (by decide +kernel),
    StableHlo.after_of_writes_sub (r := main_arg1) hostOps1_2 _ hostOps1_2_writes (by decide +kernel),
    StableHlo.after_of_writes_sub (r := main_arg1) hostOps1_1 _ hostOps1_1_writes (by decide +kernel),
    StableHlo.after_of_writes_sub (r := main_arg1) hostOps1 _ hostOps1_writes (by decide +kernel),
    Pipeline.withArrays_of_ne _ c (V0 m c) _ main_arg1 (by exact (by decide : ∀ w, Pipeline.arrRef spec0 w ≠ main_arg1))]
  exact V_main_arg1 m c
/-- No host operation after the region writes `main_arg2` (it is in no line's list of written references, `hostOps1_W` to `hostOps1_26_W`): it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26] c main_arg2 = m ((c : Thread nD τ).loc main_arg2) := by
  unfold Pipeline.afterTail₀
  rw [List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_nil, List.append_nil, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append,
    StableHlo.after_of_writes_sub (r := main_arg2) hostOps1_26 _ hostOps1_26_writes (by decide +kernel),
    StableHlo.after_of_writes_sub (r := main_arg2) hostOps1_25 _ hostOps1_25_writes (by decide +kernel),
    StableHlo.after_of_writes_sub (r := main_arg2) hostOps1_24 _ hostOps1_24_writes (by decide +kernel),
    StableHlo.after_of_writes_sub (r := main_arg2) hostOps1_23 _ hostOps1_23_writes (by decide +kernel),
    StableHlo.after_of_writes_sub (r := main_arg2) hostOps1_22 _ hostOps1_22_writes (by decide +kernel),
    StableHlo.after_of_writes_sub (r := main_arg2) hostOps1_21 _ hostOps1_21_writes (by decide +kernel),
    StableHlo.after_of_writes_sub (r := main_arg2) hostOps1_20 _ hostOps1_20_writes (by decide +kernel),
    StableHlo.after_of_writes_sub (r := main_arg2) hostOps1_19 _ hostOps1_19_writes (by decide +kernel),
    StableHlo.after_of_writes_sub (r := main_arg2) hostOps1_18 _ hostOps1_18_writes (by decide +kernel),
    StableHlo.after_of_writes_sub (r := main_arg2) hostOps1_17 _ hostOps1_17_writes (by decide +kernel),
    StableHlo.after_of_writes_sub (r := main_arg2) hostOps1_16 _ hostOps1_16_writes (by decide +kernel),
    StableHlo.after_of_writes_sub (r := main_arg2) hostOps1_15 _ hostOps1_15_writes (by decide +kernel),
    StableHlo.after_of_writes_sub (r := main_arg2) hostOps1_14 _ hostOps1_14_writes (by decide +kernel),
    StableHlo.after_of_writes_sub (r := main_arg2) hostOps1_13 _ hostOps1_13_writes (by decide +kernel),
    StableHlo.after_of_writes_sub (r := main_arg2) hostOps1_12 _ hostOps1_12_writes (by decide +kernel),
    StableHlo.after_of_writes_sub (r := main_arg2) hostOps1_11 _ hostOps1_11_writes (by decide +kernel),
    StableHlo.after_of_writes_sub (r := main_arg2) hostOps1_10 _ hostOps1_10_writes (by decide +kernel),
    StableHlo.after_of_writes_sub (r := main_arg2) hostOps1_9 _ hostOps1_9_writes (by decide +kernel),
    StableHlo.after_of_writes_sub (r := main_arg2) hostOps1_8 _ hostOps1_8_writes (by decide +kernel),
    StableHlo.after_of_writes_sub (r := main_arg2) hostOps1_7 _ hostOps1_7_writes (by decide +kernel),
    StableHlo.after_of_writes_sub (r := main_arg2) hostOps1_6 _ hostOps1_6_writes (by decide +kernel),
    StableHlo.after_of_writes_sub (r := main_arg2) hostOps1_5 _ hostOps1_5_writes (by decide +kernel),
    StableHlo.after_of_writes_sub (r := main_arg2) hostOps1_4 _ hostOps1_4_writes (by decide +kernel),
    StableHlo.after_of_writes_sub (r := main_arg2) hostOps1_3 _ hostOps1_3_writes (by decide +kernel),
    StableHlo.after_of_writes_sub (r := main_arg2) hostOps1_2 _ hostOps1_2_writes (by decide +kernel),
    StableHlo.after_of_writes_sub (r := main_arg2) hostOps1_1 _ hostOps1_1_writes (by decide +kernel),
    StableHlo.after_of_writes_sub (r := main_arg2) hostOps1 _ hostOps1_writes (by decide +kernel),
    Pipeline.withArrays_of_ne _ c (V0 m c) _ main_arg2 (by exact (by decide : ∀ w, Pipeline.arrRef spec0 w ≠ main_arg2))]
  exact V_main_arg2 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S256x1024 .f32 := win0_0.stage (cfg0.slots t 0)
abbrev hs0_0 (t : Fin cfg0.N) : (ms0_0 t).IsWhole := hstage0_0 0
abbrev ms0_1 (t : Fin cfg0.N) : Memref sig .tc .vmem S256x1024 .f32 := win0_1.stage (cfg0.slots t 1)
abbrev hs0_1 (t : Fin cfg0.N) : (ms0_1 t).IsWhole := hstage0_1 0
abbrev ms0_2 (t : Fin cfg0.N) : Memref sig .tc .vmem S256x1024 .f32 := win0_2.stage (cfg0.slots t 2)
abbrev hs0_2 (t : Fin cfg0.N) : (ms0_2 t).IsWhole := hstage0_2 0
abbrev ms0_3 (t : Fin cfg0.N) : Memref sig .tc .vmem S256x1024 .f32 := win0_3.stage (cfg0.slots t 3)
abbrev hs0_3 (t : Fin cfg0.N) : (ms0_3 t).IsWhole := hstage0_3 0
abbrev ms0_4 (t : Fin cfg0.N) : Memref sig .tc .vmem S256x1024 .f32 := win0_4.stage (cfg0.slots t 4)
abbrev hs0_4 (t : Fin cfg0.N) : (ms0_4 t).IsWhole := hstage0_4 0
abbrev ms0_5 (t : Fin cfg0.N) : Memref sig .tc .vmem S256x1024 .f32 := win0_5.stage (cfg0.slots t 5)
abbrev hs0_5 (t : Fin cfg0.N) : (ms0_5 t).IsWhole := hstage0_5 0
/-- The scratch operands: whole scoped buffers of the kernel's own, passed beside the windows. -/
abbrev scM0_0 : Memref sig .tc .vmem S1024x256 .f32 := Memref.whole cc0_scratch0
abbrev scM0_1 : Memref sig .tc .vmem S1024x256 .f32 := Memref.whole cc0_scratch1
abbrev scM0_2 : Memref sig .tc .vmem S1024x256 .f32 := Memref.whole cc0_scratch2
abbrev scM0_3 : Memref sig .tc .vmem S1024x256 .f32 := Memref.whole cc0_scratch3
abbrev scM0_4 : Memref sig .tc .vmem S1024x256 .f32 := Memref.whole cc0_scratch4
abbrev scM0_5 : Memref sig .tc .vmem S1024x256 .f32 := Memref.whole cc0_scratch5
abbrev scM0_6 : Memref sig .tc .vmem S1024x256 .i32 := Memref.whole cc0_scratch6
abbrev scM0_7 : Memref sig .tc .vmem S1024x256 .f32 := Memref.whole cc0_scratch7

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.Kernel.Gen

end
-- ==== Proof.KernelFrame.RunA.lean ====
/- Launch set-up for the frame of `Kernel`, part 2: the generated text of the body's run. -/
module

public import proofs.«01_k».proof.Proof.KernelFrame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (5) at anything, handed back at some contents nothing names —
    the body runs to the continuation holding the inputs' as they were, the scratch at some contents: the printed functions are their skeletons (`Gen.*_eq_skeleton`),
    which `sl_exec` runs (Lib/Exec.lean). -/
theorem kernelRun0_A (c : Dev nD) (arg0 : Memref sig .tc .vmem S256x1024 .f32) (harg0 : arg0.IsWhole) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .i32) (harg12 : arg12.IsWhole) (arg13 : Memref sig .tc .vmem S1024x256 .f32) (harg13 : arg13.IsWhole)
    (x0 : Vec F S256x1024 .f32) (x1 : Vec F S256x1024 .f32) (x2 : Vec F S256x1024 .f32) (x3 : Vec F S256x1024 .f32) (x4 : Vec F S256x1024 .f32) :
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0__nms_body arg0 harg0 arg1 harg1 arg2 harg2 arg3 harg3 arg4 harg4 arg5 harg5 arg6 harg6 arg7 harg7 arg8 harg8 arg9 harg9 arg10 harg10 arg11 harg11 arg12 harg12 arg13 harg13) K := by
    intro E K
    simp only [cc0__nms_body_eq_skeleton]; unfold cc0__nms_body_skel
    simp only [k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg0.eq_unread hf0; obtain rfl := harg1.eq_unread hf1; obtain rfl := harg2.eq_unread hf2; obtain rfl := harg3.eq_unread hf3; obtain rfl := harg4.eq_unread hf4
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.Kernel.Gen

end
-- ==== Proof.KernelFrame.Frame.lean ====
/- Launch set-up for the frame of `Kernel`, part 3: the generated text of the run and of the frame. -/
module

public import proofs.«01_k».proof.Proof.KernelFrame.RunA
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (5): nothing reads what the kernel leaves in them, so nothing
    of it is named (Lib/Pipeline/Dat.lean `Dat.toRForget`). -/
def forgets0 : Fin 6 → Bool := fun w => w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩⟩
  iapply ((kernelRun0_A c _ _ _ _ _ _ _ _ _ _ _ _ _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 5) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.RefFrame.lean ====
/- The reference's run: it ends, its arguments keep their contents, and every buffer it leaves is named. -/
module

public import proofs.«01_k».proof.Proof.Gen.ReferenceIdeal.Run
public import Idealize.ShloMosaic.Lib.Quiescent

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo

variable {F : FTy → Type} [FloatOps F]

/-- The buffers no line of the loop writes. -/
def Untouched (r : Ref sig .tc) : Prop :=
  (r ∉ condOps_W ∧ r ∉ while0Ops0_W ∧ r ∉ while0Ops0_1_W) ∧ r ∉ while0Ops0_2_W ∧ r ∉ while0Ops0_3_W

/-- Such a buffer holds at every trip what it held at the first. -/
theorem atTrip_keep (W : Dev nD → Valuation τ sig (Elt F)) (r : Ref sig .tc) (h : Untouched r) (c : Dev nD) (k : ℕ) :
    after condOps (atTrip condOps bodyI W k c) (Proc.devRef .tc r) = W c (Proc.devRef .tc r) := by
  obtain ⟨⟨h0, h1, h2⟩, h3, h4⟩ := h
  refine (after_of_writes_sub condOps _ condOps_writes h0).trans ?_
  induction k with
  | zero => rfl
  | succ k ih =>
    rw [atTrip_succ]
    simp only [bodyI, afterL_cons, afterL_nil]
    refine (after_of_writes_sub _ _ while0Ops0_3_writes h4).trans ?_
    refine (after_of_writes_sub _ _ while0Ops0_2_writes h3).trans ?_
    refine (after_of_writes_sub _ _ while0Ops0_1_writes h2).trans ?_
    refine (after_of_writes_sub _ _ while0Ops0_writes h1).trans ?_
    exact (after_of_writes_sub condOps _ condOps_writes h0).trans ih

set_option maxHeartbeats 4000000 in
/-- What follows the loop writes no argument. -/
theorem post_args (V : Valuation τ sig (Elt F)) :
    afterL postI V (Proc.devRef .tc main_arg0) = V (Proc.devRef .tc main_arg0)
    ∧ afterL postI V (Proc.devRef .tc main_arg1) = V (Proc.devRef .tc main_arg1)
    ∧ afterL postI V (Proc.devRef .tc main_arg2) = V (Proc.devRef .tc main_arg2) := by
  simp only [postI, afterL_cons, afterL_nil]
  refine ⟨?_, ?_, ?_⟩ <;> after_results

/-- What precedes the loop writes no argument. -/
theorem pre_args (V : Valuation τ sig (Elt F)) :
    afterL preI V (Proc.devRef .tc main_arg0) = V (Proc.devRef .tc main_arg0)
    ∧ afterL preI V (Proc.devRef .tc main_arg1) = V (Proc.devRef .tc main_arg1)
    ∧ afterL preI V (Proc.devRef .tc main_arg2) = V (Proc.devRef .tc main_arg2) := by
  simp only [preI, afterL_cons, afterL_nil]
  refine ⟨?_, ?_, ?_⟩ <;> after_results

variable (m : (ℓ : Loc nD τ sig) → Buf (Elt F) ℓ) (ρ : Dev nD → PrngReg)

/-- What the whole program leaves in the arguments. -/
theorem final_args (n : ℕ) (c : Dev nD) :
    finalContents condOps preI bodyI postI n m c (Proc.devRef .tc main_arg0) = m ((c.tc : Thread nD τ).loc main_arg0)
    ∧ finalContents condOps preI bodyI postI n m c (Proc.devRef .tc main_arg1) = m ((c.tc : Thread nD τ).loc main_arg1)
    ∧ finalContents condOps preI bodyI postI n m c (Proc.devRef .tc main_arg2) = m ((c.tc : Thread nD τ).loc main_arg2) :=
  ⟨(post_args _).1.trans ((atTrip_keep _ _ (by unfold Untouched; decide +kernel) c n).trans (pre_args _).1),
   (post_args _).2.1.trans ((atTrip_keep _ _ (by unfold Untouched; decide +kernel) c n).trans (pre_args _).2.1),
   (post_args _).2.2.trans ((atTrip_keep _ _ (by unfold Untouched; decide +kernel) c n).trans (pre_args _).2.2)⟩

/-- The reference runs to its end and leaves its arguments as it found them, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h c main_arg0 (by decide)).trans (final_args m 1000 c).1,
    (h c main_arg1 (by decide)).trans (final_args m 1000 c).2.1,
    (h c main_arg2 (by decide)).trans (final_args m 1000 c).2.2⟩, sem_eq_zero_of_no_sems (by decide) r.2⟩) (run_fold m ρ)

end Cert.ReferenceIdeal.Value
-- ==== Proof.Gather.lean ====
/- Reading a gather at one index, whatever its dimension numbers: each coordinate of the place it reads. -/
module

public import Idealize.ShloMosaic.Lib.Pointwise

@[expose] public section

noncomputable section

namespace Nms

open Idealize.ShloMosaic

variable {s si t : Shape} (d : GatherDims s si t)

/-- A start index's coordinate on a batch axis is the result's on the axis in its place. -/
theorem siCoord_val (j : t.Idx) (b : Fin si.rank) (hb : b ∈ d.siKept) (a : Fin t.rank)
    (h : d.batchDims[d.siKept.idxOf b]? = some a) : (d.siCoord j b hb).val = (j a).val := by
  obtain ⟨hlt, e⟩ := List.getElem?_eq_some_iff.mp h
  subst e
  rfl

/-- The coordinate on a batching axis of the operand. -/
theorem batchCoord_val (j : t.Idx) (a : Fin s.rank) (b : Fin si.rank) (r : Fin t.rank) (ha : a ∈ d.operandBatchingDims)
    (h1 : d.startIndicesBatchingDims[d.operandBatchingDims.idxOf a]? = some b)
    (h2 : d.batchDims[d.siKept.idxOf b]? = some r) : d.batchCoord j a = (j r).val := by
  obtain ⟨hlt, e⟩ := List.getElem?_eq_some_iff.mp h1
  subst e
  unfold GatherDims.batchCoord
  rw [dif_pos ha]
  exact siCoord_val d j _ _ r h2

/-- The coordinate on a kept axis of the operand. -/
theorem offCoord_val (j : t.Idx) (a : Fin s.rank) (r : Fin t.rank) (ha : a ∈ d.sKept)
    (h : d.offsetDims[d.sKept.idxOf a]? = some r) : d.offCoord j a = (j r).val := by
  obtain ⟨hlt, e⟩ := List.getElem?_eq_some_iff.mp h
  subst e
  unfold GatherDims.offCoord
  rw [dif_pos ha]

/-- The start on the one indexed axis: the word found at the start index the result's batch coordinates name. -/
theorem start_val {w : ℕ} (j : t.Idx) (idx : IVec si w) (a : Fin s.rank) (ha : d.startIndexMap = [a]) (i : si.Idx)
    (h0 : ∀ b : Fin si.rank, b.val = d.indexVectorDim → (i b).val = 0)
    (h1 : ∀ b : Fin si.rank, b.val ≠ d.indexVectorDim → ∃ r, d.batchDims[d.siKept.idxOf b]? = some r ∧ (i b).val = (j r).val) :
    d.start j idx a = min (idx i).toInt.toNat (s.size a - d.sliceSizes a) := by
  have hm : a ∈ d.startIndexMap := by rw [ha]; exact List.mem_singleton.mpr rfl
  unfold GatherDims.start
  rw [dif_pos hm]
  have e : d.siIdx j ⟨d.startIndexMap.idxOf a, List.idxOf_lt_length_iff.2 hm⟩ = i := by
    funext b
    apply Fin.ext
    unfold GatherDims.siIdx
    by_cases hb : b.val = d.indexVectorDim
    · rw [dif_pos hb, h0 b hb]
      show d.startIndexMap.idxOf a = 0
      rw [ha]; simp
    · rw [dif_neg hb]
      obtain ⟨r, hr, e⟩ := h1 b hb
      rw [e]
      exact siCoord_val d j b _ r hr
  rw [e]

/-- The dimension numbers that index one axis `ax`: `f` names the result's axis that a batch axis of the start
    indices follows, `g` the one that every other axis of the operand follows. -/
def Along (ax : Fin s.rank) (f : Fin si.rank → Fin t.rank) (g : Fin s.rank → Fin t.rank) : Prop :=
  (d.startIndexMap = [ax] ∧ ax ∉ d.operandBatchingDims ∧ ax ∉ d.sKept ∧ d.sliceSizes ax = 1)
  ∧ (∀ b : Fin si.rank, b.val ≠ d.indexVectorDim → d.batchDims[d.siKept.idxOf b]? = some (f b))
  ∧ ∀ a : Fin s.rank, a ≠ ax →
    ((a ∈ d.operandBatchingDims ∧ a ∉ d.sKept) ∧ ∃ b, d.startIndicesBatchingDims[d.operandBatchingDims.idxOf a]? = some b
      ∧ d.batchDims[d.siKept.idxOf b]? = some (g a))
    ∨ ((a ∉ d.operandBatchingDims ∧ a ∉ d.startIndexMap) ∧ a ∈ d.sKept ∧ d.offsetDims[d.sKept.idxOf a]? = some (g a))

set_option synthInstance.maxSize 1024 in
instance (ax : Fin s.rank) (f : Fin si.rank → Fin t.rank) (g : Fin s.rank → Fin t.rank) : Decidable (Along d ax f g) := by
  unfold Along; infer_instance

/-- A gather along one axis reads the operand where the start index says. -/
theorem gather_along {α : Type} {w : ℕ} {ax : Fin s.rank} {f : Fin si.rank → Fin t.rank} {g : Fin s.rank → Fin t.rank}
    (h : Along d ax f g) (x : s.Idx → α) (idx : IVec si w) (j : t.Idx) (i : s.Idx) (k : si.Idx)
    (hk : ∀ b : Fin si.rank, (b.val = d.indexVectorDim → (k b).val = 0) ∧ (b.val ≠ d.indexVectorDim → (k b).val = (j (f b)).val))
    (hi : ∀ a : Fin s.rank, a ≠ ax → (i a).val = (j (g a)).val) (hw : (idx k).toInt.toNat = (i ax).val) :
    Host.gather d x idx j = x i := by
  obtain ⟨⟨h1, h2, h3, h4⟩, h5, h6⟩ := h
  refine congrArg x (funext fun a => Fin.ext ?_)
  show d.start j idx a + d.batchCoord j a + d.offCoord j a = (i a).val
  by_cases ha : a = ax
  · subst ha
    rw [d.batchCoord_eq_zero _ _ h2, d.offCoord_eq_zero _ _ h3,
      start_val d j idx a h1 k (fun b hb => (hk b).1 hb) (fun b hb => ⟨f b, h5 b hb, (hk b).2 hb⟩), h4, hw]
    have := (i a).isLt
    omega
  · rw [hi a ha]
    rcases h6 a ha with ⟨⟨m1, m2⟩, b, e1, e2⟩ | ⟨⟨m1, m2⟩, m3, e⟩
    · rw [d.start_batching _ _ _ m1, d.offCoord_eq_zero _ _ m2, batchCoord_val d j a b _ m1 e1 e2]
      omega
    · rw [d.batchCoord_eq_zero _ _ m1, offCoord_val d j a _ m3 e]
      unfold GatherDims.start
      rw [dif_neg m2]
      omega

/-- A word below 2^31 read as a signed number. -/
theorem toNat_ofNat {n : ℕ} (h : n < 2147483648) : (BitVec.ofNat 32 n).toInt.toNat = n := by
  rw [BitVec.toInt_eq_toNat_of_lt (by rw [BitVec.toNat_ofNat]; omega), BitVec.toNat_ofNat]
  omega

end Nms

end
-- ==== Proof.Take.lean ====
/- The takes of the two programs, read at a word in bounds: a take along the rows of scores, of boxes, of relation
   scores, and of the flattened order. -/
module

public import proofs.«01_k».proof.Proof.Gen.KernelIdeal
public import proofs.«01_k».proof.Proof.Gen.KernelIdeal.Skeleton
public import Idealize.ShloMosaic.Lib.Pointwise
public import Idealize.ShloMosaic.Lib.Pointwise.IndexVar
public import proofs.«01_k».proof.Proof.Gather

@[expose] public section

set_option maxRecDepth 16384

noncomputable section

namespace Cert.KernelIdeal.Gen

open Idealize.ShloMosaic Idealize.ShloMosaic.TcCoe Nms

/-! ### Words in bounds -/

/-- The word a take reads in place of `w`: a negative one counts from the end. -/
def wrapped (c w : BitVec 32) : BitVec 32 := Scalar.select (IntOp.cmpi .slt w 0#32) (IntOp.addi w c) w

theorem slt_zero (n : ℕ) (hn : n < 2147483648) : IntOp.cmpi .slt (BitVec.ofNat 32 n) 0#32 = 0#1 := by
  have : ¬ (BitVec.ofNat 32 n).toInt < 0 := by
    rw [BitVec.toInt_eq_toNat_of_lt (by rw [BitVec.toNat_ofNat]; omega)]; omega
  simp [IntOp.cmpi, BitVec.slt, this]

theorem wrapped_ofNat (c : BitVec 32) (n : ℕ) (hn : n < 2147483648) : wrapped c (BitVec.ofNat 32 n) = BitVec.ofNat 32 n := by
  simp [wrapped, slt_zero n hn, Scalar.select]

theorem sge_zero (n : ℕ) (hn : n < 2147483648) : IntOp.cmpi .sge (BitVec.ofNat 32 n) 0#32 = 1#1 := by
  have : 0 ≤ (BitVec.ofNat 32 n).toInt := by
    rw [BitVec.toInt_eq_toNat_of_lt (by rw [BitVec.toNat_ofNat]; omega)]; omega
  simp [IntOp.cmpi, BitVec.sle, this]

theorem sle_lim (n l : ℕ) (hn : n ≤ l) (hl : l < 2147483648) :
    IntOp.cmpi .sle (BitVec.ofNat 32 n) (BitVec.ofNat 32 l) = 1#1 := by
  have : (BitVec.ofNat 32 n).toInt ≤ (BitVec.ofNat 32 l).toInt := by
    rw [BitVec.toInt_eq_toNat_of_lt (by rw [BitVec.toNat_ofNat]; omega),
      BitVec.toInt_eq_toNat_of_lt (by rw [BitVec.toNat_ofNat]; omega), BitVec.toNat_ofNat, BitVec.toNat_ofNat]; omega
  simp [IntOp.cmpi, BitVec.sle, this]

/-- The mask of a take at a word in bounds. -/
theorem mask_one (c w lim : BitVec 32) (n l : ℕ) (hw : w = BitVec.ofNat 32 n) (hlim : lim = BitVec.ofNat 32 l) (hn : n ≤ l)
    (hl : l < 2147483648) : Finset.fold IntOp.andi 1#1 (fun _ : Fin 1 =>
      IntOp.andi (IntOp.cmpi .sge (Scalar.select (IntOp.cmpi .slt w 0#32) (IntOp.addi w c) w) 0#32)
        (IntOp.cmpi .sle (Scalar.select (IntOp.cmpi .slt w 0#32) (IntOp.addi w c) w) lim)) Finset.univ = 1#1 := by
  subst hw hlim
  have e := wrapped_ofNat c n (by omega)
  unfold wrapped at e
  simp only [e, sge_zero n (by omega), sle_lim n l hn hl]
  decide

/-! ### Rows of scores -/

def wrapRows (i : S2x80x1000.Idx → BitVec 32) : S2x80x1000x1.Idx → BitVec 32 :=
  shapeCast S2x80x1000x1 (select (cmpi .slt i (broadcastInDim S2x80x1000 ![] bcast_S_S2x80x1000 (constantI S_ 32 0#32)))
    (addi i (broadcastInDim S2x80x1000 ![] bcast_S_S2x80x1000 (constantI S_ 32 1000#32))) i) shapeCasts_S2x80x1000_S2x80x1000x1

/-- The take along the last axis of a score array. -/
def takeRows (x : S2x80x1000.Idx → EReal) (i : S2x80x1000.Idx → BitVec 32) : S2x80x1000.Idx → EReal :=
  select (Host.reduce IntOp.andi (andi
      (cmpi .sge (wrapRows i) (broadcastInDim S2x80x1000x1 ![] bcast_S_S2x80x1000x1 (constantI S_ 32 0#32)))
      (cmpi .sle (wrapRows i) (broadcastInDim S2x80x1000x1 ![0, 1, 2, 3] bcast_S1x1x1x1_S2x80x1000x1_0_1_2_3
        (broadcastInDim S1x1x1x1 ![3] bcast_S1_S1x1x1x1_3 (constantI S1 32 999#32)))))
      (constantI S_ 1 1#1) reducesTo_S2x80x1000x1_S2x80x1000_d3 h_S_)
    (Host.gather gather_S2x80x1000_S2x80x1000x1_S2x80x1000_n_2_01_01_2_3_111 x (wrapRows i))
    (broadcastInDim S2x80x1000 ![] bcast_S_S2x80x1000 (constant (F := Ideal) S_ .f32 0x7FC00000#32))

theorem gatherRows {α : Type} (x : S2x80x1000.Idx → α) (w : S2x80x1000x1.Idx → BitVec 32) (b : Fin 2) (c : Fin 80)
    (p q : Fin 1000) (h : w (ix4 b c p (0 : Fin 1)) = BitVec.ofNat 32 q.val) :
    Host.gather gather_S2x80x1000_S2x80x1000x1_S2x80x1000_n_2_01_01_2_3_111 x w (ix3 b c p) = x (ix3 b c q) :=
  gather_along _ (ax := (2 : Fin 3)) (f := ![0, 1, 2, 0]) (g := ![0, 1, 0]) (by decide +kernel) x w _ _ (ix4 b c p (0 : Fin 1))
    (by
      intro a
      fin_cases a
      · exact ⟨fun h => absurd h (by decide), fun _ => rfl⟩
      · exact ⟨fun h => absurd h (by decide), fun _ => rfl⟩
      · exact ⟨fun h => absurd h (by decide), fun _ => rfl⟩
      · exact ⟨fun _ => rfl, fun h => absurd rfl h⟩)
    (by intro a; fin_cases a <;> intro h <;> first | rfl | exact absurd rfl h)
    (by rw [h, toNat_ofNat (by have := q.isLt; omega)]; rfl)

theorem takeRows_read (x : S2x80x1000.Idx → EReal) (i : S2x80x1000.Idx → BitVec 32) (b : Fin 2) (c : Fin 80)
    (p q : Fin 1000) (h : i (ix3 b c p) = BitVec.ofNat 32 q.val) : takeRows x i (ix3 b c p) = x (ix3 b c q) := by
  have hq := q.isLt
  have hw : wrapRows i (ix4 b c p (0 : Fin 1)) = BitVec.ofNat 32 q.val := by
    unfold wrapRows
    pointwise
    rw [h]
    exact wrapped_ofNat _ _ (by omega)
  have hg := gatherRows x (wrapRows i) b c p q hw
  unfold takeRows
  pointwise
  rw [hg]
  unfold wrapRows
  pointwise
  rw [mask_one _ _ _ q.val 999 h rfl (by omega) (by omega)]
  simp [Scalar.select]

/-! ### Rows of boxes and of relation scores -/

def wrapCol (i : S2x300x1.Idx → BitVec 32) : S2x300x1.Idx → BitVec 32 :=
  select (cmpi .slt i (broadcastInDim S2x300x1 ![] bcast_S_S2x300x1 (constantI S_ 32 0#32)))
    (addi i (broadcastInDim S2x300x1 ![] bcast_S_S2x300x1 (constantI S_ 32 1000#32))) i

/-- Which of the chosen rows are in bounds. -/
def colMask (i : S2x300x1.Idx → BitVec 32) : S2x300.Idx → BitVec 1 :=
  Host.reduce IntOp.andi (andi
      (cmpi .sge (wrapCol i) (broadcastInDim S2x300x1 ![] bcast_S_S2x300x1 (constantI S_ 32 0#32)))
      (cmpi .sle (wrapCol i) (broadcastInDim S2x300x1 ![0, 1, 2] bcast_S1x1x1_S2x300x1_0_1_2
        (broadcastInDim S1x1x1 ![2] bcast_S1_S1x1x1_2 (constantI S1 32 999#32)))))
      (constantI S_ 1 1#1) reducesTo_S2x300x1_S2x300_d2 h_S_

theorem wrapCol_read (i : S2x300x1.Idx → BitVec 32) (b : Fin 2) (k : Fin 300) (q : Fin 1000)
    (h : i (ix3 b k (0 : Fin 1)) = BitVec.ofNat 32 q.val) : wrapCol i (ix3 b k (0 : Fin 1)) = BitVec.ofNat 32 q.val := by
  have hq := q.isLt
  unfold wrapCol
  pointwise
  rw [h]
  exact wrapped_ofNat _ _ (by omega)

theorem colMask_read (i : S2x300x1.Idx → BitVec 32) (b : Fin 2) (k : Fin 300) (q : Fin 1000)
    (h : i (ix3 b k (0 : Fin 1)) = BitVec.ofNat 32 q.val) : colMask i (ix2 b k) = 1#1 := by
  have hq := q.isLt
  unfold colMask wrapCol
  pointwise
  have hx : ∀ x : Fin 1, x = 0 := fun x => Subsingleton.elim _ _
  simp only [hx]
  exact mask_one _ _ _ q.val 999 h rfl (by omega) (by omega)

/-- The chosen rows of the boxes. -/
def takeBoxes (x : S2x1000x4.Idx → EReal) (i : S2x300x1.Idx → BitVec 32) : S2x300x4.Idx → EReal :=
  select (broadcastInDim S2x300x4 ![0, 1] bcast_S2x300_S2x300x4_0_1 (colMask i))
    (Host.gather gather_S2x1000x4_S2x300x1_S2x300x4_2_1_0_0_1_2_114 x (wrapCol i))
    (broadcastInDim S2x300x4 ![] bcast_S_S2x300x4 (constant (F := Ideal) S_ .f32 0x7FC00000#32))

/-- The chosen rows of the relation scores. -/
def takeRel (x : S2x1000x50.Idx → EReal) (i : S2x300x1.Idx → BitVec 32) : S2x300x50.Idx → EReal :=
  select (broadcastInDim S2x300x50 ![0, 1] bcast_S2x300_S2x300x50_0_1 (colMask i))
    (Host.gather gather_S2x1000x50_S2x300x1_S2x300x50_2_1_0_0_1_2_1150 x (wrapCol i))
    (broadcastInDim S2x300x50 ![] bcast_S_S2x300x50 (constant (F := Ideal) S_ .f32 0x7FC00000#32))

theorem gatherBoxes (x : S2x1000x4.Idx → EReal) (w : S2x300x1.Idx → BitVec 32) (b : Fin 2) (k : Fin 300) (d : Fin 4)
    (q : Fin 1000) (h : w (ix3 b k (0 : Fin 1)) = BitVec.ofNat 32 q.val) :
    Host.gather gather_S2x1000x4_S2x300x1_S2x300x4_2_1_0_0_1_2_114 x w (ix3 b k d) = x (ix3 b q d) :=
  gather_along _ (ax := (1 : Fin 3)) (f := ![0, 1, 0]) (g := ![0, 0, 2]) (by decide +kernel) x w _ _ (ix3 b k (0 : Fin 1))
    (by
      intro a
      fin_cases a
      · exact ⟨fun h => absurd h (by decide), fun _ => rfl⟩
      · exact ⟨fun h => absurd h (by decide), fun _ => rfl⟩
      · exact ⟨fun _ => rfl, fun h => absurd rfl h⟩)
    (by intro a; fin_cases a <;> intro h <;> first | rfl | exact absurd rfl h)
    (by rw [h, toNat_ofNat (by have := q.isLt; omega)]; rfl)

theorem gatherRel (x : S2x1000x50.Idx → EReal) (w : S2x300x1.Idx → BitVec 32) (b : Fin 2) (k : Fin 300) (d : Fin 50)
    (q : Fin 1000) (h : w (ix3 b k (0 : Fin 1)) = BitVec.ofNat 32 q.val) :
    Host.gather gather_S2x1000x50_S2x300x1_S2x300x50_2_1_0_0_1_2_1150 x w (ix3 b k d) = x (ix3 b q d) :=
  gather_along _ (ax := (1 : Fin 3)) (f := ![0, 1, 0]) (g := ![0, 0, 2]) (by decide +kernel) x w _ _ (ix3 b k (0 : Fin 1))
    (by
      intro a
      fin_cases a
      · exact ⟨fun h => absurd h (by decide), fun _ => rfl⟩
      · exact ⟨fun h => absurd h (by decide), fun _ => rfl⟩
      · exact ⟨fun _ => rfl, fun h => absurd rfl h⟩)
    (by intro a; fin_cases a <;> intro h <;> first | rfl | exact absurd rfl h)
    (by rw [h, toNat_ofNat (by have := q.isLt; omega)]; rfl)

theorem takeBoxes_read (x : S2x1000x4.Idx → EReal) (i : S2x300x1.Idx → BitVec 32) (b : Fin 2) (k : Fin 300) (d : Fin 4)
    (q : Fin 1000) (h : i (ix3 b k (0 : Fin 1)) = BitVec.ofNat 32 q.val) : takeBoxes x i (ix3 b k d) = x (ix3 b q d) := by
  have hg := gatherBoxes x (wrapCol i) b k d q (wrapCol_read i b k q h)
  have hm := colMask_read i b k q h
  unfold takeBoxes
  pointwise
  rw [hg, hm]
  simp [Scalar.select]

theorem takeRel_read (x : S2x1000x50.Idx → EReal) (i : S2x300x1.Idx → BitVec 32) (b : Fin 2) (k : Fin 300) (d : Fin 50)
    (q : Fin 1000) (h : i (ix3 b k (0 : Fin 1)) = BitVec.ofNat 32 q.val) : takeRel x i (ix3 b k d) = x (ix3 b q d) := by
  have hg := gatherRel x (wrapCol i) b k d q (wrapCol_read i b k q h)
  have hm := colMask_read i b k q h
  unfold takeRel
  pointwise
  rw [hg, hm]
  simp [Scalar.select]

/-! ### The flattened order -/

def wrapFlat (i : S2x300.Idx → BitVec 32) : S2x300x1.Idx → BitVec 32 :=
  shapeCast S2x300x1 (select (cmpi .slt i (broadcastInDim S2x300 ![] bcast_S_S2x300 (constantI S_ 32 0#32)))
    (addi i (broadcastInDim S2x300 ![] bcast_S_S2x300 (constantI S_ 32 81920#32))) i) shapeCasts_S2x300_S2x300x1

/-- The take of words along the flattened class and place. -/
def takeFlat (x : S2x81920.Idx → BitVec 32) (i : S2x300.Idx → BitVec 32) : S2x300.Idx → BitVec 32 :=
  select (Host.reduce IntOp.andi (andi
      (cmpi .sge (wrapFlat i) (broadcastInDim S2x300x1 ![] bcast_S_S2x300x1 (constantI S_ 32 0#32)))
      (cmpi .sle (wrapFlat i) (broadcastInDim S2x300x1 ![0, 1, 2] bcast_S1x1x1_S2x300x1_0_1_2
        (broadcastInDim S1x1x1 ![2] bcast_S1_S1x1x1_2 (constantI S1 32 81919#32)))))
      (constantI S_ 1 1#1) reducesTo_S2x300x1_S2x300_d2 h_S_)
    (Host.gather gather_S2x81920_S2x300x1_S2x300_n_1_0_0_1_2_11 x (wrapFlat i))
    (broadcastInDim S2x300 ![] bcast_S_S2x300 (constantI S_ 32 2147483648#32))

theorem gatherFlat (x : S2x81920.Idx → BitVec 32) (w : S2x300x1.Idx → BitVec 32) (b : Fin 2) (k : Fin 300)
    (q : Fin 81920) (h : w (ix3 b k (0 : Fin 1)) = BitVec.ofNat 32 q.val) :
    Host.gather gather_S2x81920_S2x300x1_S2x300_n_1_0_0_1_2_11 x w (ix2 b k) = x (ix2 b q) :=
  gather_along _ (ax := (1 : Fin 2)) (f := ![0, 1, 0]) (g := ![0, 0]) (by decide +kernel) x w _ _ (ix3 b k (0 : Fin 1))
    (by
      intro a
      fin_cases a
      · exact ⟨fun h => absurd h (by decide), fun _ => rfl⟩
      · exact ⟨fun h => absurd h (by decide), fun _ => rfl⟩
      · exact ⟨fun _ => rfl, fun h => absurd rfl h⟩)
    (by intro a; fin_cases a <;> intro h <;> first | rfl | exact absurd rfl h)
    (by rw [h, toNat_ofNat (by have := q.isLt; omega)]; rfl)

theorem takeFlat_read (x : S2x81920.Idx → BitVec 32) (i : S2x300.Idx → BitVec 32) (b : Fin 2) (k : Fin 300)
    (q : Fin 81920) (h : i (ix2 b k) = BitVec.ofNat 32 q.val) : takeFlat x i (ix2 b k) = x (ix2 b q) := by
  have hq := q.isLt
  have hw : wrapFlat i (ix3 b k (0 : Fin 1)) = BitVec.ofNat 32 q.val := by
    unfold wrapFlat
    pointwise
    rw [h]
    exact wrapped_ofNat _ _ (by omega)
  have hg := gatherFlat x (wrapFlat i) b k q hw
  unfold takeFlat
  pointwise
  rw [hg]
  unfold wrapFlat
  pointwise
  rw [mask_one _ _ _ q.val 81919 h rfl (by omega) (by omega)]
  simp [Scalar.select]

end Cert.KernelIdeal.Gen
-- ==== Proof.Tail.lean ====
/- The five results of either program as functions of the boxes, the relation scores and the ranked candidates, and
   what decides them: a candidate below the floor counts for nothing. -/
module

public import proofs.«01_k».proof.Proof.Take

@[expose] public section

set_option maxRecDepth 16384

noncomputable section

namespace Cert.KernelIdeal.Gen

open Idealize.ShloMosaic Idealize.ShloMosaic.TcCoe Nms

/-- A value per candidate as a column. -/
def col {α : Type} (v : S2x300.Idx → α) : S2x300x1.Idx → α := broadcastInDim S2x300x1 ![0, 1] bcast_S2x300_S2x300x1_0_1 v

/-- The candidates whose score is above the floor. -/
def live (vals : S2x300.Idx → EReal) : S2x300.Idx → BitVec 1 :=
  cmpf (F := Ideal) (φ := .f32) .ogt vals (broadcastInDim S2x300 ![] bcast_S_S2x300 (constant (F := Ideal) S_ .f32 0xCCBEBC20#32))

def minusOne : S2x300.Idx → EReal := broadcastInDim S2x300 ![] bcast_S_S2x300 (constant (F := Ideal) S_ .f32 0xBF800000#32)

def minusOneI : S2x300.Idx → BitVec 32 := broadcastInDim S2x300 ![] bcast_S_S2x300 (constantI S_ 32 4294967295#32)

def outBox (x : S2x1000x4.Idx → EReal) (vals : S2x300.Idx → EReal) (idx : S2x300.Idx → BitVec 32) : S2x300x4.Idx → EReal :=
  select (broadcastInDim S2x300x4 ![0, 1, 2] bcast_S2x300x1_S2x300x4_0_1_2 (col (live vals))) (takeBoxes x (col idx))
    (broadcastInDim S2x300x4 ![] bcast_S_S2x300x4 (constant (F := Ideal) S_ .f32 0xBF800000#32))

def outVal (vals : S2x300.Idx → EReal) : S2x300.Idx → EReal := select (live vals) vals minusOne

def outLab (vals : S2x300.Idx → EReal) (lab : S2x300.Idx → BitVec 32) : S2x300.Idx → BitVec 32 :=
  select (live vals) lab minusOneI

/-- The class a candidate's relation scores are greatest at. -/
def relArg (y : S2x300x50.Idx → EReal) : S2x300.Idx → BitVec 32 := fun j =>
  (Host.argReduce (F := Ideal) (φ := .f32) reducer_argmax_f32_i32 y (iotaInDim S2x300x50 32 2)
    (constant (F := Ideal) S_ .f32 0xFF800000#32) (constantI S_ 32 0#32) reducesTo_S2x300x50_S2x300_d2 h_S_ j).2

/-- The greatest of a candidate's relation scores. -/
def relMax (y : S2x300x50.Idx → EReal) : S2x300.Idx → EReal :=
  Host.reduce (FloatOps.maximumf (F := Ideal) (φ := .f32)) y (constant (F := Ideal) S_ .f32 0xFF800000#32)
    reducesTo_S2x300x50_S2x300_d2 h_S_

def outArg (x : S2x1000x50.Idx → EReal) (vals : S2x300.Idx → EReal) (idx : S2x300.Idx → BitVec 32) : S2x300.Idx → BitVec 32 :=
  select (live vals) (relArg (takeRel x (col idx))) minusOneI

def outMax (x : S2x1000x50.Idx → EReal) (vals : S2x300.Idx → EReal) (idx : S2x300.Idx → BitVec 32) : S2x300.Idx → EReal :=
  select (live vals) (relMax (takeRel x (col idx))) minusOne

/-! ### One candidate's results depend on that candidate alone -/

/-- Two arrays with one fiber there have one greatest pair there. -/
theorem argReduce_of_fiber {s t u : Shape} {axes : List (Fin s.rank)} {β : Type} (f : EReal × β → EReal × β → EReal × β)
    (x z : s.Idx → EReal) (y : s.Idx → β) (ix : u.Idx → EReal) (iy : u.Idx → β) (h : s.ReducesTo axes t) (hu : 0 < u.numel)
    (j : t.Idx) (hf : Host.argReduceFiber x y h j = Host.argReduceFiber z y h j) :
    Host.argReduce (F := Ideal) (φ := .f32) f x y ix iy h hu j = Host.argReduce (F := Ideal) (φ := .f32) f z y ix iy h hu j := by
  have e : ∀ w : s.Idx → EReal, Host.argReduce (F := Ideal) (φ := .f32) f w y ix iy h hu j
      = (fun L : List (EReal × β) => if hn : 2 ≤ (L.filter fun p => FloatOps.cmpf (F := Ideal) (φ := .f32) .une p.1 p.1 == 1#1).length then
          (L.filter fun p => FloatOps.cmpf (F := Ideal) (φ := .f32) .une p.1 p.1 == 1#1).get
            ⟨argReduceNaN s axes f L j % (L.filter fun p => FloatOps.cmpf (F := Ideal) (φ := .f32) .une p.1 p.1 == 1#1).length,
              Nat.mod_lt _ (Nat.lt_of_lt_of_le Nat.zero_lt_two hn)⟩
        else L.foldl f (ix (Shape.Idx.first hu), iy (Shape.Idx.first hu))) (Host.argReduceFiber w y h j) := by
    intro w
    rw [Host.argReduce_eq_argReduceWith]
    unfold Host.argReduceWith
    rw [Host.reduce2_eq_foldl_fiber]
    rfl
  rw [e, e, hf]

theorem relArg_local (y z : S2x300x50.Idx → EReal) (b : Fin 2) (k : Fin 300)
    (h : ∀ d : Fin 50, y (ix3 b k d) = z (ix3 b k d)) : relArg y (ix2 b k) = relArg z (ix2 b k) := by
  have hf : Host.argReduceFiber y (iotaInDim S2x300x50 32 2) reducesTo_S2x300x50_S2x300_d2 (ix2 b k)
      = Host.argReduceFiber z (iotaInDim S2x300x50 32 2) reducesTo_S2x300x50_S2x300_d2 (ix2 b k) := by
    unfold Host.argReduceFiber
    refine List.map_congr_left fun n hn => ?_
    have hd := (List.mem_filter.mp hn).2
    simp only [decide_eq_true_eq] at hd
    generalize S2x300x50.rowMajor.symm n = i at hd ⊢
    rw [eq_ix3 i] at hd ⊢
    have h0 := congrFun hd 0
    have h1 := congrFun hd 1
    have e0 : (i 0 : Fin 2) = b := h0
    have e1 : (i 1 : Fin 300) = k := h1
    have := h (i 2)
    rw [← e0, ← e1] at this
    exact Prod.ext this rfl
  exact congrArg Prod.snd (argReduce_of_fiber _ y z _ _ _ _ _ _ hf)

theorem relMax_local (y z : S2x300x50.Idx → EReal) (b : Fin 2) (k : Fin 300)
    (h : ∀ d : Fin 50, y (ix3 b k d) = z (ix3 b k d)) : relMax y (ix2 b k) = relMax z (ix2 b k) := by
  unfold relMax
  pointwise
  simp only [h]

/-- Two rankings that agree where a score is above the floor, and are above it at the same candidates, give the same five
    results, as long as the chosen rows are rows. -/
theorem out_congr (x : S2x1000x4.Idx → EReal) (y : S2x1000x50.Idx → EReal) (vals vals' : S2x300.Idx → EReal)
    (lab lab' idx idx' : S2x300.Idx → BitVec 32)
    (h : ∀ b k, live vals (ix2 b k) = live vals' (ix2 b k) ∧ (live vals' (ix2 b k) = 1#1 → vals (ix2 b k) = vals' (ix2 b k)
      ∧ lab (ix2 b k) = lab' (ix2 b k) ∧ ∃ q : Fin 1000, idx (ix2 b k) = BitVec.ofNat 32 q.val ∧ idx' (ix2 b k) = BitVec.ofNat 32 q.val)) :
    outBox x vals idx = outBox x vals' idx' ∧ outVal vals = outVal vals' ∧ outLab vals lab = outLab vals' lab'
    ∧ outMax y vals idx = outMax y vals' idx' ∧ outArg y vals idx = outArg y vals' idx' := by
  have hc : ∀ {α : Type} (i : S2x300.Idx → α) (b : Fin 2) (k : Fin 300), col i (ix3 b k (0 : Fin 1)) = i (ix2 b k) := by
    intro α i b k
    unfold col
    pointwise
  have hl : ∀ b k, live vals (ix2 b k) = live vals' (ix2 b k) := fun b k => (h b k).1
  have hs : ∀ {α : Type} (b : Fin 2) (k : Fin 300) (u v w : α),
      (live vals' (ix2 b k) = 1#1 → u = v) → Scalar.select (live vals' (ix2 b k)) u w = Scalar.select (live vals' (ix2 b k)) v w := by
    intro α b k u v w hu
    unfold Scalar.select
    split_ifs with hi
    · exact hu hi
    · rfl
  refine ⟨?_, ?_, ?_, ?_, ?_⟩ <;> funext j
  · obtain ⟨b, k, d, rfl⟩ : ∃ (b : Fin 2) (k : Fin 300) (d : Fin 4), j = ix3 b k d := ⟨j 0, j 1, j 2, eq_ix3 j⟩
    unfold outBox
    pointwise
    simp only [hc (live vals), hc (live vals')]
    rw [hl b k]
    refine hs _ _ _ _ _ fun hv => ?_
    obtain ⟨-, -, q, h1, h2⟩ := (h b k).2 hv
    exact (takeBoxes_read x _ b k d q ((hc _ _ _).trans h1)).trans
      (takeBoxes_read x _ b k d q ((hc _ _ _).trans h2)).symm
  · obtain ⟨b, k, rfl⟩ : ∃ (b : Fin 2) (k : Fin 300), j = ix2 b k := ⟨j 0, j 1, eq_ix2 j⟩
    unfold outVal
    pointwise
    rw [hl b k]
    exact hs _ _ _ _ _ fun hv => ((h b k).2 hv).1
  · obtain ⟨b, k, rfl⟩ : ∃ (b : Fin 2) (k : Fin 300), j = ix2 b k := ⟨j 0, j 1, eq_ix2 j⟩
    unfold outLab
    pointwise
    rw [hl b k]
    exact hs _ _ _ _ _ fun hv => ((h b k).2 hv).2.1
  · obtain ⟨b, k, rfl⟩ : ∃ (b : Fin 2) (k : Fin 300), j = ix2 b k := ⟨j 0, j 1, eq_ix2 j⟩
    unfold outMax
    pointwise
    rw [hl b k]
    refine hs _ _ _ _ _ fun hv => ?_
    obtain ⟨-, -, q, h1, h2⟩ := (h b k).2 hv
    exact relMax_local _ _ _ _ fun d => (takeRel_read y _ b k d q ((hc _ _ _).trans h1)).trans
      (takeRel_read y _ b k d q ((hc _ _ _).trans h2)).symm
  · obtain ⟨b, k, rfl⟩ : ∃ (b : Fin 2) (k : Fin 300), j = ix2 b k := ⟨j 0, j 1, eq_ix2 j⟩
    unfold outArg
    pointwise
    rw [hl b k]
    refine hs _ _ _ _ _ fun hv => ?_
    obtain ⟨-, -, q, h1, h2⟩ := (h b k).2 hv
    exact relArg_local _ _ _ _ fun d => (takeRel_read y _ b k d q ((hc _ _ _).trans h1)).trans
      (takeRel_read y _ b k d q ((hc _ _ _).trans h2)).symm

end Cert.KernelIdeal.Gen
-- ==== Proof.Step.lean ====
/- One trip of the suppression loop, as operations on arrays. -/
module
public import proofs.«01_k».proof.Proof.Gen.KernelIdeal
public import proofs.«01_k».proof.Proof.Gen.KernelIdeal.Skeleton
public import Idealize.ShloMosaic.Lib.Pointwise
public import Idealize.ShloMosaic.Lib.Pointwise.IndexVar
@[expose] public section
set_option maxRecDepth 16384
noncomputable section
namespace Cert.KernelIdeal.Gen
open Idealize.ShloMosaic

section Generic
variable {F : FTy → Type} [FloatOps F]

/-- Which of the eight rows of the pivot's tile is row `w mod 8`. -/
def rowMask (v48 : IVec S8x256 32) (w : BitVec 32) : IVec S8x256 1 :=
  let d := Scalar.select (Scalar.cmpi .eq 8#32 0#32) 1#32 8#32
  let q := Scalar.remsi w d
  cmpi .eq v48 (broadcast S8x256 (Scalar.select
    (Scalar.andi (Scalar.xori (Scalar.cmpi .slt q 0#32) (Scalar.cmpi .slt d 0#32)) (Scalar.cmpi .ne q 0#32))
    (Scalar.addi q d) q))

/-- The masked row of a tile: the maximum over its rows, the others held at the sentinel. -/
def pivotRow (m : IVec S8x256 1) (tile : Vec F S8x256 .f32) : FVec F S1x256 .f32 :=
  shapeCast S1x256 (multiReduction .maximumf [0] S256
    (select m tile (broadcast S8x256 (FloatOps.ofBits .f32 4286564766#32))) 4286578688#32
    reduces_S8x256_S256 (by decide) (by decide)) shapeCasts_S256_S1x256

/-- What a trip stores over the rows of its slab, `p·` the pivot's fields and `a·` the slab's. -/
def slabPay (sh : Shape) (hb : S1x256.Broadcasts sh) (hc : sh.ShapeCasts sh) (w : BitVec 32)
    (p6 p7 p8 p9 : FVec F S1x256 .f32) (act : IVec S1x256 1) (pa : FVec F S1x256 .f32)
    (a6 a7 a8 a9 a10 : Vec F sh .f32) (a12 : Vec F sh .i32) (a13 : Vec F sh .f32) : FVec F sh .f32 :=
  shapeCast sh (select
    (andi (andi
      (cmpf .ogt
        (mulf (broadcast sh (FloatOps.ofBits .f32 1077936128#32))
          (mulf
            (maximumf (subf (minimumf (broadcastTo sh p8 hb) a8) (maximumf (broadcastTo sh p6 hb) a6))
              (broadcast sh (FloatOps.ofBits .f32 0#32)))
            (maximumf (subf (minimumf (broadcastTo sh p9 hb) a9) (maximumf (broadcastTo sh p7 hb) a7))
              (broadcast sh (FloatOps.ofBits .f32 0#32)))))
        (addf (broadcastTo sh pa hb) a10))
      (cmpi .sgt a12 (broadcast sh w)))
      (broadcastTo sh act hb))
    (broadcast sh (FloatOps.ofBits .f32 0#32)) a13) hc

/-- The same from the pivot's tiles: `t·` the eight rows the pivot is taken from. -/
def tripPay (sh : Shape) (hb : S1x256.Broadcasts sh) (hc : sh.ShapeCasts sh) (v48 : IVec S8x256 32) (w : BitVec 32)
    (t6 t7 t8 t9 t11 t13 : Vec F S8x256 .f32)
    (a6 a7 a8 a9 a10 : Vec F sh .f32) (a12 : Vec F sh .i32) (a13 : Vec F sh .f32) : FVec F sh .f32 :=
  let m := rowMask v48 w
  slabPay sh hb hc w (pivotRow m t6) (pivotRow m t7) (pivotRow m t8) (pivotRow m t9)
    (cmpf .ogt (mulf (pivotRow m t13) (pivotRow m t11)) (broadcast S1x256 (FloatOps.ofBits .f32 1056964608#32)))
    (mulf (subf (pivotRow m t8) (pivotRow m t6)) (subf (pivotRow m t9) (pivotRow m t7)))
    a6 a7 a8 a9 a10 a12 a13

end Generic

/-- The row mask at row `r` holds exactly when `r` is the pivot's place in its tile. -/
theorem rowMask_apply (i : ℕ) (hi : i < 1024) (r : Fin 8) (l : Fin 256) :
    rowMask (iota .tc S8x256 32 [0] iota_S8x256_d0_w32) (BitVec.ofNat 32 i) (ix2 r l) = BitVec.ofBool (r.val = i % 8) := by
  pointwise [rowMask]
  exact (by decide +kernel : ∀ (i : Fin 1024) (r : Fin 8), IntOp.cmpi CmpIPredicate.eq (BitVec.ofNat 32 ↑r)
      (Scalar.select
        (Scalar.andi
          (Scalar.xori
            (Scalar.cmpi CmpIPredicate.slt
              (Scalar.remsi (BitVec.ofNat 32 i) (Scalar.select (Scalar.cmpi CmpIPredicate.eq 8#32 0#32) 1#32 8#32))
              0#32)
            (Scalar.cmpi CmpIPredicate.slt (Scalar.select (Scalar.cmpi CmpIPredicate.eq 8#32 0#32) 1#32 8#32) 0#32))
          (Scalar.cmpi CmpIPredicate.ne
            (Scalar.remsi (BitVec.ofNat 32 i) (Scalar.select (Scalar.cmpi CmpIPredicate.eq 8#32 0#32) 1#32 8#32)) 0#32))
        (Scalar.addi
          (Scalar.remsi (BitVec.ofNat 32 i) (Scalar.select (Scalar.cmpi CmpIPredicate.eq 8#32 0#32) 1#32 8#32))
          (Scalar.select (Scalar.cmpi CmpIPredicate.eq 8#32 0#32) 1#32 8#32))
        (Scalar.remsi (BitVec.ofNat 32 i) (Scalar.select (Scalar.cmpi CmpIPredicate.eq 8#32 0#32) 1#32 8#32))) =
    BitVec.ofBool (decide (↑r = i.val % 8))) ⟨i, hi⟩ r

/-- A masked maximum is the masked row's value when that is not below the sentinel. -/
theorem pivotRow_apply (i : Fin 8) (m : IVec S8x256 1) (tile : Vec Ideal S8x256 .f32) (l : Fin 256)
   (hm : ∀ r : Fin 8, m (ix2 r l) = BitVec.ofBool (r.val = i.val)) (h : Ideal.ofBits .f32 4286564766#32 ≤ tile (ix2 i l)) :
   pivotRow (F := Ideal) m tile (ix2 0 l) = tile (ix2 i l) := by
  pointwise [pivotRow]
  have e : (fun x : Fin 8 => Scalar.select (m (ix2 x l)) (tile (ix2 x l)) (Ideal.ofBits FTy.f32 4286564766#32))
      = fun x => if x = i then tile (ix2 i l) else Ideal.ofBits FTy.f32 4286564766#32 := by
    funext x
    rw [hm x]
    by_cases hx : x = i
    · subst hx; simp [Scalar.select]
    · rw [if_neg hx]; simp [Scalar.select, decide_eq_false (fun h : x.val = i.val => hx (Fin.ext h))]
  rw [e]
  apply le_antisymm
  · rw [Finset.fold_max_le]
    refine ⟨?_, fun x _ => ?_⟩
    · have : Ideal.ofBits FTy.f32 4286578688#32 = ⊥ := by
        simp [Ideal.ofBits, Ideal.ieee]
      rw [this]; exact bot_le
    · split
      · exact le_rfl
      · exact h
  · rw [Finset.le_fold_max]
    exact Or.inr ⟨i, Finset.mem_univ _, by rw [if_pos rfl]⟩

/-- An array of the block: 1024 rows (sorted positions) by 256 lanes (image and class). -/
abbrev Arr := S1024x256.Idx → EReal

/-- Row `i`'s box overlaps row `j`'s in lane `l`: three intersections exceed the sum of the areas. -/
def Hit (A6 A7 A8 A9 A10 : Arr) (i j : Fin 1024) (l : Fin 256) : Prop :=
  (A8 (ix2 i l) - A6 (ix2 i l)) * (A9 (ix2 i l) - A7 (ix2 i l)) + A10 (ix2 j l)
    < Ideal.ofBits .f32 1077936128#32 *
      (max (min (A8 (ix2 i l)) (A8 (ix2 j l)) - max (A6 (ix2 i l)) (A6 (ix2 j l))) 0 *
        max (min (A9 (ix2 i l)) (A9 (ix2 j l)) - max (A7 (ix2 i l)) (A7 (ix2 j l))) 0)

open Classical in
/-- One trip: row `i`, if still kept and valid, clears the rows after it that it overlaps. -/
def tripAt (A6 A7 A8 A9 A10 A11 : Arr) (i : Fin 1024) (K : Arr) : Arr := fun y =>
  if (Hit A6 A7 A8 A9 A10 i (y 0) (y 1) ∧ i.val < (y 0).val)
      ∧ Ideal.ofBits .f32 1056964608#32 < K (ix2 i (y 1)) * A11 (ix2 i (y 1))
  then 0 else K y

theorem slabPay_apply {n : ℕ} (hb : S1x256.Broadcasts ⟨2, ![n, 256]⟩) (hc : (⟨2, ![n, 256]⟩ : Shape).ShapeCasts ⟨2, ![n, 256]⟩)
    (w : BitVec 32) (p6 p7 p8 p9 : FVec Ideal S1x256 .f32) (act : IVec S1x256 1) (pa : FVec Ideal S1x256 .f32)
    (a6 a7 a8 a9 a10 : Vec Ideal ⟨2, ![n, 256]⟩ .f32) (a12 : Vec Ideal ⟨2, ![n, 256]⟩ .i32) (a13 : Vec Ideal ⟨2, ![n, 256]⟩ .f32)
    (r : Fin n) (l : Fin 256) :
    slabPay (F := Ideal) ⟨2, ![n, 256]⟩ hb hc w p6 p7 p8 p9 act pa a6 a7 a8 a9 a10 a12 a13 (ix2 r l)
      = Scalar.select
      (IntOp.andi
        (IntOp.andi
          (BitVec.ofBool
            (decide
              (pa (ix2 0 l) + a10 (ix2 r l) <
                Ideal.ofBits FTy.f32 1077936128#32 *
                  (max (min (p8 (ix2 0 l)) (a8 (ix2 r l)) - max (p6 (ix2 0 l)) (a6 (ix2 r l))) 0 *
                    max (min (p9 (ix2 0 l)) (a9 (ix2 r l)) - max (p7 (ix2 0 l)) (a7 (ix2 r l))) 0))))
          (IntOp.cmpi CmpIPredicate.sgt (a12 (ix2 r l)) w))
        (act (ix2 0 l)))
      0 (a13 (ix2 r l)) := by
  pointwise [slabPay]

/-- A choice whose bit is the conjunction of three tests. -/
theorem select_three {α : Type} (p q s : Prop) [Decidable p] [Decidable q] [Decidable s] (a b : α) :
    Scalar.select (IntOp.andi (IntOp.andi (BitVec.ofBool (decide p)) (BitVec.ofBool (decide q))) (BitVec.ofBool (decide s))) a b
      = if (p ∧ q) ∧ s then a else b := by
  by_cases hp : p <;> by_cases hq : q <;> by_cases hs : s <;> simp [hp, hq, hs, Scalar.select, IntOp.andi]

/-- A signed comparison of two row numbers. -/
theorem sgt_row (a b : ℕ) (ha : a < 1024) (hb : b < 1024) :
    IntOp.cmpi .sgt (BitVec.ofNat 32 a) (BitVec.ofNat 32 b) = BitVec.ofBool (decide (b < a)) := by
  have h : ∀ n : ℕ, n < 1024 → (BitVec.ofNat 32 n).toInt = n := fun n hn => by
    rw [BitVec.toInt_eq_toNat_of_lt] <;> simp [BitVec.toNat_ofNat] <;> omega
  simp [IntOp.cmpi, BitVec.slt, h a ha, h b hb]

theorem sgt_eq (x : BitVec 32) (a b : ℕ) (_ : x = BitVec.ofNat 32 a) (ha : a < 1024) (hb : b < 1024) :
    IntOp.cmpi .sgt x (BitVec.ofNat 32 b) = BitVec.ofBool (decide (b < a)) := by
  subst x; exact sgt_row a b ha hb

open Classical in
/-- What a trip stores at row `r` of its slab is what the trip makes of the array's row there. -/
theorem tripPay_apply {n : ℕ}
    (hb : S1x256.Broadcasts ⟨2, ![n, 256]⟩) (hc : (⟨2, ![n, 256]⟩ : Shape).ShapeCasts ⟨2, ![n, 256]⟩)
    (i : Fin 1024) (A6 A7 A8 A9 A10 A11 K : Arr) (t6 t7 t8 t9 t11 t13 : Vec Ideal S8x256 .f32)
    (a6 a7 a8 a9 a10 : Vec Ideal ⟨2, ![n, 256]⟩ .f32) (a12 : Vec Ideal ⟨2, ![n, 256]⟩ .i32) (a13 : Vec Ideal ⟨2, ![n, 256]⟩ .f32)
    (tile : Fin 8 → Fin 1024) (htile : ∀ q, (tile q).val = 8 * (i.val / 8) + q.val)
    (row : Fin n → Fin 1024)
    (h6 : ∀ q l, t6 (ix2 q l) = A6 (ix2 (tile q) l)) (h7 : ∀ q l, t7 (ix2 q l) = A7 (ix2 (tile q) l))
    (h8 : ∀ q l, t8 (ix2 q l) = A8 (ix2 (tile q) l)) (h9 : ∀ q l, t9 (ix2 q l) = A9 (ix2 (tile q) l))
    (h11 : ∀ q l, t11 (ix2 q l) = A11 (ix2 (tile q) l)) (h13 : ∀ q l, t13 (ix2 q l) = K (ix2 (tile q) l))
    (g6 : ∀ q l, a6 (ix2 q l) = A6 (ix2 (row q) l)) (g7 : ∀ q l, a7 (ix2 q l) = A7 (ix2 (row q) l))
    (g8 : ∀ q l, a8 (ix2 q l) = A8 (ix2 (row q) l)) (g9 : ∀ q l, a9 (ix2 q l) = A9 (ix2 (row q) l))
    (g10 : ∀ q l, a10 (ix2 q l) = A10 (ix2 (row q) l)) (g13 : ∀ q l, a13 (ix2 q l) = K (ix2 (row q) l))
    (g12 : ∀ q l, a12 (ix2 q l) = BitVec.ofNat 32 (row q).val)
    (s6 : ∀ y, Ideal.ofBits .f32 4286564766#32 ≤ A6 y) (s7 : ∀ y, Ideal.ofBits .f32 4286564766#32 ≤ A7 y)
    (s8 : ∀ y, Ideal.ofBits .f32 4286564766#32 ≤ A8 y) (s9 : ∀ y, Ideal.ofBits .f32 4286564766#32 ≤ A9 y)
    (s11 : ∀ y, Ideal.ofBits .f32 4286564766#32 ≤ A11 y) (s13 : ∀ y, Ideal.ofBits .f32 4286564766#32 ≤ K y)
    (r : Fin n) (l : Fin 256) :
    tripPay (F := Ideal) ⟨2, ![n, 256]⟩ hb hc (iota .tc S8x256 32 [0] iota_S8x256_d0_w32) (BitVec.ofNat 32 i.val)
        t6 t7 t8 t9 t11 t13 a6 a7 a8 a9 a10 a12 a13 (ix2 r l)
      = tripAt A6 A7 A8 A9 A10 A11 i K (ix2 (row r) l) := by
  have hi := i.isLt
  have piv : ∀ (t : Vec Ideal S8x256 .f32) (A : Arr) (_ : ∀ q l, t (ix2 q l) = A (ix2 (tile q) l))
      (_ : ∀ y, Ideal.ofBits .f32 4286564766#32 ≤ A y),
      pivotRow (F := Ideal) (rowMask (iota .tc S8x256 32 [0] iota_S8x256_d0_w32) (BitVec.ofNat 32 i.val)) t (ix2 0 l)
        = A (ix2 i l) := by
    intro t A ht hs
    have e : tile ⟨i.val % 8, Nat.mod_lt _ (by omega)⟩ = i := Fin.ext (by rw [htile]; show 8 * (i.val / 8) + i.val % 8 = i.val; omega)
    rw [pivotRow_apply ⟨i.val % 8, Nat.mod_lt _ (by omega)⟩ _ t l (fun q => rowMask_apply i.val hi q l) (by rw [ht]; exact hs _),
      ht, e]
  have ePa : ∀ l, (mulf (subf (pivotRow (F := Ideal) (rowMask (iota .tc S8x256 32 [0] iota_S8x256_d0_w32) (BitVec.ofNat 32 i.val)) t8)
      (pivotRow (rowMask (iota .tc S8x256 32 [0] iota_S8x256_d0_w32) (BitVec.ofNat 32 i.val)) t6))
      (subf (pivotRow (rowMask (iota .tc S8x256 32 [0] iota_S8x256_d0_w32) (BitVec.ofNat 32 i.val)) t9)
      (pivotRow (rowMask (iota .tc S8x256 32 [0] iota_S8x256_d0_w32) (BitVec.ofNat 32 i.val)) t7))) (ix2 0 l)
      = _ := fun l => by pointwise; rfl
  unfold tripPay
  rw [slabPay_apply, sgt_eq _ _ _ (g12 r l) (row r).isLt hi]
  simp only [ePa]
  pointwise
  rw [select_three]
  simp only [piv t6 A6 h6 s6, piv t7 A7 h7 s7, piv t8 A8 h8 s8, piv t9 A9 h9 s9, piv t11 A11 h11 s11, piv t13 K h13 s13,
    g6, g7, g8, g9, g10, g13]
  unfold tripAt Hit
  congr

end Cert.KernelIdeal.Gen
end
-- ==== Proof.Loop.lean ====
/- A trip of the suppression loop read as a whole array, and the trips in sequence. -/
module
public import proofs.«01_k».proof.Proof.Step
public import Idealize.ShloMosaic.Lib.WritesUnit
public import Idealize.ShloMosaic.Lib.Writes
public import Idealize.ShloMosaic.Lib.Pipeline.FrameBody
@[expose] public section
set_option maxRecDepth 16384
noncomputable section
namespace Cert.KernelIdeal.Gen
open Idealize.ShloMosaic

/-- The sentinel of the masked maximum. -/
abbrev floorV : EReal := Ideal.ofBits .f32 4286564766#32

theorem floorV_le_zero : floorV ≤ 0 := by
  simp only [floorV, Ideal.ofBits, Ideal.ieee]
  simp
  norm_cast
theorem tripAt_of_le (A6 A7 A8 A9 A10 A11 : Arr) (i : Fin 1024) (K : Arr) (y : S1024x256.Idx) (h : (y 0).val ≤ i.val) :
    tripAt A6 A7 A8 A9 A10 A11 i K y = K y := by
  unfold tripAt
  rw [if_neg]
  rintro ⟨⟨_, h'⟩, _⟩
  omega

theorem tripAt_floor (A6 A7 A8 A9 A10 A11 : Arr) (i : Fin 1024) (K : Arr) (hK : ∀ y, floorV ≤ K y) (y) :
    floorV ≤ tripAt A6 A7 A8 A9 A10 A11 i K y := by
  unfold tripAt
  split
  · exact floorV_le_zero
  · exact hK y

section Read
variable {κ : Kind} {sp : Space}
  (v6 v7 v8 v9 v10 v11 v13 : View sig κ sp S1024x256 .f32) (v12 : View sig κ sp S1024x256 .i32)

/-- A load of whole rows from row `o`, at row `q` of it. -/
theorem readAt_rows {e : EltTy} (v : View sig κ sp S1024x256 e) (X : v.ty.Contents (Elt Ideal)) {n o : ℕ} {off : Fin 2 → ℕ}
    (hoff : off = ![o, 0]) (inb : ∀ a : Fin 2, off a + (![n, 256] : Fin 2 → ℕ) a ≤ S1024x256.size a)
    (q : Fin n) (l : Fin 256) (r : Fin 1024) (hr : r.val = o + q.val) :
    v.readAt (Elt Ideal) (Rect.unit (s := S1024x256) off ![n, 256] inb).toLoadRect X (ix2 q l) = v.read (Elt Ideal) X (ix2 r l) := by
  subst hoff
  rw [View.readAt_apply]
  congr 1
  funext a
  apply Fin.ext
  revert a
  refine Fin.forall_fin_two.mpr ⟨?_, ?_⟩
  · show o + 1 * q.val = r.val
    omega
  · show 0 + 1 * l.val = l.val
    omega

/-- A trip's store read back: the whole array after the trip. -/
theorem trip_read {n r0 : ℕ} (hn : r0 + n = 1024)
    (X6 : v6.ty.Contents (Elt Ideal)) (X7 : v7.ty.Contents (Elt Ideal)) (X8 : v8.ty.Contents (Elt Ideal))
    (X9 : v9.ty.Contents (Elt Ideal)) (X10 : v10.ty.Contents (Elt Ideal)) (X11 : v11.ty.Contents (Elt Ideal))
    (X12 : v12.ty.Contents (Elt Ideal)) (f : v13.ty.Contents (Elt Ideal))
    (i : Fin 1024) (hi : r0 ≤ i.val) (off : Fin 2 → ℕ) (hoff : off = ![8 * (i.val / 8), 0])
    (inb8 : ∀ a : Fin 2, off a + S8x256.size a ≤ S1024x256.size a)
    (inbS : ∀ a : Fin 2, (![r0, 0] : Fin 2 → ℕ) a + (![n, 256] : Fin 2 → ℕ) a ≤ S1024x256.size a)
    (hb : S1x256.Broadcasts ⟨2, ![n, 256]⟩) (hc : (⟨2, ![n, 256]⟩ : Shape).ShapeCasts ⟨2, ![n, 256]⟩)
    (w : BitVec 32) (hw : w = BitVec.ofNat 32 i.val)
    (s6 : ∀ y, floorV ≤ v6.read (Elt Ideal) X6 y) (s7 : ∀ y, floorV ≤ v7.read (Elt Ideal) X7 y)
    (s8 : ∀ y, floorV ≤ v8.read (Elt Ideal) X8 y) (s9 : ∀ y, floorV ≤ v9.read (Elt Ideal) X9 y)
    (s11 : ∀ y, floorV ≤ v11.read (Elt Ideal) X11 y) (s13 : ∀ y, floorV ≤ v13.read (Elt Ideal) f y)
    (h12 : ∀ y, v12.read (Elt Ideal) X12 y = BitVec.ofNat 32 (y 0).val) :
    v13.read (Elt Ideal) (v13.writes (Elt Ideal) f [⟨Rect.unit (s := S1024x256) ![r0, 0] ![n, 256] inbS,
      tripPay (F := Ideal) ⟨2, ![n, 256]⟩ hb hc (iota .tc S8x256 32 [0] iota_S8x256_d0_w32) w
        (v6.readAt (Elt Ideal) (Rect.unit (s := S1024x256) off S8x256.size inb8).toLoadRect X6)
        (v7.readAt (Elt Ideal) (Rect.unit (s := S1024x256) off S8x256.size inb8).toLoadRect X7)
        (v8.readAt (Elt Ideal) (Rect.unit (s := S1024x256) off S8x256.size inb8).toLoadRect X8)
        (v9.readAt (Elt Ideal) (Rect.unit (s := S1024x256) off S8x256.size inb8).toLoadRect X9)
        (v11.readAt (Elt Ideal) (Rect.unit (s := S1024x256) off S8x256.size inb8).toLoadRect X11)
        (v13.readAt (Elt Ideal) (Rect.unit (s := S1024x256) off S8x256.size inb8).toLoadRect f)
        (v6.readAt (Elt Ideal) (Rect.unit (s := S1024x256) ![r0, 0] ![n, 256] inbS).toLoadRect X6)
        (v7.readAt (Elt Ideal) (Rect.unit (s := S1024x256) ![r0, 0] ![n, 256] inbS).toLoadRect X7)
        (v8.readAt (Elt Ideal) (Rect.unit (s := S1024x256) ![r0, 0] ![n, 256] inbS).toLoadRect X8)
        (v9.readAt (Elt Ideal) (Rect.unit (s := S1024x256) ![r0, 0] ![n, 256] inbS).toLoadRect X9)
        (v10.readAt (Elt Ideal) (Rect.unit (s := S1024x256) ![r0, 0] ![n, 256] inbS).toLoadRect X10)
        (v12.readAt (Elt Ideal) (Rect.unit (s := S1024x256) ![r0, 0] ![n, 256] inbS).toLoadRect X12)
        (v13.readAt (Elt Ideal) (Rect.unit (s := S1024x256) ![r0, 0] ![n, 256] inbS).toLoadRect f)⟩])
      = tripAt (v6.read (Elt Ideal) X6) (v7.read (Elt Ideal) X7) (v8.read (Elt Ideal) X8) (v9.read (Elt Ideal) X9)
          (v10.read (Elt Ideal) X10) (v11.read (Elt Ideal) X11) i (v13.read (Elt Ideal) f) := by
  subst hw
  have hi' := i.isLt
  funext y
  by_cases hy : r0 ≤ (y 0).val
  · have hlt : (y 0).val < 1024 := (y 0).isLt
    refine (View.read_writes_cons_rows_of_mem (Val := Elt Ideal) v13 f (o := r0) inbS _ [] y
      (ix2 (⟨(y 0).val - r0, by omega⟩ : Fin n) (y 1 : Fin 256)) rfl
      (by show (y 0).val = r0 + ((y 0).val - r0); omega) rfl).trans ?_
    have hrowlt : ∀ q : Fin n, r0 + q.val < 1024 := fun q => by have := q.isLt; omega
    have htlt : ∀ q : Fin 8, 8 * (i.val / 8) + q.val < 1024 := fun q => by have := q.isLt; omega
    have key := tripPay_apply (n := n) hb hc i (v6.read (Elt Ideal) X6) (v7.read (Elt Ideal) X7) (v8.read (Elt Ideal) X8)
      (v9.read (Elt Ideal) X9) (v10.read (Elt Ideal) X10) (v11.read (Elt Ideal) X11) (v13.read (Elt Ideal) f)
      _ _ _ _ _ _ _ _ _ _ _ _ _ (fun q => ⟨8 * (i.val / 8) + q.val, htlt q⟩) (fun _ => rfl)
      (fun q => ⟨r0 + q.val, hrowlt q⟩)
      (fun q l => readAt_rows v6 X6 hoff inb8 q l _ rfl) (fun q l => readAt_rows v7 X7 hoff inb8 q l _ rfl)
      (fun q l => readAt_rows v8 X8 hoff inb8 q l _ rfl) (fun q l => readAt_rows v9 X9 hoff inb8 q l _ rfl)
      (fun q l => readAt_rows v11 X11 hoff inb8 q l _ rfl) (fun q l => readAt_rows v13 f hoff inb8 q l _ rfl)
      (fun q l => readAt_rows v6 X6 rfl inbS q l _ rfl) (fun q l => readAt_rows v7 X7 rfl inbS q l _ rfl)
      (fun q l => readAt_rows v8 X8 rfl inbS q l _ rfl) (fun q l => readAt_rows v9 X9 rfl inbS q l _ rfl)
      (fun q l => readAt_rows v10 X10 rfl inbS q l _ rfl) (fun q l => readAt_rows v13 f rfl inbS q l _ rfl)
      (fun q l => (readAt_rows v12 X12 rfl inbS q l ⟨r0 + q.val, hrowlt q⟩ rfl).trans (h12 _)) s6 s7 s8 s9 s11 s13
      (⟨(y 0).val - r0, by omega⟩ : Fin n) (y 1 : Fin 256)
    refine key.trans (congrArg _ (funext (Fin.forall_fin_two.mpr ⟨Fin.ext ?_, rfl⟩)))
    show r0 + ((y 0).val - r0) = (y 0).val
    omega
  · rw [tripAt_of_le _ _ _ _ _ _ _ _ _ (by omega)]
    exact View.read_writes_cons_rows_of_not_mem (Val := Elt Ideal) v13 f (o := r0) (W := n) inbS _ [] y rfl rfl
      (Or.inl (by omega))

end Read

/-- The first `m` trips in sequence. -/
def trips (A6 A7 A8 A9 A10 A11 : Arr) (K : Arr) : ℕ → Arr
  | 0 => K
  | m + 1 => if h : m < 1024 then tripAt A6 A7 A8 A9 A10 A11 ⟨m, h⟩ (trips A6 A7 A8 A9 A10 A11 K m) else trips A6 A7 A8 A9 A10 A11 K m

theorem trips_floor (A6 A7 A8 A9 A10 A11 : Arr) (K : Arr) (hK : ∀ y, floorV ≤ K y) : ∀ m y, floorV ≤ trips A6 A7 A8 A9 A10 A11 K m y
  | 0, y => hK y
  | m + 1, y => by
    unfold trips
    split
    · exact tripAt_floor _ _ _ _ _ _ _ _ (trips_floor A6 A7 A8 A9 A10 A11 K hK m) y
    · exact trips_floor A6 A7 A8 A9 A10 A11 K hK m y

/-- A loop's pieces read back: trips `base` to `base + m`. -/
theorem loop_read {κ : Kind} {sp : Space} (v : View sig κ sp S1024x256 .f32) (G : v.ty.Contents (Elt Ideal))
    (A6 A7 A8 A9 A10 A11 K : Arr) (hK : ∀ y, floorV ≤ K y) (base N : ℕ) (hN : base + N ≤ 1024)
    (trip : Fin N → v.ty.Contents (Elt Ideal) → List (View.Piece (Elt Ideal) S1024x256 .f32))
    (pb : ℕ → List (View.Piece (Elt Ideal) S1024x256 .f32)) (h0 : pb 0 = [])
    (hs : ∀ k : Fin N, pb (k.val + 1) = trip k (v.writes (Elt Ideal) G (pb k.val)) ++ pb k.val)
    (ht : ∀ (k : Fin N) (f : v.ty.Contents (Elt Ideal)), (∀ y, floorV ≤ v.read (Elt Ideal) f y) →
      v.read (Elt Ideal) (v.writes (Elt Ideal) f (trip k f))
        = tripAt A6 A7 A8 A9 A10 A11 ⟨base + k.val, by have := k.isLt; omega⟩ (v.read (Elt Ideal) f))
    (hG : v.read (Elt Ideal) G = trips A6 A7 A8 A9 A10 A11 K base) :
    v.read (Elt Ideal) (v.writes (Elt Ideal) G (pb N)) = trips A6 A7 A8 A9 A10 A11 K (base + N) := by
  have main : ∀ m, m ≤ N → v.read (Elt Ideal) (v.writes (Elt Ideal) G (pb m)) = trips A6 A7 A8 A9 A10 A11 K (base + m) := by
    intro m
    induction m with
    | zero => intro _; rw [h0]; exact hG
    | succ m ih =>
      intro hm
      have e := ih (by omega)
      have := hs ⟨m, by omega⟩
      simp only at this
      rw [this, View.writes_append, ht ⟨m, by omega⟩ _ (by rw [e]; exact trips_floor _ _ _ _ _ _ _ hK _), e]
      show _ = trips A6 A7 A8 A9 A10 A11 K ((base + m) + 1)
      conv_rhs => unfold trips
      rw [dif_pos (by omega)]
  exact main N le_rfl

end Cert.KernelIdeal.Gen
end
-- ==== Proof.Loops.lean ====
/- The kernel's eight loops: what the array of marks holds after each. -/
module

public import proofs.«01_k».proof.Proof.Loop
public import proofs.«01_k».proof.Proof.Gen.KernelIdeal.Loops

@[expose] public section

set_option maxRecDepth 16384

noncomputable section

namespace Cert.KernelIdeal.Gen

open Idealize.ShloMosaic Idealize.ShloMosaic.TcCoe Idealize.SL.Sem

section Loops

variable (𝒱 : Variants) (c : Dev nD) (bd : Option 𝒱.V)
  (arg0 : Memref sig .tc .vmem S256x1024 .f32) (harg0 : arg0.IsWhole) (arg1 : Memref sig .tc .vmem S256x1024 .f32) (harg1 : arg1.IsWhole)
  (arg2 : Memref sig .tc .vmem S256x1024 .f32) (harg2 : arg2.IsWhole) (arg3 : Memref sig .tc .vmem S256x1024 .f32) (harg3 : arg3.IsWhole)
  (arg4 : Memref sig .tc .vmem S256x1024 .f32) (harg4 : arg4.IsWhole) (arg5 : Memref sig .tc .vmem S256x1024 .f32) (harg5 : arg5.IsWhole)
  (arg6 : Memref sig .tc .vmem S1024x256 .f32) (harg6 : arg6.IsWhole) (arg7 : Memref sig .tc .vmem S1024x256 .f32) (harg7 : arg7.IsWhole)
  (arg8 : Memref sig .tc .vmem S1024x256 .f32) (harg8 : arg8.IsWhole) (arg9 : Memref sig .tc .vmem S1024x256 .f32) (harg9 : arg9.IsWhole)
  (arg10 : Memref sig .tc .vmem S1024x256 .f32) (harg10 : arg10.IsWhole) (arg11 : Memref sig .tc .vmem S1024x256 .f32) (harg11 : arg11.IsWhole)
  (arg12 : Memref sig .tc .vmem S1024x256 .i32) (harg12 : arg12.IsWhole) (arg13 : Memref sig .tc .vmem S1024x256 .f32) (harg13 : arg13.IsWhole)
  (v30 : Vec Ideal S1024x256 .f32)
  (X6 : arg6.view.ty.Contents (Elt Ideal)) (X7 : arg7.view.ty.Contents (Elt Ideal)) (X8 : arg8.view.ty.Contents (Elt Ideal)) (X9 : arg9.view.ty.Contents (Elt Ideal)) (X10 : arg10.view.ty.Contents (Elt Ideal)) (X11 : arg11.view.ty.Contents (Elt Ideal)) (X12 : arg12.view.ty.Contents (Elt Ideal))
  (G : arg13.view.ty.Contents (Elt Ideal)) (K : Arr)
  (s6 : ∀ y, floorV ≤ arg6.view.read (Elt Ideal) X6 y) (s7 : ∀ y, floorV ≤ arg7.view.read (Elt Ideal) X7 y) (s8 : ∀ y, floorV ≤ arg8.view.read (Elt Ideal) X8 y) (s9 : ∀ y, floorV ≤ arg9.view.read (Elt Ideal) X9 y) (s11 : ∀ y, floorV ≤ arg11.view.read (Elt Ideal) X11 y)
  (h12 : ∀ y, arg12.view.read (Elt Ideal) X12 y = BitVec.ofNat 32 (y 0).val) (hK : ∀ y, floorV ≤ K y)

include s6 s7 s8 s9 s11 h12 hK

/-- Loop 1: pivots 0 to 127. -/
theorem loop1_read (hG : arg13.view.read (Elt Ideal) G = trips (arg6.view.read (Elt Ideal) X6) (arg7.view.read (Elt Ideal) X7) (arg8.view.read (Elt Ideal) X8) (arg9.view.read (Elt Ideal) X9) (arg10.view.read (Elt Ideal) X10) (arg11.view.read (Elt Ideal) X11) K 0) :
    arg13.view.read (Elt Ideal) (arg13.view.writes (Elt Ideal) G (pb_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 v30 (iota .tc S8x256 32 [0] iota_S8x256_d0_w32) X6 X7 X8 X9 X10 X11 X12 G k0_t1_loop.trips))
      = trips (arg6.view.read (Elt Ideal) X6) (arg7.view.read (Elt Ideal) X7) (arg8.view.read (Elt Ideal) X8) (arg9.view.read (Elt Ideal) X9) (arg10.view.read (Elt Ideal) X10) (arg11.view.read (Elt Ideal) X11) K 128 :=
  have ht : k0_t1_loop.trips = 128 := by decide +kernel
  have hoff : ∀ k : Fin k0_t1_loop.trips, k0_off1 k = ![8 * ((0 + k.val) / 8), 0] := by decide +kernel
  have hw : ∀ k : Fin k0_t1_loop.trips, Scf.iv 0#32 1#32 k.val = BitVec.ofNat 32 (0 + k.val) := by decide +kernel
  have hlt : ∀ k : Fin k0_t1_loop.trips, 0 + k.val < 1024 := fun k => by have := k.isLt; omega
  (loop_read arg13.view G _ _ _ _ _ _ K hK 0 k0_t1_loop.trips (by omega) _ _ rfl
    (fun k => pb_k0_t1_succ 𝒱 c bd arg0 harg0 arg1 harg1 arg2 harg2 arg3 harg3 arg4 harg4 arg5 harg5 arg6 harg6 arg7 harg7 arg8 harg8 arg9 harg9 arg10 harg10 arg11 harg11 arg12 harg12 arg13 harg13 v30 _ X6 X7 X8 X9 X10 X11 X12 G k)
    (fun k f hf => by
      delta tripL_k0_t1 trip_k0_t1
      dsimp only
      exact trip_read _ _ _ _ _ _ _ _ (r0 := 0) (n := 1024) rfl X6 X7 X8 X9 X10 X11 X12 f ⟨0 + k.val, hlt k⟩ (Nat.le_add_right _ _) _ (hoff k)
        _ _ _ _ _ (hw k) s6 s7 s8 s9 s11 hf h12) hG).trans (by rw [ht])

/-- Loop 2: pivots 128 to 255. -/
theorem loop2_read (hG : arg13.view.read (Elt Ideal) G = trips (arg6.view.read (Elt Ideal) X6) (arg7.view.read (Elt Ideal) X7) (arg8.view.read (Elt Ideal) X8) (arg9.view.read (Elt Ideal) X9) (arg10.view.read (Elt Ideal) X10) (arg11.view.read (Elt Ideal) X11) K 128) :
    arg13.view.read (Elt Ideal) (arg13.view.writes (Elt Ideal) G (pb_k0_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 v30 (iota .tc S8x256 32 [0] iota_S8x256_d0_w32) X6 X7 X8 X9 X10 X11 X12 G k0_t2_loop.trips))
      = trips (arg6.view.read (Elt Ideal) X6) (arg7.view.read (Elt Ideal) X7) (arg8.view.read (Elt Ideal) X8) (arg9.view.read (Elt Ideal) X9) (arg10.view.read (Elt Ideal) X10) (arg11.view.read (Elt Ideal) X11) K 256 :=
  have ht : k0_t2_loop.trips = 128 := by decide +kernel
  have hoff : ∀ k : Fin k0_t2_loop.trips, k0_off2 k = ![8 * ((128 + k.val) / 8), 0] := by decide +kernel
  have hw : ∀ k : Fin k0_t2_loop.trips, Scf.iv 128#32 1#32 k.val = BitVec.ofNat 32 (128 + k.val) := by decide +kernel
  have hlt : ∀ k : Fin k0_t2_loop.trips, 128 + k.val < 1024 := fun k => by have := k.isLt; omega
  (loop_read arg13.view G _ _ _ _ _ _ K hK 128 k0_t2_loop.trips (by omega) _ _ rfl
    (fun k => pb_k0_t2_succ 𝒱 c bd arg0 harg0 arg1 harg1 arg2 harg2 arg3 harg3 arg4 harg4 arg5 harg5 arg6 harg6 arg7 harg7 arg8 harg8 arg9 harg9 arg10 harg10 arg11 harg11 arg12 harg12 arg13 harg13 v30 _ X6 X7 X8 X9 X10 X11 X12 G k)
    (fun k f hf => by
      delta tripL_k0_t2 trip_k0_t2
      dsimp only
      exact trip_read _ _ _ _ _ _ _ _ (r0 := 128) (n := 896) rfl X6 X7 X8 X9 X10 X11 X12 f ⟨128 + k.val, hlt k⟩ (Nat.le_add_right _ _) _ (hoff k)
        _ _ _ _ _ (hw k) s6 s7 s8 s9 s11 hf h12) hG).trans (by rw [ht])

/-- Loop 3: pivots 256 to 383. -/
theorem loop3_read (hG : arg13.view.read (Elt Ideal) G = trips (arg6.view.read (Elt Ideal) X6) (arg7.view.read (Elt Ideal) X7) (arg8.view.read (Elt Ideal) X8) (arg9.view.read (Elt Ideal) X9) (arg10.view.read (Elt Ideal) X10) (arg11.view.read (Elt Ideal) X11) K 256) :
    arg13.view.read (Elt Ideal) (arg13.view.writes (Elt Ideal) G (pb_k0_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 v30 (iota .tc S8x256 32 [0] iota_S8x256_d0_w32) X6 X7 X8 X9 X10 X11 X12 G k0_t3_loop.trips))
      = trips (arg6.view.read (Elt Ideal) X6) (arg7.view.read (Elt Ideal) X7) (arg8.view.read (Elt Ideal) X8) (arg9.view.read (Elt Ideal) X9) (arg10.view.read (Elt Ideal) X10) (arg11.view.read (Elt Ideal) X11) K 384 :=
  have ht : k0_t3_loop.trips = 128 := by decide +kernel
  have hoff : ∀ k : Fin k0_t3_loop.trips, k0_off3 k = ![8 * ((256 + k.val) / 8), 0] := by decide +kernel
  have hw : ∀ k : Fin k0_t3_loop.trips, Scf.iv 256#32 1#32 k.val = BitVec.ofNat 32 (256 + k.val) := by decide +kernel
  have hlt : ∀ k : Fin k0_t3_loop.trips, 256 + k.val < 1024 := fun k => by have := k.isLt; omega
  (loop_read arg13.view G _ _ _ _ _ _ K hK 256 k0_t3_loop.trips (by omega) _ _ rfl
    (fun k => pb_k0_t3_succ 𝒱 c bd arg0 harg0 arg1 harg1 arg2 harg2 arg3 harg3 arg4 harg4 arg5 harg5 arg6 harg6 arg7 harg7 arg8 harg8 arg9 harg9 arg10 harg10 arg11 harg11 arg12 harg12 arg13 harg13 v30 _ X6 X7 X8 X9 X10 X11 X12 G k)
    (fun k f hf => by
      delta tripL_k0_t3 trip_k0_t3
      dsimp only
      exact trip_read _ _ _ _ _ _ _ _ (r0 := 256) (n := 768) rfl X6 X7 X8 X9 X10 X11 X12 f ⟨256 + k.val, hlt k⟩ (Nat.le_add_right _ _) _ (hoff k)
        _ _ _ _ _ (hw k) s6 s7 s8 s9 s11 hf h12) hG).trans (by rw [ht])

/-- Loop 4: pivots 384 to 511. -/
theorem loop4_read (hG : arg13.view.read (Elt Ideal) G = trips (arg6.view.read (Elt Ideal) X6) (arg7.view.read (Elt Ideal) X7) (arg8.view.read (Elt Ideal) X8) (arg9.view.read (Elt Ideal) X9) (arg10.view.read (Elt Ideal) X10) (arg11.view.read (Elt Ideal) X11) K 384) :
    arg13.view.read (Elt Ideal) (arg13.view.writes (Elt Ideal) G (pb_k0_t4 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 v30 (iota .tc S8x256 32 [0] iota_S8x256_d0_w32) X6 X7 X8 X9 X10 X11 X12 G k0_t4_loop.trips))
      = trips (arg6.view.read (Elt Ideal) X6) (arg7.view.read (Elt Ideal) X7) (arg8.view.read (Elt Ideal) X8) (arg9.view.read (Elt Ideal) X9) (arg10.view.read (Elt Ideal) X10) (arg11.view.read (Elt Ideal) X11) K 512 :=
  have ht : k0_t4_loop.trips = 128 := by decide +kernel
  have hoff : ∀ k : Fin k0_t4_loop.trips, k0_off4 k = ![8 * ((384 + k.val) / 8), 0] := by decide +kernel
  have hw : ∀ k : Fin k0_t4_loop.trips, Scf.iv 384#32 1#32 k.val = BitVec.ofNat 32 (384 + k.val) := by decide +kernel
  have hlt : ∀ k : Fin k0_t4_loop.trips, 384 + k.val < 1024 := fun k => by have := k.isLt; omega
  (loop_read arg13.view G _ _ _ _ _ _ K hK 384 k0_t4_loop.trips (by omega) _ _ rfl
    (fun k => pb_k0_t4_succ 𝒱 c bd arg0 harg0 arg1 harg1 arg2 harg2 arg3 harg3 arg4 harg4 arg5 harg5 arg6 harg6 arg7 harg7 arg8 harg8 arg9 harg9 arg10 harg10 arg11 harg11 arg12 harg12 arg13 harg13 v30 _ X6 X7 X8 X9 X10 X11 X12 G k)
    (fun k f hf => by
      delta tripL_k0_t4 trip_k0_t4
      dsimp only
      exact trip_read _ _ _ _ _ _ _ _ (r0 := 384) (n := 640) rfl X6 X7 X8 X9 X10 X11 X12 f ⟨384 + k.val, hlt k⟩ (Nat.le_add_right _ _) _ (hoff k)
        _ _ _ _ _ (hw k) s6 s7 s8 s9 s11 hf h12) hG).trans (by rw [ht])

/-- Loop 5: pivots 512 to 639. -/
theorem loop5_read (hG : arg13.view.read (Elt Ideal) G = trips (arg6.view.read (Elt Ideal) X6) (arg7.view.read (Elt Ideal) X7) (arg8.view.read (Elt Ideal) X8) (arg9.view.read (Elt Ideal) X9) (arg10.view.read (Elt Ideal) X10) (arg11.view.read (Elt Ideal) X11) K 512) :
    arg13.view.read (Elt Ideal) (arg13.view.writes (Elt Ideal) G (pb_k0_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 (iota .tc S8x256 32 [0] iota_S8x256_d0_w32) 512#32 1#32 X6 X7 X8 X9 X10 X11 X12 G k0_t5_loop.trips))
      = trips (arg6.view.read (Elt Ideal) X6) (arg7.view.read (Elt Ideal) X7) (arg8.view.read (Elt Ideal) X8) (arg9.view.read (Elt Ideal) X9) (arg10.view.read (Elt Ideal) X10) (arg11.view.read (Elt Ideal) X11) K 640 :=
  have ht : k0_t5_loop.trips = 128 := by decide +kernel
  have hoff : ∀ k : Fin k0_t5_loop.trips, k0_off5 k = ![8 * ((512 + k.val) / 8), 0] := by decide +kernel
  have hw : ∀ k : Fin k0_t5_loop.trips, Scf.iv 512#32 1#32 k.val = BitVec.ofNat 32 (512 + k.val) := by decide +kernel
  have hlt : ∀ k : Fin k0_t5_loop.trips, 512 + k.val < 1024 := fun k => by have := k.isLt; omega
  (loop_read arg13.view G _ _ _ _ _ _ K hK 512 k0_t5_loop.trips (by omega) _ _ rfl
    (fun k => pb_k0_t5_succ 𝒱 c bd arg0 harg0 arg1 harg1 arg2 harg2 arg3 harg3 arg4 harg4 arg5 harg5 arg6 harg6 arg7 harg7 arg8 harg8 arg9 harg9 arg10 harg10 arg11 harg11 arg12 harg12 arg13 harg13 _ _ _ X6 X7 X8 X9 X10 X11 X12 G k)
    (fun k f hf => by
      delta tripL_k0_t5 trip_k0_t5
      dsimp only
      exact trip_read _ _ _ _ _ _ _ _ (r0 := 512) (n := 512) rfl X6 X7 X8 X9 X10 X11 X12 f ⟨512 + k.val, hlt k⟩ (Nat.le_add_right _ _) _ (hoff k)
        _ _ _ _ _ (hw k) s6 s7 s8 s9 s11 hf h12) hG).trans (by rw [ht])

/-- Loop 6: pivots 640 to 767. -/
theorem loop6_read (hG : arg13.view.read (Elt Ideal) G = trips (arg6.view.read (Elt Ideal) X6) (arg7.view.read (Elt Ideal) X7) (arg8.view.read (Elt Ideal) X8) (arg9.view.read (Elt Ideal) X9) (arg10.view.read (Elt Ideal) X10) (arg11.view.read (Elt Ideal) X11) K 640) :
    arg13.view.read (Elt Ideal) (arg13.view.writes (Elt Ideal) G (pb_k0_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 (iota .tc S8x256 32 [0] iota_S8x256_d0_w32) X6 X7 X8 X9 X10 X11 X12 G k0_t6_loop.trips))
      = trips (arg6.view.read (Elt Ideal) X6) (arg7.view.read (Elt Ideal) X7) (arg8.view.read (Elt Ideal) X8) (arg9.view.read (Elt Ideal) X9) (arg10.view.read (Elt Ideal) X10) (arg11.view.read (Elt Ideal) X11) K 768 :=
  have ht : k0_t6_loop.trips = 128 := by decide +kernel
  have hoff : ∀ k : Fin k0_t6_loop.trips, k0_off6 k = ![8 * ((640 + k.val) / 8), 0] := by decide +kernel
  have hw : ∀ k : Fin k0_t6_loop.trips, Scf.iv 640#32 1#32 k.val = BitVec.ofNat 32 (640 + k.val) := by decide +kernel
  have hlt : ∀ k : Fin k0_t6_loop.trips, 640 + k.val < 1024 := fun k => by have := k.isLt; omega
  (loop_read arg13.view G _ _ _ _ _ _ K hK 640 k0_t6_loop.trips (by omega) _ _ rfl
    (fun k => pb_k0_t6_succ 𝒱 c bd arg0 harg0 arg1 harg1 arg2 harg2 arg3 harg3 arg4 harg4 arg5 harg5 arg6 harg6 arg7 harg7 arg8 harg8 arg9 harg9 arg10 harg10 arg11 harg11 arg12 harg12 arg13 harg13 _ X6 X7 X8 X9 X10 X11 X12 G k)
    (fun k f hf => by
      delta tripL_k0_t6 trip_k0_t6
      dsimp only
      exact trip_read _ _ _ _ _ _ _ _ (r0 := 640) (n := 384) rfl X6 X7 X8 X9 X10 X11 X12 f ⟨640 + k.val, hlt k⟩ (Nat.le_add_right _ _) _ (hoff k)
        _ _ _ _ _ (hw k) s6 s7 s8 s9 s11 hf h12) hG).trans (by rw [ht])

/-- Loop 7: pivots 768 to 895. -/
theorem loop7_read (hG : arg13.view.read (Elt Ideal) G = trips (arg6.view.read (Elt Ideal) X6) (arg7.view.read (Elt Ideal) X7) (arg8.view.read (Elt Ideal) X8) (arg9.view.read (Elt Ideal) X9) (arg10.view.read (Elt Ideal) X10) (arg11.view.read (Elt Ideal) X11) K 768) :
    arg13.view.read (Elt Ideal) (arg13.view.writes (Elt Ideal) G (pb_k0_t7 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 (iota .tc S8x256 32 [0] iota_S8x256_d0_w32) X6 X7 X8 X9 X10 X11 X12 G k0_t7_loop.trips))
      = trips (arg6.view.read (Elt Ideal) X6) (arg7.view.read (Elt Ideal) X7) (arg8.view.read (Elt Ideal) X8) (arg9.view.read (Elt Ideal) X9) (arg10.view.read (Elt Ideal) X10) (arg11.view.read (Elt Ideal) X11) K 896 :=
  have ht : k0_t7_loop.trips = 128 := by decide +kernel
  have hoff : ∀ k : Fin k0_t7_loop.trips, k0_off7 k = ![8 * ((768 + k.val) / 8), 0] := by decide +kernel
  have hw : ∀ k : Fin k0_t7_loop.trips, Scf.iv 768#32 1#32 k.val = BitVec.ofNat 32 (768 + k.val) := by decide +kernel
  have hlt : ∀ k : Fin k0_t7_loop.trips, 768 + k.val < 1024 := fun k => by have := k.isLt; omega
  (loop_read arg13.view G _ _ _ _ _ _ K hK 768 k0_t7_loop.trips (by omega) _ _ rfl
    (fun k => pb_k0_t7_succ 𝒱 c bd arg0 harg0 arg1 harg1 arg2 harg2 arg3 harg3 arg4 harg4 arg5 harg5 arg6 harg6 arg7 harg7 arg8 harg8 arg9 harg9 arg10 harg10 arg11 harg11 arg12 harg12 arg13 harg13 _ X6 X7 X8 X9 X10 X11 X12 G k)
    (fun k f hf => by
      delta tripL_k0_t7 trip_k0_t7
      dsimp only
      exact trip_read _ _ _ _ _ _ _ _ (r0 := 768) (n := 256) rfl X6 X7 X8 X9 X10 X11 X12 f ⟨768 + k.val, hlt k⟩ (Nat.le_add_right _ _) _ (hoff k)
        _ _ _ _ _ (hw k) s6 s7 s8 s9 s11 hf h12) hG).trans (by rw [ht])

/-- Loop 8: pivots 896 to 999. -/
theorem loop8_read (hG : arg13.view.read (Elt Ideal) G = trips (arg6.view.read (Elt Ideal) X6) (arg7.view.read (Elt Ideal) X7) (arg8.view.read (Elt Ideal) X8) (arg9.view.read (Elt Ideal) X9) (arg10.view.read (Elt Ideal) X10) (arg11.view.read (Elt Ideal) X11) K 896) :
    arg13.view.read (Elt Ideal) (arg13.view.writes (Elt Ideal) G (pb_k0_t8 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 (iota .tc S8x256 32 [0] iota_S8x256_d0_w32) X6 X7 X8 X9 X10 X11 X12 G k0_t8_loop.trips))
      = trips (arg6.view.read (Elt Ideal) X6) (arg7.view.read (Elt Ideal) X7) (arg8.view.read (Elt Ideal) X8) (arg9.view.read (Elt Ideal) X9) (arg10.view.read (Elt Ideal) X10) (arg11.view.read (Elt Ideal) X11) K 1000 :=
  have ht : k0_t8_loop.trips = 104 := by decide +kernel
  have hoff : ∀ k : Fin k0_t8_loop.trips, k0_off8 k = ![8 * ((896 + k.val) / 8), 0] := by decide +kernel
  have hw : ∀ k : Fin k0_t8_loop.trips, Scf.iv 896#32 1#32 k.val = BitVec.ofNat 32 (896 + k.val) := by decide +kernel
  have hlt : ∀ k : Fin k0_t8_loop.trips, 896 + k.val < 1024 := fun k => by have := k.isLt; omega
  (loop_read arg13.view G _ _ _ _ _ _ K hK 896 k0_t8_loop.trips (by omega) _ _ rfl
    (fun k => pb_k0_t8_succ 𝒱 c bd arg0 harg0 arg1 harg1 arg2 harg2 arg3 harg3 arg4 harg4 arg5 harg5 arg6 harg6 arg7 harg7 arg8 harg8 arg9 harg9 arg10 harg10 arg11 harg11 arg12 harg12 arg13 harg13 _ X6 X7 X8 X9 X10 X11 X12 G k)
    (fun k f hf => by
      delta tripL_k0_t8 trip_k0_t8
      dsimp only
      exact trip_read _ _ _ _ _ _ _ _ (r0 := 896) (n := 128) rfl X6 X7 X8 X9 X10 X11 X12 f ⟨896 + k.val, hlt k⟩ (Nat.le_add_right _ _) _ (hoff k)
        _ _ _ _ _ (hw k) s6 s7 s8 s9 s11 hf h12) hG).trans (by rw [ht])

end Loops

end Cert.KernelIdeal.Gen

end
-- ==== Proof.KBody.lean ====
/- What the kernel's one call computes: the marks after every pivot, times the mask of valid rows. -/
module

public import proofs.«01_k».proof.Proof.Loops
public import proofs.«01_k».proof.Proof.Gen.KernelIdeal.Frame
public import Idealize.ShloMosaic.Lib.Pipeline.Value
public import Idealize.ShloMosaic.Lib.VecWindow

@[expose] public section

set_option maxRecDepth 16384

noncomputable section

namespace Cert.KernelIdeal.Gen

open Idealize.ShloMosaic Idealize.ShloMosaic.TcCoe Idealize.SL.Sem

/-- A block with its two axes exchanged. -/
def flip (x : S256x1024.Idx → EReal) : Arr := fun y => x (ix2 (y 1 : Fin 256) (y 0 : Fin 1024))

/-- The areas of the rows' boxes. -/
def areas (x0 x1 x2 x3 : S256x1024.Idx → EReal) : Arr := fun y => (flip x2 y - flip x0 y) * (flip x3 y - flip x1 y)

/-- The marks after the first 1000 rows have served as pivot, times the mask of valid rows. -/
def marks (x0 x1 x2 x3 x4 : S256x1024.Idx → EReal) : Arr := fun y =>
  trips (flip x0) (flip x1) (flip x2) (flip x3) (areas x0 x1 x2 x3) (flip x4) (fun _ => 1) 1000 y * flip x4 y

theorem off_zero : (![0, 0] : Fin 2 → ℕ) = fun _ => 0 := by
  funext a; revert a; exact Fin.forall_fin_two.mpr ⟨rfl, rfl⟩

theorem pay_flip (x : S256x1024.Idx → EReal) : k0_pay70 (F := Ideal) x = flip x := by
  funext y
  rw [eq_ix2 y]
  unfold k0_pay70 flip
  pointwise

theorem pay_area (a b c d : Arr) : k0_pay75 (F := Ideal) a b c d = fun y => (a y - b y) * (c y - d y) := by
  funext y
  rw [eq_ix2 y]
  unfold k0_pay75
  pointwise

theorem pay_rows (y : S1024x256.Idx) : k0_pay76 y = BitVec.ofNat 32 (y 0).val := by
  rw [eq_ix2 y]
  unfold k0_pay76
  pointwise

theorem pay_ones (y : S1024x256.Idx) : k0_pay77 (F := Ideal) y = 1 := by
  rw [eq_ix2 y]
  unfold k0_pay77
  pointwise

theorem floorV_le_one : floorV ≤ 1 := floorV_le_zero.trans zero_le_one

section Body

variable (c : Dev nD)
  (arg0 : Memref sig .tc .vmem S256x1024 .f32) (harg0 : arg0.IsWhole) (arg1 : Memref sig .tc .vmem S256x1024 .f32) (harg1 : arg1.IsWhole)
  (arg2 : Memref sig .tc .vmem S256x1024 .f32) (harg2 : arg2.IsWhole) (arg3 : Memref sig .tc .vmem S256x1024 .f32) (harg3 : arg3.IsWhole)
  (arg4 : Memref sig .tc .vmem S256x1024 .f32) (harg4 : arg4.IsWhole) (arg5 : Memref sig .tc .vmem S256x1024 .f32) (harg5 : arg5.IsWhole)
  (arg6 : Memref sig .tc .vmem S1024x256 .f32) (harg6 : arg6.IsWhole) (arg7 : Memref sig .tc .vmem S1024x256 .f32) (harg7 : arg7.IsWhole)
  (arg8 : Memref sig .tc .vmem S1024x256 .f32) (harg8 : arg8.IsWhole) (arg9 : Memref sig .tc .vmem S1024x256 .f32) (harg9 : arg9.IsWhole)
  (arg10 : Memref sig .tc .vmem S1024x256 .f32) (harg10 : arg10.IsWhole) (arg11 : Memref sig .tc .vmem S1024x256 .f32) (harg11 : arg11.IsWhole)
  (arg12 : Memref sig .tc .vmem S1024x256 .i32) (harg12 : arg12.IsWhole) (arg13 : Memref sig .tc .vmem S1024x256 .f32) (harg13 : arg13.IsWhole)
  (x0 x1 x2 x3 x4 : S256x1024.Idx → EReal)

theorem read6 : arg6.view.read (Elt Ideal) (arg6.view.writes (Elt Ideal) arg6.view.junk (kernelRun0_A.sl.HS0_1 (F := Ideal) c arg0 harg0 x0)) = flip x0 := by
  rw [View.read_writes_junk_eq_canon]
  unfold kernelRun0_A.sl.HS0_1
  rw [View.canon_unit_zero off_zero, View.readAt_full, harg0.read_unread]
  exact pay_flip x0

theorem read7 : arg7.view.read (Elt Ideal) (arg7.view.writes (Elt Ideal) arg7.view.junk (kernelRun0_A.sl.HS1_1 (F := Ideal) c arg1 harg1 x1)) = flip x1 := by
  rw [View.read_writes_junk_eq_canon]
  unfold kernelRun0_A.sl.HS1_1
  rw [View.canon_unit_zero off_zero, View.readAt_full, harg1.read_unread]
  exact pay_flip x1

theorem read8 : arg8.view.read (Elt Ideal) (arg8.view.writes (Elt Ideal) arg8.view.junk (kernelRun0_A.sl.HS2_1 (F := Ideal) c arg2 harg2 x2)) = flip x2 := by
  rw [View.read_writes_junk_eq_canon]
  unfold kernelRun0_A.sl.HS2_1
  rw [View.canon_unit_zero off_zero, View.readAt_full, harg2.read_unread]
  exact pay_flip x2

theorem read9 : arg9.view.read (Elt Ideal) (arg9.view.writes (Elt Ideal) arg9.view.junk (kernelRun0_A.sl.HS3_1 (F := Ideal) c arg3 harg3 x3)) = flip x3 := by
  rw [View.read_writes_junk_eq_canon]
  unfold kernelRun0_A.sl.HS3_1
  rw [View.canon_unit_zero off_zero, View.readAt_full, harg3.read_unread]
  exact pay_flip x3

theorem read11 : arg11.view.read (Elt Ideal) (arg11.view.writes (Elt Ideal) arg11.view.junk (kernelRun0_A.sl.HS5_1 (F := Ideal) c arg4 harg4 x4)) = flip x4 := by
  rw [View.read_writes_junk_eq_canon]
  unfold kernelRun0_A.sl.HS5_1
  rw [View.canon_unit_zero off_zero, View.readAt_full, harg4.read_unread]
  exact pay_flip x4

theorem read10 : arg10.view.read (Elt Ideal) (arg10.view.writes (Elt Ideal) arg10.view.junk (kernelRun0_A.sl.HS4_1 (F := Ideal) c arg0 harg0 arg1 harg1 arg2 harg2 arg3 harg3 arg6 arg7 arg8 arg9 x0 x1 x2 x3)) = areas x0 x1 x2 x3 := by
  rw [View.read_writes_junk_eq_canon]
  unfold kernelRun0_A.sl.HS4_1
  rw [View.canon_unit_zero off_zero, pay_area]
  have e0 : kernelRun0_A.sl.v31 (F := Ideal) c arg0 harg0 arg6 x0 = flip x0 := (View.readAt_full _ _ _).trans (read6 c arg0 harg0 arg6 x0)
  have e1 : kernelRun0_A.sl.v34 (F := Ideal) c arg1 harg1 arg7 x1 = flip x1 := (View.readAt_full _ _ _).trans (read7 c arg1 harg1 arg7 x1)
  have e2 : kernelRun0_A.sl.v30 (F := Ideal) c arg2 harg2 arg8 x2 = flip x2 := (View.readAt_full _ _ _).trans (read8 c arg2 harg2 arg8 x2)
  have e3 : kernelRun0_A.sl.v33 (F := Ideal) c arg3 harg3 arg9 x3 = flip x3 := (View.readAt_full _ _ _).trans (read9 c arg3 harg3 arg9 x3)
  rw [e0, e1, e2, e3]
  rfl

theorem read12 (y : S1024x256.Idx) : arg12.view.read (Elt Ideal) (arg12.view.writes (Elt Ideal) arg12.view.junk (kernelRun0_A.sl.HS6_1 (F := Ideal))) y = BitVec.ofNat 32 (y 0).val := by
  rw [View.read_writes_junk_eq_canon]
  unfold kernelRun0_A.sl.HS6_1
  rw [View.canon_unit_zero off_zero]
  exact pay_rows y

theorem read13 : arg13.view.read (Elt Ideal) (arg13.view.writes (Elt Ideal) arg13.view.junk (kernelRun0_A.sl.HS7_1 (F := Ideal))) = fun _ => 1 := by
  rw [View.read_writes_junk_eq_canon]
  unfold kernelRun0_A.sl.HS7_1
  rw [View.canon_unit_zero off_zero]
  exact funext pay_ones

set_option maxHeartbeats 1000000 in
/-- The marks as the last line of the call loads them. -/
theorem loaded (s0 : ∀ y, floorV ≤ x0 y) (s1 : ∀ y, floorV ≤ x1 y) (s2 : ∀ y, floorV ≤ x2 y) (s3 : ∀ y, floorV ≤ x3 y)
    (s4 : ∀ y, floorV ≤ x4 y) :
    kernelRun0_A.sl.v57 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4
      = trips (flip x0) (flip x1) (flip x2) (flip x3) (areas x0 x1 x2 x3) (flip x4) (fun _ => 1) 1000 := by
  have h6 := read6 c arg0 harg0 arg6 x0
  have s6 : ∀ y, floorV ≤ arg6.view.read (Elt Ideal) (arg6.view.writes (Elt Ideal) arg6.view.junk (kernelRun0_A.sl.HS0_1 (F := Ideal) c arg0 harg0 x0)) y := fun y => by rw [h6]; exact s0 _
  have h7 := read7 c arg1 harg1 arg7 x1
  have s7 : ∀ y, floorV ≤ arg7.view.read (Elt Ideal) (arg7.view.writes (Elt Ideal) arg7.view.junk (kernelRun0_A.sl.HS1_1 (F := Ideal) c arg1 harg1 x1)) y := fun y => by rw [h7]; exact s1 _
  have h8 := read8 c arg2 harg2 arg8 x2
  have s8 : ∀ y, floorV ≤ arg8.view.read (Elt Ideal) (arg8.view.writes (Elt Ideal) arg8.view.junk (kernelRun0_A.sl.HS2_1 (F := Ideal) c arg2 harg2 x2)) y := fun y => by rw [h8]; exact s2 _
  have h9 := read9 c arg3 harg3 arg9 x3
  have s9 : ∀ y, floorV ≤ arg9.view.read (Elt Ideal) (arg9.view.writes (Elt Ideal) arg9.view.junk (kernelRun0_A.sl.HS3_1 (F := Ideal) c arg3 harg3 x3)) y := fun y => by rw [h9]; exact s3 _
  have h11 := read11 c arg4 harg4 arg11 x4
  have s11 : ∀ y, floorV ≤ arg11.view.read (Elt Ideal) (arg11.view.writes (Elt Ideal) arg11.view.junk (kernelRun0_A.sl.HS5_1 (F := Ideal) c arg4 harg4 x4)) y := fun y => by rw [h11]; exact s4 _
  have h10 := read10 c arg0 harg0 arg1 harg1 arg2 harg2 arg3 harg3 arg6 arg7 arg8 arg9 arg10 x0 x1 x2 x3
  have h12 := read12 arg12
  have hK : ∀ y : S1024x256.Idx, floorV ≤ (fun _ => 1 : Arr) y := fun _ => floorV_le_one
  have g0 := read13 arg13
  have g1 := loop1_read Variants.none c none arg0 harg0 arg1 harg1 arg2 harg2 arg3 harg3 arg4 harg4 arg5 harg5 arg6 harg6 arg7 harg7 arg8 harg8 arg9 harg9 arg10 harg10 arg11 harg11 arg12 harg12 arg13 harg13 (kernelRun0_A.sl.v30 (F := Ideal) c arg2 harg2 arg8 x2) _ _ _ _ (arg10.view.writes (Elt Ideal) arg10.view.junk (kernelRun0_A.sl.HS4_1 (F := Ideal) c arg0 harg0 arg1 harg1 arg2 harg2 arg3 harg3 arg6 arg7 arg8 arg9 x0 x1 x2 x3)) _ _ _ _ s6 s7 s8 s9 s11 h12 hK g0
  rw [← View.writes_append] at g1
  have g2 := loop2_read Variants.none c none arg0 harg0 arg1 harg1 arg2 harg2 arg3 harg3 arg4 harg4 arg5 harg5 arg6 harg6 arg7 harg7 arg8 harg8 arg9 harg9 arg10 harg10 arg11 harg11 arg12 harg12 arg13 harg13 (kernelRun0_A.sl.v30 (F := Ideal) c arg2 harg2 arg8 x2) _ _ _ _ (arg10.view.writes (Elt Ideal) arg10.view.junk (kernelRun0_A.sl.HS4_1 (F := Ideal) c arg0 harg0 arg1 harg1 arg2 harg2 arg3 harg3 arg6 arg7 arg8 arg9 x0 x1 x2 x3)) _ _ _ _ s6 s7 s8 s9 s11 h12 hK g1
  rw [← View.writes_append] at g2
  have g3 := loop3_read Variants.none c none arg0 harg0 arg1 harg1 arg2 harg2 arg3 harg3 arg4 harg4 arg5 harg5 arg6 harg6 arg7 harg7 arg8 harg8 arg9 harg9 arg10 harg10 arg11 harg11 arg12 harg12 arg13 harg13 (kernelRun0_A.sl.v30 (F := Ideal) c arg2 harg2 arg8 x2) _ _ _ _ (arg10.view.writes (Elt Ideal) arg10.view.junk (kernelRun0_A.sl.HS4_1 (F := Ideal) c arg0 harg0 arg1 harg1 arg2 harg2 arg3 harg3 arg6 arg7 arg8 arg9 x0 x1 x2 x3)) _ _ _ _ s6 s7 s8 s9 s11 h12 hK g2
  rw [← View.writes_append] at g3
  have g4 := loop4_read Variants.none c none arg0 harg0 arg1 harg1 arg2 harg2 arg3 harg3 arg4 harg4 arg5 harg5 arg6 harg6 arg7 harg7 arg8 harg8 arg9 harg9 arg10 harg10 arg11 harg11 arg12 harg12 arg13 harg13 (kernelRun0_A.sl.v30 (F := Ideal) c arg2 harg2 arg8 x2) _ _ _ _ (arg10.view.writes (Elt Ideal) arg10.view.junk (kernelRun0_A.sl.HS4_1 (F := Ideal) c arg0 harg0 arg1 harg1 arg2 harg2 arg3 harg3 arg6 arg7 arg8 arg9 x0 x1 x2 x3)) _ _ _ _ s6 s7 s8 s9 s11 h12 hK g3
  rw [← View.writes_append] at g4
  have g5 := loop5_read Variants.none c none arg0 harg0 arg1 harg1 arg2 harg2 arg3 harg3 arg4 harg4 arg5 harg5 arg6 harg6 arg7 harg7 arg8 harg8 arg9 harg9 arg10 harg10 arg11 harg11 arg12 harg12 arg13 harg13 _ _ _ _ (arg10.view.writes (Elt Ideal) arg10.view.junk (kernelRun0_A.sl.HS4_1 (F := Ideal) c arg0 harg0 arg1 harg1 arg2 harg2 arg3 harg3 arg6 arg7 arg8 arg9 x0 x1 x2 x3)) _ _ _ _ s6 s7 s8 s9 s11 h12 hK g4
  rw [← View.writes_append] at g5
  have g6 := loop6_read Variants.none c none arg0 harg0 arg1 harg1 arg2 harg2 arg3 harg3 arg4 harg4 arg5 harg5 arg6 harg6 arg7 harg7 arg8 harg8 arg9 harg9 arg10 harg10 arg11 harg11 arg12 harg12 arg13 harg13 _ _ _ _ (arg10.view.writes (Elt Ideal) arg10.view.junk (kernelRun0_A.sl.HS4_1 (F := Ideal) c arg0 harg0 arg1 harg1 arg2 harg2 arg3 harg3 arg6 arg7 arg8 arg9 x0 x1 x2 x3)) _ _ _ _ s6 s7 s8 s9 s11 h12 hK g5
  rw [← View.writes_append] at g6
  have g7 := loop7_read Variants.none c none arg0 harg0 arg1 harg1 arg2 harg2 arg3 harg3 arg4 harg4 arg5 harg5 arg6 harg6 arg7 harg7 arg8 harg8 arg9 harg9 arg10 harg10 arg11 harg11 arg12 harg12 arg13 harg13 _ _ _ _ (arg10.view.writes (Elt Ideal) arg10.view.junk (kernelRun0_A.sl.HS4_1 (F := Ideal) c arg0 harg0 arg1 harg1 arg2 harg2 arg3 harg3 arg6 arg7 arg8 arg9 x0 x1 x2 x3)) _ _ _ _ s6 s7 s8 s9 s11 h12 hK g6
  rw [← View.writes_append] at g7
  have g8 := loop8_read Variants.none c none arg0 harg0 arg1 harg1 arg2 harg2 arg3 harg3 arg4 harg4 arg5 harg5 arg6 harg6 arg7 harg7 arg8 harg8 arg9 harg9 arg10 harg10 arg11 harg11 arg12 harg12 arg13 harg13 _ _ _ _ (arg10.view.writes (Elt Ideal) arg10.view.junk (kernelRun0_A.sl.HS4_1 (F := Ideal) c arg0 harg0 arg1 harg1 arg2 harg2 arg3 harg3 arg6 arg7 arg8 arg9 x0 x1 x2 x3)) _ _ _ _ s6 s7 s8 s9 s11 h12 hK g7
  rw [← View.writes_append] at g8
  rw [h6, h7, h8, h9, h10, h11] at g8
  delta kernelRun0_A.sl.v57
  refine (View.readAt_full _ _ _).trans g8

set_option maxHeartbeats 1000000 in
/-- What the call stores: the marks, axes exchanged back. -/
theorem stored (s0 : ∀ y, floorV ≤ x0 y) (s1 : ∀ y, floorV ≤ x1 y) (s2 : ∀ y, floorV ≤ x2 y) (s3 : ∀ y, floorV ≤ x3 y)
    (s4 : ∀ y, floorV ≤ x4 y) :
    out0_A_5 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4
      = fun j => marks x0 x1 x2 x3 x4 (ix2 (j 1 : Fin 1024) (j 0 : Fin 256)) := by
  have e : kernelRun0_A.sl.v58 (F := Ideal) c arg4 harg4 arg11 x4 = flip x4 := (View.readAt_full _ _ _).trans (read11 c arg4 harg4 arg11 x4)
  have l := loaded c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 s0 s1 s2 s3 s4
  unfold out0_A_5
  rw [View.read_writes_junk_eq_canon]
  refine (View.canon_unit_zero off_zero _ _).trans ?_
  rw [l, e]
  funext j
  rw [eq_ix2 j]
  unfold k0_pay5 marks
  pointwise

end Body

end Cert.KernelIdeal.Gen

end
-- ==== Proof.KPost.lean ====
/- What the operations after the kernel's call leave: the candidates ranked, and the five results of that ranking. -/
module

public import proofs.«01_k».proof.Proof.Tail
public import proofs.«01_k».proof.Proof.KBody
public import Idealize.ShloMosaic.Lib.StableHlo.RunLoop

@[expose] public section

set_option maxRecDepth 16384

noncomputable section

namespace Cert.KernelIdeal.Gen

open Cert.KernelIdeal
open Idealize.ShloMosaic Idealize.ShloMosaic.TcCoe Idealize.ShloMosaic.Tactic
open Idealize.ShloMosaic.StableHlo

/-- The marked candidates, class by class, the call's padding cut off the classes. -/
def keptK (w : S256x1024.Idx → EReal) : S2x80x1024.Idx → BitVec 1 :=
  cmpf (F := Ideal) (φ := .f32) .ogt (extractStridedSlice S2x80x1024 ![0, 0, 0]
      (shapeCast S2x128x1024 w shapeCasts_S256x1024_S2x128x1024) slices_S2x128x1024_S2x80x1024_0_0_0)
    (broadcastInDim S2x80x1024 ![] bcast_S_S2x80x1024 (constant (F := Ideal) S_ .f32 0x3F000000#32))

/-- How many marked candidates stand at or before each of a class. -/
def countK (u : S2x80x1024.Idx → BitVec 1) : S2x80x1024.Idx → BitVec 32 :=
  Host.reduceWindow IntOp.addi ![1, 1, 1024] ![1, 1, 1] ![0, 0, 1023] ![0, 0, 0] (extui 32 u natLt_1_32)
    (broadcastInDim S_ ![] bcast_S_S_ (constantI S_ 32 0#32))
    reduceWindows_S2x80x1024_S2x80x1024_w1s1p0_0_w1s1p0_0_w1024s1p1023_0 h_S_

/-- The first 300 marked candidates of each class. -/
def firstK (u : S2x80x1024.Idx → BitVec 1) : S2x80x1024.Idx → BitVec 1 :=
  andi u (cmpi .slt (subi (countK u) (broadcastInDim S2x80x1024 ![] bcast_S_S2x80x1024 (constantI S_ 32 1#32)))
    (broadcastInDim S2x80x1024 ![] bcast_S_S2x80x1024 (constantI S_ 32 300#32)))

/-- Their scores, every other candidate's the least. -/
def scoresK (u : S2x80x1024.Idx → BitVec 1) (s : S2x80x1000.Idx → EReal) : S2x80x1024.Idx → EReal :=
  select (firstK u) (pad S2x80x1024 ![0, 0, 0] ![0, 0, 24] ![0, 0, 0] s (constant (F := Ideal) S_ .f32 0xCE6E6B28#32)
      pads_S2x80x1000_S2x80x1024_000_000_0240 h_S_)
    (broadcastInDim S2x80x1024 ![] bcast_S_S2x80x1024 (constant (F := Ideal) S_ .f32 0xCE6E6B28#32))

def flatK (u : S2x80x1024.Idx → EReal) : S2x81920.Idx → EReal := shapeCast S2x81920 u shapeCasts_S2x80x1024_S2x81920

def valsK (u : S2x80x1024.Idx → EReal) : S2x300.Idx → EReal :=
  (Host.topK S2x300 1 (FloatOps.cmpfTotal (F := Ideal) (φ := .f32) .gt) (flatK u) sliceFits_S2x81920_S2x300).1

def indsK (u : S2x80x1024.Idx → EReal) : S2x300.Idx → BitVec 32 :=
  (Host.topK S2x300 1 (FloatOps.cmpfTotal (F := Ideal) (φ := .f32) .gt) (flatK u) sliceFits_S2x81920_S2x300).2

/-- The class of a flattened place. -/
def labK (i : S2x300.Idx → BitVec 32) : S2x300.Idx → BitVec 32 :=
  select (andi (cmpi .ne (signi i) (broadcastInDim S2x300 ![] bcast_S_S2x300 (signi (constantI S_ 32 1024#32))))
      (cmpi .ne (Host.remsi i (broadcastInDim S2x300 ![] bcast_S_S2x300 (constantI S_ 32 1024#32)))
        (broadcastInDim S2x300 ![] bcast_S_S2x300 (constantI S_ 32 0#32))))
    (subi (Host.divsi i (broadcastInDim S2x300 ![] bcast_S_S2x300 (constantI S_ 32 1024#32)))
      (broadcastInDim S2x300 ![] bcast_S_S2x300 (constantI S_ 32 1#32)))
    (Host.divsi i (broadcastInDim S2x300 ![] bcast_S_S2x300 (constantI S_ 32 1024#32)))

/-- The box of a flattened place, under the order of the boxes in each class. -/
def boxK (o : S2x80x1000.Idx → BitVec 32) (i : S2x300.Idx → BitVec 32) : S2x300.Idx → BitVec 32 :=
  takeFlat (shapeCast S2x81920 (pad S2x80x1024 ![0, 0, 0] ![0, 0, 24] ![0, 0, 0] o (constantI S_ 32 0#32)
      pads_S2x80x1000_S2x80x1024_000_000_0240 h_S_) shapeCasts_S2x80x1024_S2x81920) i

theorem scores_read (V : Valuation τ sig (Elt Ideal)) :
    afterL [hostOps1, hostOps1_1, hostOps1_2, hostOps1_3, hostOps1_4, hostOps1_5] V (Proc.devRef .tc main_v50)
      = scoresK (keptK (V (Proc.devRef .tc main_v37))) (V (Proc.devRef .tc main_v3)) := by
  simp only [afterL_cons, afterL_nil]
  after_results
  simp -implicitDefEqProofs only [TRef.toBuf, TRef.ofBuf, cast_eq, id]
  rfl

theorem scores_keep (V : Valuation τ sig (Elt Ideal)) :
    afterL [hostOps1, hostOps1_1, hostOps1_2, hostOps1_3, hostOps1_4, hostOps1_5] V (Proc.devRef .tc main_v2)
      = V (Proc.devRef .tc main_v2)
    ∧ afterL [hostOps1, hostOps1_1, hostOps1_2, hostOps1_3, hostOps1_4, hostOps1_5] V (Proc.devRef .tc main_arg0)
      = V (Proc.devRef .tc main_arg0)
    ∧ afterL [hostOps1, hostOps1_1, hostOps1_2, hostOps1_3, hostOps1_4, hostOps1_5] V (Proc.devRef .tc main_arg2)
      = V (Proc.devRef .tc main_arg2) := by
  simp only [afterL_cons, afterL_nil]
  refine ⟨?_, ?_, ?_⟩ <;> after_results

theorem ranked_read (V : Valuation τ sig (Elt Ideal)) :
    afterL [hostOps1_6, hostOps1_7, hostOps1_8, hostOps1_9, hostOps1_10, hostOps1_11] V (Proc.devRef .tc main_values)
      = valsK (V (Proc.devRef .tc main_v50))
    ∧ afterL [hostOps1_6, hostOps1_7, hostOps1_8, hostOps1_9, hostOps1_10, hostOps1_11] V (Proc.devRef .tc main_v52)
      = labK (indsK (V (Proc.devRef .tc main_v50)))
    ∧ afterL [hostOps1_6, hostOps1_7, hostOps1_8, hostOps1_9, hostOps1_10, hostOps1_11] V (Proc.devRef .tc main_v55)
      = boxK (V (Proc.devRef .tc main_v2)) (indsK (V (Proc.devRef .tc main_v50)))
    ∧ afterL [hostOps1_6, hostOps1_7, hostOps1_8, hostOps1_9, hostOps1_10, hostOps1_11] V (Proc.devRef .tc main_arg0)
      = V (Proc.devRef .tc main_arg0)
    ∧ afterL [hostOps1_6, hostOps1_7, hostOps1_8, hostOps1_9, hostOps1_10, hostOps1_11] V (Proc.devRef .tc main_arg2)
      = V (Proc.devRef .tc main_arg2) := by
  simp only [afterL_cons, afterL_nil]
  refine ⟨?_, ?_, ?_, ?_, ?_⟩ <;> after_results <;>
    simp -implicitDefEqProofs only [TRef.toBuf, TRef.ofBuf, cast_eq, id] <;> rfl

/-- What follows the ranking. -/
abbrev tailOps : List (List (HloOp τ sig (Elt Ideal))) :=
  [hostOps1_12, hostOps1_13, hostOps1_14, hostOps1_15, hostOps1_16, hostOps1_17, hostOps1_18, hostOps1_19, hostOps1_20,
    hostOps1_21, hostOps1_22, hostOps1_23, hostOps1_24, hostOps1_25, hostOps1_26]

theorem tail_read (V : Valuation τ sig (Elt Ideal)) :
    afterL tailOps V (Proc.devRef .tc main_v61)
      = outBox (V (Proc.devRef .tc main_arg0)) (V (Proc.devRef .tc main_values)) (V (Proc.devRef .tc main_v55))
    ∧ afterL tailOps V (Proc.devRef .tc main_v62) = outVal (V (Proc.devRef .tc main_values))
    ∧ afterL tailOps V (Proc.devRef .tc main_v63) = outLab (V (Proc.devRef .tc main_values)) (V (Proc.devRef .tc main_v52))
    ∧ afterL tailOps V (Proc.devRef .tc main_v69)
      = outMax (V (Proc.devRef .tc main_arg2)) (V (Proc.devRef .tc main_values)) (V (Proc.devRef .tc main_v55))
    ∧ afterL tailOps V (Proc.devRef .tc main_v67)
      = outArg (V (Proc.devRef .tc main_arg2)) (V (Proc.devRef .tc main_values)) (V (Proc.devRef .tc main_v55)) := by
  simp only [tailOps, afterL_cons, afterL_nil]
  refine ⟨?_, ?_, ?_, ?_, ?_⟩ <;> after_results <;>
    simp -implicitDefEqProofs only [TRef.toBuf, TRef.ofBuf, cast_eq, id] <;> rfl

end Cert.KernelIdeal.Gen
-- ==== Proof.TopK.lean ====
/-
  Sorted positions, by counting.

  A stable sort of `n` keys by `>` puts at place `k` the position that has exactly `k` positions before it, where
  position `j` is before position `i` when its key is greater, or equal and `j < i` (`Bef`). Two arrays of different
  lengths whose kept positions correspond, every kept key above every other key, therefore agree on their first
  places: at each place both hold corresponding kept positions, or neither holds a kept one (`corresponds`).
-/
module

public import Idealize.ShloMosaic.PureOps.ShapeOps
public import Mathlib.Data.Fintype.Card
public import Mathlib.Order.Interval.Finset.Fin
public import Idealize.ShloMosaic.Lib.SortFacts
public import Idealize.ShloMosaic.Lib.SortPrefix

@[expose] public section

noncomputable section

namespace Nms

open Idealize.ShloMosaic

/-- On a list in increasing order a stable sort compares each element with later ones only, so completing the
    comparator by the positions changes nothing. -/
theorem stableSort_tie {n : Nat} (R R' : Fin n → Fin n → Bool) (l : List (Fin n)) (hl : l.Pairwise (· < ·))
    (h : ∀ a b : Fin n, a < b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem sortedFrom_tie {n : Nat} (R R' : Fin n → Fin n → Bool) (h : ∀ a b : Fin n, a < b → R b a = R' b a) :
    sortedFrom R = sortedFrom R' := by
  have e : sortPositions n R = sortPositions n R' :=
    stableSort_tie R R' _ (List.pairwise_iff_get.mpr fun i j hij => by simpa using hij) h
  funext k
  unfold sortedFrom
  rw [List.get_of_eq e]
  rfl

/-- Position `j` is before position `i`: a greater key, or an equal one at a smaller position. -/
def Bef {n : Nat} {κ : Type} [LinearOrder κ] (f : Fin n → κ) (j i : Fin n) : Prop := f i < f j ∨ (f j = f i ∧ j < i)

instance {n : Nat} {κ : Type} [LinearOrder κ] (f : Fin n → κ) : DecidableRel (Bef f) := fun _ _ => by
  unfold Bef; infer_instance

/-- The position the stable descending sort of `f` puts at place `k`. -/
def place {n : Nat} {κ : Type} [LinearOrder κ] (f : Fin n → κ) : Fin n → Fin n :=
  sortedFrom fun a b => decide (f b < f a)

section
variable {n : Nat} {κ : Type} [LinearOrder κ] (f : Fin n → κ)

theorem strictTotal : StrictTotalBefore fun a b : Fin n => decide (Bef f a b) where
  irrefl a := by simp [Bef]
  trans a b c hab hbc := by
    refine decide_eq_true ?_
    rcases of_decide_eq_true hab with h | ⟨h, l⟩ <;> rcases of_decide_eq_true hbc with h' | ⟨h', l'⟩
    · exact .inl (h'.trans h)
    · exact .inl (h' ▸ h)
    · exact .inl (h ▸ h')
    · exact .inr ⟨h.trans h', l.trans l'⟩
  total a b hab := by
    simp only [decide_eq_true_eq]
    rcases lt_trichotomy (f a) (f b) with h | h | h
    · exact .inr (.inl h)
    · rcases lt_or_gt_of_ne hab with l | l
      · exact .inl (.inr ⟨h, l⟩)
      · exact .inr (.inr ⟨h.symm, l⟩)
    · exact .inl (.inl h)

theorem place_eq : place f = sortedFrom fun a b => decide (Bef f a b) := by
  refine sortedFrom_tie _ _ fun a b hab => ?_
  simp [Bef, hab.not_gt]

theorem place_injective : Function.Injective (place f) := sortedFrom_injective _

theorem place_surjective : Function.Surjective (place f) := sortedFrom_surjective _

theorem bef_place_iff (i j : Fin n) : Bef f (place f i) (place f j) ↔ i < j := by
  have key : ∀ i j : Fin n, i < j → Bef f (place f i) (place f j) := fun i j hij => by
    have h := sortedFrom_noInversion (fun a b => decide (Bef f a b)) (fun a b => decide (Bef f a b))
      (fun a b h => (strictTotal f).asymm a b h) (fun _ _ h => h) (strictTotal f).negTrans i j hij
    rw [← place_eq] at h
    rcases (strictTotal f).total _ _ ((place_injective f).ne hij.ne) with h' | h'
    · simpa using h'
    · exact absurd (h'.symm.trans h) (by decide)
  refine ⟨fun h => ?_, key i j⟩
  by_contra hij
  rcases (not_lt.mp hij).eq_or_lt with e | l
  · subst e
    simp [Bef] at h
  · have := (strictTotal f).asymm (place f i) (place f j) (by simpa using h)
    simp only [decide_eq_false_iff_not] at this
    exact this (key j i l)

/-- Exactly `k` positions are before the one at place `k`. -/
theorem card_bef_place (k : Fin n) : (Finset.univ.filter fun j => Bef f j (place f k)).card = k.val := by
  have h : (Finset.univ.filter fun j => Bef f j (place f k))
      = (Finset.univ.filter fun i : Fin n => i < k).map ⟨place f, place_injective f⟩ := by
    ext j
    simp only [Finset.mem_filter, Finset.mem_univ, true_and, Finset.mem_map, Function.Embedding.coeFn_mk]
    constructor
    · intro hj
      obtain ⟨i, rfl⟩ := place_surjective f j
      exact ⟨i, (bef_place_iff f i k).mp hj, rfl⟩
    · rintro ⟨i, hi, rfl⟩
      exact (bef_place_iff f i k).mpr hi
  rw [h, Finset.card_map]
  rw [show (Finset.univ.filter fun i : Fin n => i < k) = Finset.Iio k by ext; simp, Fin.card_Iio]

/-- The position with `k` positions before it is the one at place `k`. -/
theorem place_of_card (k i : Fin n) (h : (Finset.univ.filter fun j => Bef f j i).card = k.val) : place f k = i := by
  obtain ⟨k', rfl⟩ := place_surjective f i
  rw [card_bef_place] at h
  rw [Fin.ext h]

end

/-- Two arrays with corresponding kept positions (`π` from `g`'s to `f`'s), in the same order, all above the positions
    not kept: at each place both sorts put corresponding kept positions, or neither puts a kept one. -/
theorem corresponds {n m : Nat} {κ : Type} [LinearOrder κ] (f : Fin n → κ) (g : Fin m → κ) (Kf : Fin n → Prop)
    (Kg : Fin m → Prop) (π : Fin m → Fin n) (hπ : ∀ i, Kg i → Kf (π i))
    (hinj : ∀ i j, Kg i → Kg j → π i = π j → i = j) (hsur : ∀ i, Kf i → ∃ j, Kg j ∧ π j = i)
    (hbef : ∀ i j, Kg i → Kg j → (Bef f (π i) (π j) ↔ Bef g i j))
    (hf : ∀ i j, Kf i → ¬ Kf j → f j < f i) (hg : ∀ i j, Kg i → ¬ Kg j → g j < g i)
    (k : Nat) (hkf : k < n) (hkg : k < m) :
    (Kg (place g ⟨k, hkg⟩) ∧ Kf (place f ⟨k, hkf⟩) ∧ place f ⟨k, hkf⟩ = π (place g ⟨k, hkg⟩))
      ∨ (¬ Kg (place g ⟨k, hkg⟩) ∧ ¬ Kf (place f ⟨k, hkf⟩)) := by
  classical
  have bf : ∀ i j, Kf i → Bef f j i → Kf j := fun i j hi hb => by
    by_contra hj
    rcases hb with h | ⟨h, -⟩
    · exact absurd h (hf i j hi hj).not_gt
    · exact absurd h (hf i j hi hj).ne
  have bg : ∀ i j, Kg i → Bef g j i → Kg j := fun i j hi hb => by
    by_contra hj
    rcases hb with h | ⟨h, -⟩
    · exact absurd h (hg i j hi hj).not_gt
    · exact absurd h (hg i j hi hj).ne
  have card : ∀ i, Kg i → (Finset.univ.filter fun j => Bef f j (π i)).card
      = (Finset.univ.filter fun j => Bef g j i).card := fun i hi => by
    symm
    refine Finset.card_bij (fun j _ => π j) ?_ ?_ ?_
    · intro j hj
      simp only [Finset.mem_filter, Finset.mem_univ, true_and] at hj ⊢
      exact (hbef j i (bg i j hi hj) hi).mpr hj
    · intro a ha b hb e
      simp only [Finset.mem_filter, Finset.mem_univ, true_and] at ha hb
      exact hinj a b (bg i a hi ha) (bg i b hi hb) e
    · intro b hb
      simp only [Finset.mem_filter, Finset.mem_univ, true_and] at hb
      obtain ⟨a, ha, rfl⟩ := hsur b (bf _ b (hπ i hi) hb)
      exact ⟨a, by simpa using (hbef a i ha hi).mp hb, rfl⟩
  by_cases h : Kg (place g ⟨k, hkg⟩)
  · have e : place f ⟨k, hkf⟩ = π (place g ⟨k, hkg⟩) :=
      place_of_card f ⟨k, hkf⟩ _ (by rw [card _ h, card_bef_place])
    exact .inl ⟨h, e ▸ hπ _ h, e⟩
  · refine .inr ⟨h, fun h' => h ?_⟩
    obtain ⟨j, hj, e⟩ := hsur _ h'
    have : place g ⟨k, hkg⟩ = j :=
      place_of_card g ⟨k, hkg⟩ j (by rw [← card j hj, e, card_bef_place])
    exact this ▸ hj

end Nms
-- ==== Proof.Order.lean ====
/- The order both programs put the boxes of a class in, and the ranking of all classes' candidates: which place holds what. -/
module

public import proofs.«01_k».proof.Proof.Take
public import proofs.«01_k».proof.Proof.TopK

@[expose] public section

set_option maxRecDepth 16384

noncomputable section

namespace Cert.KernelIdeal.Gen

open Idealize.ShloMosaic Idealize.ShloMosaic.TcCoe Nms

/-- The scores, class by class. -/
def classes (x1 : S2x1000x80.Idx → EReal) : S2x80x1000.Idx → EReal :=
  transpose S2x80x1000 [0, 2, 1] x1 transposes_S2x1000x80_S2x80x1000_0_2_1

/-- The boxes in the order of their scores in each class. -/
def boxOrder (x1 : S2x1000x80.Idx → EReal) : S2x80x1000.Idx → BitVec 32 :=
  (Host.sort2 S2x80x1000 2 (comparator_f32_i32_d2 (F := Ideal)) (Host.negf (F := Ideal) (φ := .f32) (classes x1)) (iotaInDim S2x80x1000 32 2)).2

/-- The scores in that order. -/
def sorted (x1 : S2x1000x80.Idx → EReal) : S2x80x1000.Idx → EReal := takeRows (classes x1) (boxOrder x1)

/-- The box at each place of a class. -/
def at' (x1 : S2x1000x80.Idx → EReal) (b : Fin 2) (c : Fin 80) : Fin 1000 → Fin 1000 := place fun n => x1 (ix3 b n c)

theorem comparator_eq (l r : EReal × BitVec 32) :
    (comparator_f32_i32_d2 (F := Ideal) l r == 1#1) = decide (l.1 < r.1) := by
  obtain ⟨l, -⟩ := l
  obtain ⟨r, -⟩ := r
  have hz : Ideal.ofBits .f32 0#32 = (0 : EReal) := by simp [Ideal.ofBits, Ideal.ieee]
  have hs : ∀ x : EReal, Scalar.select (Ideal.cmp .oeq x 0) 0 x = x := by
    intro x
    by_cases h : x = 0 <;> simp [Ideal.cmp, Scalar.select, h]
  have hn : ∀ x y : EReal, Scalar.select (Ideal.cmp .une x x) y x = x := by
    intro x y
    simp [Ideal.cmp, Scalar.select]
  have e : comparator_f32_i32_d2 (F := Ideal) (l, 0#32) (r, 0#32) = Ideal.cmp .olt l r := by
    show Ideal.cmp .olt (Scalar.select (Ideal.cmp .une l l) (Ideal.ofBits .f32 0x7FC00000#32)
        (Scalar.select (Ideal.cmp .oeq l (Ideal.ofBits .f32 0#32)) (Ideal.ofBits .f32 0#32) l))
      (Scalar.select (Ideal.cmp .une r r) (Ideal.ofBits .f32 0x7FC00000#32)
        (Scalar.select (Ideal.cmp .oeq r (Ideal.ofBits .f32 0#32)) (Ideal.ofBits .f32 0#32) r)) = _
    rw [hz, hs, hs, hn, hn]
  refine (congrArg (· == 1#1) e).trans ?_
  by_cases h : l < r <;> simp [Ideal.cmp, h]

theorem classes_read (x1 : S2x1000x80.Idx → EReal) (b : Fin 2) (c : Fin 80) (n : Fin 1000) :
    classes x1 (ix3 b c n) = x1 (ix3 b n c) := by
  unfold classes
  pointwise

/-- A sort along one axis, one position at a time. -/
theorem sort2_read {s : Shape} {α β : Type} (a : Fin s.rank) (cmp : α × β → α × β → BitVec 1) (x : s.Idx → α) (y : s.Idx → β)
    (j : s.Idx) : (Host.sort2 s a.val cmp x y).1 j
      = x (j.along a (sortedFrom (fun k k' => cmp (x (j.along a k), y (j.along a k)) (x (j.along a k'), y (j.along a k')) == 1#1) (j a)))
    ∧ (Host.sort2 s a.val cmp x y).2 j
      = y (j.along a (sortedFrom (fun k k' => cmp (x (j.along a k), y (j.along a k)) (x (j.along a k'), y (j.along a k')) == 1#1) (j a))) := by
  unfold Host.sort2
  rw [dif_pos a.isLt]
  exact ⟨rfl, rfl⟩

theorem sort2_row3 {l m N : ℕ} {α β : Type} (cmp : α × β → α × β → BitVec 1) (x : (⟨3, ![l, m, N]⟩ : Shape).Idx → α)
    (y : (⟨3, ![l, m, N]⟩ : Shape).Idx → β) (b : Fin l) (c : Fin m) (p : Fin N) :
    (Host.sort2 ⟨3, ![l, m, N]⟩ 2 cmp x y).2 (ix3 b c p)
      = y (ix3 b c (sortedFrom (fun k k' => cmp (x (ix3 b c k), y (ix3 b c k)) (x (ix3 b c k'), y (ix3 b c k')) == 1#1) p)) := by
  have ha : ∀ k : Fin N, Shape.Idx.along (s := ⟨3, ![l, m, N]⟩) (ix3 b c p) (2 : Fin 3) k = ix3 b c k := by
    intro k
    funext a
    fin_cases a <;> rfl
  refine ((sort2_read (s := ⟨3, ![l, m, N]⟩) (2 : Fin 3) cmp x y (ix3 b c p)).2).trans ?_
  refine (congrArg y (ha _)).trans ?_
  have e : ∀ k k' : Fin N, (cmp (x (Shape.Idx.along (s := ⟨3, ![l, m, N]⟩) (ix3 b c p) (2 : Fin 3) k), y (Shape.Idx.along (s := ⟨3, ![l, m, N]⟩) (ix3 b c p) (2 : Fin 3) k))
      (x (Shape.Idx.along (s := ⟨3, ![l, m, N]⟩) (ix3 b c p) (2 : Fin 3) k'), y (Shape.Idx.along (s := ⟨3, ![l, m, N]⟩) (ix3 b c p) (2 : Fin 3) k')) == 1#1)
      = (cmp (x (ix3 b c k), y (ix3 b c k)) (x (ix3 b c k'), y (ix3 b c k')) == 1#1) := by
    intro k k'
    rw [ha, ha]
  exact congrArg (fun q => y (ix3 b c (sortedFrom (n := N) q p))) (funext fun k => funext fun k' => e k k')

theorem sort2_row2 {l N : ℕ} {α β : Type} (cmp : α × β → α × β → BitVec 1) (x : (⟨2, ![l, N]⟩ : Shape).Idx → α)
    (y : (⟨2, ![l, N]⟩ : Shape).Idx → β) (b : Fin l) (p : Fin N) :
    (Host.sort2 ⟨2, ![l, N]⟩ 1 cmp x y).1 (ix2 b p)
      = x (ix2 b (sortedFrom (fun k k' => cmp (x (ix2 b k), y (ix2 b k)) (x (ix2 b k'), y (ix2 b k')) == 1#1) p))
    ∧ (Host.sort2 ⟨2, ![l, N]⟩ 1 cmp x y).2 (ix2 b p)
      = y (ix2 b (sortedFrom (fun k k' => cmp (x (ix2 b k), y (ix2 b k)) (x (ix2 b k'), y (ix2 b k')) == 1#1) p)) := by
  have ha : ∀ k : Fin N, Shape.Idx.along (s := ⟨2, ![l, N]⟩) (ix2 b p) (1 : Fin 2) k = ix2 b k := by
    intro k
    funext a
    fin_cases a <;> rfl
  have e : ∀ k k' : Fin N, (cmp (x (Shape.Idx.along (s := ⟨2, ![l, N]⟩) (ix2 b p) (1 : Fin 2) k), y (Shape.Idx.along (s := ⟨2, ![l, N]⟩) (ix2 b p) (1 : Fin 2) k))
      (x (Shape.Idx.along (s := ⟨2, ![l, N]⟩) (ix2 b p) (1 : Fin 2) k'), y (Shape.Idx.along (s := ⟨2, ![l, N]⟩) (ix2 b p) (1 : Fin 2) k')) == 1#1)
      = (cmp (x (ix2 b k), y (ix2 b k)) (x (ix2 b k'), y (ix2 b k')) == 1#1) := by
    intro k k'
    rw [ha, ha]
  constructor
  · refine ((sort2_read (s := ⟨2, ![l, N]⟩) (1 : Fin 2) cmp x y (ix2 b p)).1).trans ?_
    refine (congrArg x (ha _)).trans ?_
    exact congrArg (fun q => x (ix2 b (sortedFrom (n := N) q p))) (funext fun k => funext fun k' => e k k')
  · refine ((sort2_read (s := ⟨2, ![l, N]⟩) (1 : Fin 2) cmp x y (ix2 b p)).2).trans ?_
    refine (congrArg y (ha _)).trans ?_
    exact congrArg (fun q => y (ix2 b (sortedFrom (n := N) q p))) (funext fun k => funext fun k' => e k k')

theorem boxOrder_read (x1 : S2x1000x80.Idx → EReal) (b : Fin 2) (c : Fin 80) (p : Fin 1000) :
    boxOrder x1 (ix3 b c p) = BitVec.ofNat 32 (at' x1 b c p).val := by
  unfold boxOrder
  refine (sort2_row3 _ _ _ b c p).trans ?_
  unfold at' place
  simp only [comparator_eq]
  have e : ∀ k k' : Fin 1000, decide (Host.negf (F := Ideal) (φ := .f32) (classes x1) (ix3 b c k)
      < Host.negf (F := Ideal) (φ := .f32) (classes x1) (ix3 b c k')) = decide (x1 (ix3 b k' c) < x1 (ix3 b k c)) := by
    intro k k'
    refine decide_eq_decide.mpr ?_
    show -(classes x1 (ix3 b c k)) < -(classes x1 (ix3 b c k')) ↔ _
    rw [classes_read, classes_read]
    exact EReal.neg_lt_neg_iff
  simp only [e]
  pointwise

theorem sorted_read (x1 : S2x1000x80.Idx → EReal) (b : Fin 2) (c : Fin 80) (p : Fin 1000) :
    sorted x1 (ix3 b c p) = x1 (ix3 b (at' x1 b c p) c) :=
  (takeRows_read _ _ b c p _ (boxOrder_read x1 b c p)).trans (classes_read x1 b c _)

/-- The greatest 300 of each row, and where they stand. -/
theorem topK_read (N : ℕ) (hN : 300 ≤ N) (x : (⟨2, ![2, N]⟩ : Shape).Idx → EReal)
    (h : (⟨2, ![2, N]⟩ : Shape).Slices (fun _ => 0) S2x300) (b : Fin 2) (k : Fin 300) :
    (Host.topK S2x300 1 (FloatOps.cmpfTotal (F := Ideal) (φ := .f32) .gt) x h).1 (ix2 b k)
      = x (ix2 b (place (fun n : Fin N => x (ix2 b n)) ⟨k.val, by have := k.isLt; omega⟩))
    ∧ (Host.topK S2x300 1 (FloatOps.cmpfTotal (F := Ideal) (φ := .f32) .gt) x h).2 (ix2 b k)
      = BitVec.ofNat 32 (place (fun n : Fin N => x (ix2 b n)) ⟨k.val, by have := k.isLt; omega⟩).val := by
  have hk : k.val < N := by have := k.isLt; omega
  have hp : ∀ y : (⟨2, ![2, N]⟩ : Shape).Idx → BitVec 32, (sortedFrom (n := N) fun k' k'' =>
      (fun l r : EReal × BitVec 32 => FloatOps.cmpfTotal (F := Ideal) (φ := .f32) .gt l.1 r.1)
        (x (ix2 b k'), y (ix2 b k')) (x (ix2 b k''), y (ix2 b k'')) == 1#1) = place fun n : Fin N => x (ix2 b n) := by
    intro y
    unfold place
    congr 1
    funext k' k''
    show (Ideal.cmp .ogt (x (ix2 b k')) (x (ix2 b k'')) == 1#1) = _
    by_cases h : x (ix2 b k'') < x (ix2 b k') <;> simp [Ideal.cmp, h]
  have hs : ∀ {α : Type} (z : (⟨2, ![2, N]⟩ : Shape).Idx → α), extractStridedSlice S2x300 (fun _ => 0) z h (ix2 b k) = z (ix2 b ⟨k.val, hk⟩) := by
    intro α z
    refine congrArg z (funext fun a => ?_)
    fin_cases a <;> exact Fin.ext (by simp)
  constructor
  · refine (hs (Host.sort2 ⟨2, ![2, N]⟩ 1 (fun l r => FloatOps.cmpfTotal (F := Ideal) (φ := .f32) .gt l.1 r.1) x
      (fun i => if hd : 1 < (⟨2, ![2, N]⟩ : Shape).rank then iotaInDim ⟨2, ![2, N]⟩ 32 ⟨1, hd⟩ i else 0#32)).1).trans ?_
    refine (sort2_row2 _ _ _ b _).1.trans ?_
    rw [hp (fun i => if hd : 1 < (⟨2, ![2, N]⟩ : Shape).rank then iotaInDim ⟨2, ![2, N]⟩ 32 ⟨1, hd⟩ i else 0#32)]
  · refine (hs (Host.sort2 ⟨2, ![2, N]⟩ 1 (fun l r => FloatOps.cmpfTotal (F := Ideal) (φ := .f32) .gt l.1 r.1) x
      (fun i => if hd : 1 < (⟨2, ![2, N]⟩ : Shape).rank then iotaInDim ⟨2, ![2, N]⟩ 32 ⟨1, hd⟩ i else 0#32)).2).trans ?_
    refine (sort2_row2 _ _ _ b _).2.trans ?_
    rw [hp (fun i => if hd : 1 < (⟨2, ![2, N]⟩ : Shape).rank then iotaInDim ⟨2, ![2, N]⟩ 32 ⟨1, hd⟩ i else 0#32)]
    rfl

end Cert.KernelIdeal.Gen
-- ==== Proof.KPre.lean ====
/- What the kernel's call is given: the boxes' corners and the mask of candidates, each in the order of the class's scores. -/
module

public import proofs.«01_k».proof.Proof.KPost
public import proofs.«01_k».proof.Proof.Order

@[expose] public section

set_option maxRecDepth 16384

noncomputable section

namespace Cert.KernelIdeal.Gen

open Cert.KernelIdeal
open Idealize.ShloMosaic Idealize.ShloMosaic.TcCoe Idealize.ShloMosaic.Tactic Idealize.ShloMosaic.StableHlo

/-- A corner of every box, the same in every class. -/
def spread (s : S2x1000x1.Idx → EReal) : S2x80x1000.Idx → EReal :=
  broadcastInDim S2x80x1000 ![0, 1, 2] bcast_S2x1x1000_S2x80x1000_0_1_2
    (broadcastInDim S2x1x1000 ![0, 2] bcast_S2x1000_S2x1x1000_0_2 (shapeCast S2x1000 s shapeCasts_S2x1000x1_S2x1000))

/-- An array laid out as the call takes it, zero outside. -/
def laid (u : S2x80x1000.Idx → EReal) : S256x1024.Idx → EReal :=
  shapeCast S256x1024 (pad S2x128x1024 ![0, 0, 0] ![0, 48, 24] ![0, 0, 0] u
    (sitofp (F := Ideal) .f32 (constantI S_ 32 0#32)) pads_S2x80x1000_S2x128x1024_000_0480_0240 h_S_) shapeCasts_S2x128x1024_S256x1024

/-- The candidates, as numbers. -/
def cand (s : S2x80x1000.Idx → EReal) : S2x80x1000.Idx → EReal :=
  uitofp (F := Ideal) .f32 (cmpf (F := Ideal) .ogt s (broadcastInDim S2x80x1000 ![] bcast_S_S2x80x1000 (constant (F := Ideal) S_ .f32 0x3D4CCCCD#32)))

def corner0 (x : S2x1000x4.Idx → EReal) : S2x1000x1.Idx → EReal := extractStridedSlice S2x1000x1 ![0, 0, 0] x slices_S2x1000x4_S2x1000x1_0_0_0
def corner1 (x : S2x1000x4.Idx → EReal) : S2x1000x1.Idx → EReal := extractStridedSlice S2x1000x1 ![0, 0, 1] x slices_S2x1000x4_S2x1000x1_0_0_1
def corner2 (x : S2x1000x4.Idx → EReal) : S2x1000x1.Idx → EReal := extractStridedSlice S2x1000x1 ![0, 0, 2] x slices_S2x1000x4_S2x1000x1_0_0_2
def corner3 (x : S2x1000x4.Idx → EReal) : S2x1000x1.Idx → EReal := extractStridedSlice S2x1000x1 ![0, 0, 3] x slices_S2x1000x4_S2x1000x1_0_0_3

abbrev orderOps : List (List (HloOp τ sig (Elt Ideal))) := [hostOps0, hostOps0_1, hostOps0_2]

theorem order_read (V : Valuation τ sig (Elt Ideal)) :
    afterL orderOps V (Proc.devRef .tc main_v2) = boxOrder (V (Proc.devRef .tc main_arg1))
    ∧ afterL orderOps V (Proc.devRef .tc main_v3) = sorted (V (Proc.devRef .tc main_arg1))
    ∧ afterL orderOps V (Proc.devRef .tc main_arg0) = V (Proc.devRef .tc main_arg0)
    ∧ afterL orderOps V (Proc.devRef .tc main_arg2) = V (Proc.devRef .tc main_arg2) := by
  simp only [orderOps, afterL_cons, afterL_nil]
  refine ⟨?_, ?_, ?_, ?_⟩ <;> after_results <;>
    simp -implicitDefEqProofs only [TRef.toBuf, TRef.ofBuf, cast_eq, id] <;> rfl

abbrev layOps : List (List (HloOp τ sig (Elt Ideal))) :=
  [hostOps0_3, hostOps0_4, hostOps0_5, hostOps0_6, hostOps0_7, hostOps0_8, hostOps0_9, hostOps0_10, hostOps0_11, hostOps0_12,
    hostOps0_13, hostOps0_14, hostOps0_15, hostOps0_16, hostOps0_17, hostOps0_18, hostOps0_19, hostOps0_20, hostOps0_21]

theorem lay_keep (V : Valuation τ sig (Elt Ideal)) :
    afterL layOps V (Proc.devRef .tc main_v2) = V (Proc.devRef .tc main_v2)
    ∧ afterL layOps V (Proc.devRef .tc main_v3) = V (Proc.devRef .tc main_v3)
    ∧ afterL layOps V (Proc.devRef .tc main_arg0) = V (Proc.devRef .tc main_arg0)
    ∧ afterL layOps V (Proc.devRef .tc main_arg2) = V (Proc.devRef .tc main_arg2) := by
  simp only [layOps, afterL_cons, afterL_nil]
  refine ⟨?_, ?_, ?_, ?_⟩ <;> after_results

theorem lay_read (V : Valuation τ sig (Elt Ideal)) :
    afterL layOps V (Proc.devRef .tc main_v13)
      = laid (takeRows (spread (corner0 (V (Proc.devRef .tc main_arg0)))) (V (Proc.devRef .tc main_v2)))
    ∧ afterL layOps V (Proc.devRef .tc main_v20)
      = laid (takeRows (spread (corner1 (V (Proc.devRef .tc main_arg0)))) (V (Proc.devRef .tc main_v2)))
    ∧ afterL layOps V (Proc.devRef .tc main_v27)
      = laid (takeRows (spread (corner2 (V (Proc.devRef .tc main_arg0)))) (V (Proc.devRef .tc main_v2)))
    ∧ afterL layOps V (Proc.devRef .tc main_v34)
      = laid (takeRows (spread (corner3 (V (Proc.devRef .tc main_arg0)))) (V (Proc.devRef .tc main_v2)))
    ∧ afterL layOps V (Proc.devRef .tc main_v36) = laid (cand (V (Proc.devRef .tc main_v3))) := by
  simp only [layOps, afterL_cons, afterL_nil]
  refine ⟨?_, ?_, ?_, ?_, ?_⟩ <;> after_results <;>
    simp -implicitDefEqProofs only [TRef.toBuf, TRef.ofBuf, cast_eq, id] <;> rfl

end Cert.KernelIdeal.Gen
-- ==== Proof.RPost.lean ====
/- What the reference's operations after its loop leave: the candidates ranked, and the five results of that ranking. -/
module

public import proofs.«01_k».proof.Proof.Tail
public import proofs.«01_k».proof.Proof.RefFrame

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.ShloMosaic.StableHlo
open Cert.KernelIdeal.Gen (outBox outVal outLab outMax outArg)

/-- The kept candidates whose score is above the threshold. -/
def keptR (u : S2x80x1000.Idx → BitVec 1) (s : S2x80x1000.Idx → EReal) : S2x80x1000.Idx → BitVec 1 :=
  andi u (cmpf (F := Ideal) (φ := .f32) .ogt s (broadcastInDim S2x80x1000 ![] bcast_S_S2x80x1000 (constant (F := Ideal) S_ .f32 0x3D4CCCCD#32)))

/-- How many of them stand at or before each of a class. -/
def countR (u : S2x80x1000.Idx → BitVec 1) : S2x80x1000.Idx → BitVec 32 :=
  Host.reduceWindow IntOp.addi ![1, 1, 1000] ![1, 1, 1] ![0, 0, 999] ![0, 0, 0] (extui 32 u natLt_1_32)
    (broadcastInDim S_ ![] bcast_S_S_ (constantI S_ 32 0#32))
    reduceWindows_S2x80x1000_S2x80x1000_w1s1p0_0_w1s1p0_0_w1000s1p999_0 h_S_

/-- The first 300 of each class. -/
def firstR (u : S2x80x1000.Idx → BitVec 1) : S2x80x1000.Idx → BitVec 1 :=
  andi u (cmpi .slt (subi (countR u) (broadcastInDim S2x80x1000 ![] bcast_S_S2x80x1000 (constantI S_ 32 1#32)))
    (broadcastInDim S2x80x1000 ![] bcast_S_S2x80x1000 (constantI S_ 32 300#32)))

/-- Their scores, every other candidate's the least. -/
def scoresR (u : S2x80x1000.Idx → BitVec 1) (s : S2x80x1000.Idx → EReal) : S2x80x1000.Idx → EReal :=
  select (firstR u) s (broadcastInDim S2x80x1000 ![] bcast_S_S2x80x1000 (constant (F := Ideal) S_ .f32 0xCE6E6B28#32))

/-- The wrapped batch, class and place of each candidate. -/
def placesR (o : S2x80x1000.Idx → BitVec 32) : S2x80x1000x3.Idx → BitVec 32 :=
  concatenate S2x80x1000x3 3
    [⟨S2x80x1000x1, (broadcastInDim S2x80x1000x1 ![0, 1, 2] bcast_S2x80x1000_S2x80x1000x1_0_1_2 (broadcastInDim S2x80x1000 ![0, 1, 2] bcast_S2x1x1_S2x80x1000_0_1_2
        (select (cmpi .slt (broadcastInDim S2x1x1 ![0] bcast_S2_S2x1x1_0 (iotaInDim S2 32 0)) (broadcastInDim S2x1x1 ![] bcast_S_S2x1x1 (constantI S_ 32 0#32)))
          (addi (broadcastInDim S2x1x1 ![0] bcast_S2_S2x1x1_0 (iotaInDim S2 32 0)) (broadcastInDim S2x1x1 ![] bcast_S_S2x1x1 (constantI S_ 32 2#32)))
          (broadcastInDim S2x1x1 ![0] bcast_S2_S2x1x1_0 (iotaInDim S2 32 0)))))⟩,
     ⟨S2x80x1000x1, (broadcastInDim S2x80x1000x1 ![0, 1, 2] bcast_S2x80x1000_S2x80x1000x1_0_1_2 (broadcastInDim S2x80x1000 ![0, 1, 2] bcast_S1x80x1_S2x80x1000_0_1_2
        (select (cmpi .slt (broadcastInDim S1x80x1 ![1] bcast_S80_S1x80x1_1 (iotaInDim S80 32 0)) (broadcastInDim S1x80x1 ![] bcast_S_S1x80x1 (constantI S_ 32 0#32)))
          (addi (broadcastInDim S1x80x1 ![1] bcast_S80_S1x80x1_1 (iotaInDim S80 32 0)) (broadcastInDim S1x80x1 ![] bcast_S_S1x80x1 (constantI S_ 32 80#32)))
          (broadcastInDim S1x80x1 ![1] bcast_S80_S1x80x1_1 (iotaInDim S80 32 0)))))⟩,
     ⟨S2x80x1000x1, (broadcastInDim S2x80x1000x1 ![0, 1, 2] bcast_S2x80x1000_S2x80x1000x1_0_1_2
        (select (cmpi .slt o (broadcastInDim S2x80x1000 ![] bcast_S_S2x80x1000 (constantI S_ 32 0#32)))
          (addi o (broadcastInDim S2x80x1000 ![] bcast_S_S2x80x1000 (constantI S_ 32 1000#32))) o))⟩]
    concatenates_S2x80x1000x1_S2x80x1000x1_S2x80x1000x1_S2x80x1000x3_d3

/-- The scores back at the boxes they belong to. -/
def denseR (o : S2x80x1000.Idx → BitVec 32) (u : S2x80x1000.Idx → EReal) : S2x80x1000.Idx → EReal :=
  Host.scatter scatter_S2x80x1000_S2x80x1000x3_S2x80x1000_n_012_012_3 (fun _ b => b)
    (broadcastInDim S2x80x1000 ![] bcast_S_S2x80x1000 (constant (F := Ideal) S_ .f32 0x00000000#32)) (placesR o) u

def flatR (u : S2x80x1000.Idx → EReal) : S2x80000.Idx → EReal := shapeCast S2x80000 u shapeCasts_S2x80x1000_S2x80000

def valsR (u : S2x80x1000.Idx → EReal) : S2x300.Idx → EReal :=
  (Host.topK S2x300 1 (FloatOps.cmpfTotal (F := Ideal) (φ := .f32) .gt) (flatR u) sliceFits_S2x80000_S2x300).1

def indsR (u : S2x80x1000.Idx → EReal) : S2x300.Idx → BitVec 32 :=
  (Host.topK S2x300 1 (FloatOps.cmpfTotal (F := Ideal) (φ := .f32) .gt) (flatR u) sliceFits_S2x80000_S2x300).2

def labR (i : S2x300.Idx → BitVec 32) : S2x300.Idx → BitVec 32 :=
  Host.divsi i (broadcastInDim S2x300 ![] bcast_S_S2x300 (constantI S_ 32 1000#32))

def boxR (i : S2x300.Idx → BitVec 32) : S2x300.Idx → BitVec 32 :=
  Host.remsi i (broadcastInDim S2x300 ![] bcast_S_S2x300 (constantI S_ 32 1000#32))

abbrev scoreOps : List (List (HloOp τ sig (Elt Ideal))) := [hostOps0_4, hostOps0_5, hostOps0_6, hostOps0_7]

theorem scores_read (V : Valuation τ sig (Elt Ideal)) :
    afterL scoreOps V (Proc.devRef .tc main_v66)
      = scoresR (keptR (V (Proc.devRef .tc main_v55_6)) (V (Proc.devRef .tc main_v3))) (V (Proc.devRef .tc main_v3)) := by
  simp only [scoreOps, afterL_cons, afterL_nil]
  after_results
  simp -implicitDefEqProofs only [TRef.toBuf, TRef.ofBuf, cast_eq, id]
  rfl

theorem scores_keep (V : Valuation τ sig (Elt Ideal)) :
    afterL scoreOps V (Proc.devRef .tc main_v2) = V (Proc.devRef .tc main_v2)
    ∧ afterL scoreOps V (Proc.devRef .tc main_arg0) = V (Proc.devRef .tc main_arg0)
    ∧ afterL scoreOps V (Proc.devRef .tc main_arg2) = V (Proc.devRef .tc main_arg2) := by
  simp only [scoreOps, afterL_cons, afterL_nil]
  refine ⟨?_, ?_, ?_⟩ <;> after_results

set_option maxHeartbeats 1000000 in
/-- The ranking. -/
theorem ranked_read (V : Valuation τ sig (Elt Ideal)) (d : S2x80x1000.Idx → EReal)
    (hd : denseR (V (Proc.devRef .tc main_v2)) (V (Proc.devRef .tc main_v66)) = d) :
    after hostOps0_8 V (Proc.devRef .tc main_values) = valsR d
    ∧ after hostOps0_8 V (Proc.devRef .tc main_v96) = labR (indsR d)
    ∧ after hostOps0_8 V (Proc.devRef .tc main_v100) = Cert.KernelIdeal.Gen.live (valsR d)
    ∧ after hostOps0_8 V (Proc.devRef .tc main_v101) = Cert.KernelIdeal.Gen.col (Cert.KernelIdeal.Gen.live (valsR d))
    ∧ after hostOps0_8 V (Proc.devRef .tc main_v98) = boxR (indsR d)
    ∧ after hostOps0_8 V (Proc.devRef .tc main_v102) = Cert.KernelIdeal.Gen.col (boxR (indsR d))
    ∧ after hostOps0_8 V (Proc.devRef .tc main_arg0) = V (Proc.devRef .tc main_arg0)
    ∧ after hostOps0_8 V (Proc.devRef .tc main_arg2) = V (Proc.devRef .tc main_arg2) := by
  subst hd
  refine ⟨?_, ?_, ?_, ?_, ?_, ?_, ?_, ?_⟩ <;> after_results <;> rfl

/-- What follows the ranking. -/
abbrev tailOps : List (List (HloOp τ sig (Elt Ideal))) :=
  [hostOps0_9, hostOps0_10, hostOps0_11, hostOps0_12, hostOps0_13, hostOps0_14, hostOps0_15, hostOps0_16, hostOps0_17,
    hostOps0_18, hostOps0_19, hostOps0_20, hostOps0_21, hostOps0_22]

theorem tail_read (V : Valuation τ sig (Elt Ideal)) (vals : S2x300.Idx → EReal) (idx : S2x300.Idx → BitVec 32)
    (hv : V (Proc.devRef .tc main_values) = vals)
    (hl : V (Proc.devRef .tc main_v100) = Cert.KernelIdeal.Gen.live vals)
    (hc : V (Proc.devRef .tc main_v101) = Cert.KernelIdeal.Gen.col (Cert.KernelIdeal.Gen.live vals))
    (hi : V (Proc.devRef .tc main_v98) = idx) (hj : V (Proc.devRef .tc main_v102) = Cert.KernelIdeal.Gen.col idx) :
    afterL tailOps V (Proc.devRef .tc main_v104) = outBox (V (Proc.devRef .tc main_arg0)) vals idx
    ∧ afterL tailOps V (Proc.devRef .tc main_v105) = outVal vals
    ∧ afterL tailOps V (Proc.devRef .tc main_v106) = outLab vals (V (Proc.devRef .tc main_v96))
    ∧ afterL tailOps V (Proc.devRef .tc main_v112) = outMax (V (Proc.devRef .tc main_arg2)) vals idx
    ∧ afterL tailOps V (Proc.devRef .tc main_v110) = outArg (V (Proc.devRef .tc main_arg2)) vals idx := by
  simp only [tailOps, afterL_cons, afterL_nil]
  have hb : outBox (V (Proc.devRef .tc main_arg0)) vals idx
      = select (broadcastInDim S2x300x4 ![0, 1, 2] bcast_S2x300x1_S2x300x4_0_1_2 (V (Proc.devRef .tc main_v101)))
          (Cert.KernelIdeal.Gen.takeBoxes (V (Proc.devRef .tc main_arg0)) (V (Proc.devRef .tc main_v102)))
          (broadcastInDim S2x300x4 ![] bcast_S_S2x300x4 (constant (F := Ideal) S_ .f32 0xBF800000#32)) := by
    rw [hj, hc]
    rfl
  rw [hb]
  unfold outVal outLab outMax outArg
  rw [← hl]
  subst hv hi
  refine ⟨?_, ?_, ?_, ?_, ?_⟩ <;> after_results <;>
    simp -implicitDefEqProofs only [TRef.toBuf, TRef.ofBuf, cast_eq, id] <;> rfl

end Cert.ReferenceIdeal.Value
-- ==== Proof.RLoop.lean ====
/- What the reference's loop does in one trip, and what it starts from. -/
module

public import proofs.«01_k».proof.Proof.RPost
public import proofs.«01_k».proof.Proof.Order

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic Idealize.ShloMosaic.StableHlo
open Nms
open Cert.KernelIdeal.Gen (takeRows takeRows_read wrapped_ofNat mask_one boxOrder sorted slt_zero)

/-! ### The overlaps -/

def corner0 (x : S2x1000x4.Idx → EReal) : S2x1000.Idx → EReal :=
  shapeCast S2x1000 (extractStridedSlice S2x1000x1 ![0, 0, 0] x slices_S2x1000x4_S2x1000x1_0_0_0) shapeCasts_S2x1000x1_S2x1000
def corner1 (x : S2x1000x4.Idx → EReal) : S2x1000.Idx → EReal :=
  shapeCast S2x1000 (extractStridedSlice S2x1000x1 ![0, 0, 1] x slices_S2x1000x4_S2x1000x1_0_0_1) shapeCasts_S2x1000x1_S2x1000
def corner2 (x : S2x1000x4.Idx → EReal) : S2x1000.Idx → EReal :=
  shapeCast S2x1000 (extractStridedSlice S2x1000x1 ![0, 0, 2] x slices_S2x1000x4_S2x1000x1_0_0_2) shapeCasts_S2x1000x1_S2x1000
def corner3 (x : S2x1000x4.Idx → EReal) : S2x1000.Idx → EReal :=
  shapeCast S2x1000 (extractStridedSlice S2x1000x1 ![0, 0, 3] x slices_S2x1000x4_S2x1000x1_0_0_3) shapeCasts_S2x1000x1_S2x1000

/-- Each box's number, along the rows of the table of pairs. -/
def down (u : S2x1000.Idx → EReal) : S2x1000x1000.Idx → EReal :=
  broadcastInDim S2x1000x1000 ![0, 1, 2] bcast_S2x1000x1_S2x1000x1000_0_1_2 (broadcastInDim S2x1000x1 ![0, 1] bcast_S2x1000_S2x1000x1_0_1 u)

/-- The same along its columns. -/
def across (u : S2x1000.Idx → EReal) : S2x1000x1000.Idx → EReal :=
  broadcastInDim S2x1000x1000 ![0, 1, 2] bcast_S2x1x1000_S2x1000x1000_0_1_2 (broadcastInDim S2x1x1000 ![0, 2] bcast_S2x1000_S2x1x1000_0_2 u)

/-- One number for every pair. -/
def everywhere (w : BitVec 32) : S2x1000x1000.Idx → EReal :=
  broadcastInDim S2x1000x1000 ![] bcast_S_S2x1000x1000 (constant (F := Ideal) S_ .f32 w)

/-- The common area of each pair of boxes. -/
def common (x : S2x1000x4.Idx → EReal) : S2x1000x1000.Idx → EReal :=
  mulf (F := Ideal) (φ := .f32)
    (maximumf (F := Ideal) (φ := .f32) (subf (F := Ideal) (φ := .f32) (minimumf (F := Ideal) (φ := .f32) (down (corner2 x)) (across (corner2 x)))
      (maximumf (F := Ideal) (φ := .f32) (down (corner0 x)) (across (corner0 x)))) (everywhere 0x00000000#32))
    (maximumf (F := Ideal) (φ := .f32) (subf (F := Ideal) (φ := .f32) (minimumf (F := Ideal) (φ := .f32) (down (corner3 x)) (across (corner3 x)))
      (maximumf (F := Ideal) (φ := .f32) (down (corner1 x)) (across (corner1 x)))) (everywhere 0x00000000#32))

/-- The area of each box. -/
def area (x : S2x1000x4.Idx → EReal) : S2x1000.Idx → EReal :=
  mulf (F := Ideal) (φ := .f32) (subf (F := Ideal) (φ := .f32) (corner2 x) (corner0 x)) (subf (F := Ideal) (φ := .f32) (corner3 x) (corner1 x))

/-- The common area over the joint one. -/
def overlap (x : S2x1000x4.Idx → EReal) : S2x1000x1000.Idx → EReal :=
  Host.divf (F := Ideal) (φ := .f32) (common x) (maximumf (F := Ideal) (φ := .f32)
    (subf (F := Ideal) (φ := .f32) (addf (F := Ideal) (φ := .f32) (down (area x)) (across (area x))) (common x)) (everywhere 0x322BCC77#32))

/-! ### One trip -/

/-- The place of the pivot. -/
def pivot (i : S_.Idx → BitVec 32) : S_.Idx → BitVec 32 :=
  select (cmpi .slt i (constantI S_ 32 0#32)) (addi i (constantI S_ 32 1000#32)) i

/-- An array's entries at the pivot, one for each class. -/
def pick {w : ℕ} (x : S2x80x1000.Idx → BitVec w) (i : S_.Idx → BitVec 32) : S2x80x1.Idx → BitVec w :=
  Host.dynamicSlice S2x80x1 x (fun k => ((![constantI S_ 32 0#32, constantI S_ 32 0#32, pivot i] : Fin 3 → (S_.Idx → BitVec 32)) k
    (Shape.Idx.first h_S_)).toInt) sliceFits_S2x80x1000_S2x80x1

def wrapPick (o : S2x80x1.Idx → BitVec 32) : S2x80x1.Idx → BitVec 32 :=
  select (cmpi .slt o (broadcastInDim S2x80x1 ![] bcast_S_S2x80x1 (constantI S_ 32 0#32)))
    (addi o (broadcastInDim S2x80x1 ![] bcast_S_S2x80x1 (constantI S_ 32 1000#32))) o

def pickMask (o : S2x80x1.Idx → BitVec 32) : S2x80.Idx → BitVec 1 :=
  Host.reduce IntOp.andi (andi (cmpi .sge (wrapPick o) (broadcastInDim S2x80x1 ![] bcast_S_S2x80x1 (constantI S_ 32 0#32)))
    (cmpi .sle (wrapPick o) (broadcastInDim S2x80x1 ![0, 1, 2] bcast_S1x1x1_S2x80x1_0_1_2
      (broadcastInDim S1x1x1 ![2] bcast_S1_S1x1x1_2 (constantI S1 32 999#32))))) (constantI S_ 1 1#1) reducesTo_S2x80x1_S2x80_d2 h_S_

/-- The rows of the table at the pivots. -/
def pickRow (u : S2x1000x1000.Idx → EReal) (o : S2x80x1.Idx → BitVec 32) : S2x80x1000.Idx → EReal :=
  select (broadcastInDim S2x80x1000 ![0, 1] bcast_S2x80_S2x80x1000_0_1 (pickMask o))
    (Host.gather gather_S2x1000x1000_S2x80x1_S2x80x1000_2_1_0_0_1_2_111000 u (wrapPick o))
    (broadcastInDim S2x80x1000 ![] bcast_S_S2x80x1000 (constant (F := Ideal) S_ .f32 0x7FC00000#32))

/-- The marks after one pivot. -/
def stepMarks (o : S2x80x1000.Idx → BitVec 32) (u : S2x1000x1000.Idx → EReal) (n : S1000.Idx → BitVec 32) (v : S2x80x1000.Idx → BitVec 1)
    (i : S_.Idx → BitVec 32) (k : S2x80x1000.Idx → BitVec 1) : S2x80x1000.Idx → BitVec 1 :=
  andi k (noti (andi (andi (andi
    (cmpf (F := Ideal) (φ := .f32) .ogt (takeRows (pickRow u (pick o i)) o)
      (broadcastInDim S2x80x1000 ![] bcast_S_S2x80x1000 (constant (F := Ideal) S_ .f32 0x3F000000#32)))
    (broadcastInDim S2x80x1000 ![0, 1, 2] bcast_S1x1x1000_S2x80x1000_0_1_2 (broadcastInDim S1x1x1000 ![2] bcast_S1000_S1x1x1000_2
      (cmpi .sgt n (broadcastInDim S1000 ![] bcast_S_S1000 i)))))
    (broadcastInDim S2x80x1000 ![0, 1, 2] bcast_S2x80x1_S2x80x1000_0_1_2 (pick k i)))
    (broadcastInDim S2x80x1000 ![0, 1, 2] bcast_S2x80x1_S2x80x1000_0_1_2 (pick v i))))

theorem step_read (V : Valuation τ sig (Elt Ideal)) : step_main_v55_6 V
    = stepMarks (V (Proc.devRef .tc main_v55_0)) (V (Proc.devRef .tc main_v55_1)) (V (Proc.devRef .tc main_v55_2))
        (V (Proc.devRef .tc main_v55_3)) (V (Proc.devRef .tc main_v55_5)) (V (Proc.devRef .tc main_v55_6)) := by
  unfold step_main_v55_6 res_main_while0b_call3_v5 res_main_while0b_call2_v4 res_main_while0b_v118
  rfl

theorem entry_read (V : Valuation τ sig (Elt Ideal)) :
    afterL preI V (Proc.devRef .tc main_v2) = boxOrder (V (Proc.devRef .tc main_arg1))
    ∧ afterL preI V (Proc.devRef .tc main_v3) = sorted (V (Proc.devRef .tc main_arg1))
    ∧ afterL preI V (Proc.devRef .tc main_v55_0) = boxOrder (V (Proc.devRef .tc main_arg1))
    ∧ afterL preI V (Proc.devRef .tc main_v55_1) = overlap (V (Proc.devRef .tc main_arg0))
    ∧ afterL preI V (Proc.devRef .tc main_v55_2) = iotaInDim S1000 32 0
    ∧ afterL preI V (Proc.devRef .tc main_v55_3) = cmpf (F := Ideal) (φ := .f32) .ogt (sorted (V (Proc.devRef .tc main_arg1)))
        (broadcastInDim S2x80x1000 ![] bcast_S_S2x80x1000 (constant (F := Ideal) S_ .f32 0x3D4CCCCD#32))
    ∧ afterL preI V (Proc.devRef .tc main_v55_5) = constantI S_ 32 0#32
    ∧ afterL preI V (Proc.devRef .tc main_v55_6) = broadcastInDim S2x80x1000 ![] bcast_S_S2x80x1000 (constantI S_ 1 1#1) := by
  simp only [preI, afterL_cons, afterL_nil]
  refine ⟨?_, ?_, ?_, ?_, ?_, ?_, ?_, ?_⟩ <;> after_results <;>
    simp -implicitDefEqProofs only [TRef.toBuf, TRef.ofBuf, cast_eq, id] <;> rfl

end Cert.ReferenceIdeal.Value
-- ==== Proof.Scatter.lean ====
/- The scores put back at the boxes they belong to: place by place, under an order that names every box of a class once. -/
module

public import proofs.«01_k».proof.Proof.RPost
public import proofs.«01_k».proof.Proof.Order
public import Idealize.ShloMosaic.Lib.Routing.OpsSet

@[expose] public section

set_option maxRecDepth 16384

noncomputable section

namespace Nms

open Idealize.ShloMosaic

variable {s si u : Shape} (d : ScatterDims s si u)

/-- The dimension numbers of a scatter whose index words name every axis: `f` names the axis of the updates that an axis of
    the index words follows. -/
def Places (f : Fin si.rank → Fin u.rank) : Prop :=
  (∀ a : Fin s.rank, a ∈ d.scatterDimsToOperandDims ∧ a ∉ d.sKept)
  ∧ ∀ b : Fin si.rank, b.val ≠ d.indexVectorDim → d.uScatter[d.siKept.idxOf b]? = some (f b)

set_option synthInstance.maxSize 1024 in
instance (f : Fin si.rank → Fin u.rank) : Decidable (Places d f) := by
  unfold Places; infer_instance

/-- Where an update lands on one axis. -/
theorem places_start {w : ℕ} {f : Fin si.rank → Fin u.rank} (h : Places d f) (j : u.Idx) (idx : IVec si w) (a : Fin s.rank)
    (i : si.Idx) (hi : ∀ b : Fin si.rank, (b.val = d.indexVectorDim → (i b).val = d.scatterDimsToOperandDims.idxOf a)
      ∧ (b.val ≠ d.indexVectorDim → (i b).val = (j (f b)).val)) :
    d.start j idx a + (d.window j a : Int) = (idx i).toInt := by
  obtain ⟨ha, hk⟩ := h.1 a
  have e : d.siIdx j ⟨d.scatterDimsToOperandDims.idxOf a, List.idxOf_lt_length_iff.2 ha⟩ = i := by
    funext b
    apply Fin.ext
    unfold ScatterDims.siIdx
    by_cases hb : b.val = d.indexVectorDim
    · rw [dif_pos hb, (hi b).1 hb]
    · rw [dif_neg hb, (hi b).2 hb]
      obtain ⟨hlt, e⟩ := List.getElem?_eq_some_iff.mp (h.2 b hb)
      rw [← e]
      rfl
  unfold ScatterDims.start ScatterDims.window
  rw [dif_pos ha, dif_neg hk, e]
  simp

end Nms

namespace Cert.ReferenceIdeal.Value

open Cert.ReferenceIdeal Cert.ReferenceIdeal.Gen
open Idealize.ShloMosaic Idealize.ShloMosaic.TcCoe
open Nms

theorem placesR_read (o : S2x80x1000.Idx → BitVec 32) (b : Fin 2) (c : Fin 80) (p q : Fin 1000)
    (h : o (ix3 b c p) = BitVec.ofNat 32 q.val) :
    placesR o (ix4 b c p (0 : Fin 3)) = BitVec.ofNat 32 b.val ∧ placesR o (ix4 b c p (1 : Fin 3)) = BitVec.ofNat 32 c.val
    ∧ placesR o (ix4 b c p (2 : Fin 3)) = BitVec.ofNat 32 q.val := by
  have hb := b.isLt
  have hc := c.isLt
  have hq := q.isLt
  unfold placesR
  refine ⟨?_, ?_, ?_⟩
  · pointwise
    exact Cert.KernelIdeal.Gen.wrapped_ofNat _ _ (by omega)
  · pointwise
    exact Cert.KernelIdeal.Gen.wrapped_ofNat _ _ (by omega)
  · pointwise
    rw [h]
    exact Cert.KernelIdeal.Gen.wrapped_ofNat _ _ (by omega)

theorem toInt_ofNat {n : ℕ} (h : n < 2147483648) : (BitVec.ofNat 32 n).toInt = n := by
  rw [BitVec.toInt_eq_toNat_of_lt (by rw [BitVec.toNat_ofNat]; omega), BitVec.toNat_ofNat]
  omega

/-- The score of place `p` lands at its box and nowhere else. -/
theorem lands (o : S2x80x1000.Idx → BitVec 32) (σ : Fin 2 → Fin 80 → Fin 1000 → Fin 1000)
    (ho : ∀ b c p, o (ix3 b c p) = BitVec.ofNat 32 (σ b c p).val) (b b' : Fin 2) (c c' : Fin 80) (p n : Fin 1000) :
    scatter_S2x80x1000_S2x80x1000x3_S2x80x1000_n_012_012_3.resultIdx? (ix3 b c p) (placesR o) = some (ix3 b' c' n)
      ↔ b = b' ∧ c = c' ∧ σ b c p = n := by
  have hs : ∀ (a : Fin 3), scatter_S2x80x1000_S2x80x1000x3_S2x80x1000_n_012_012_3.start (ix3 b c p) (placesR o) a
      + (scatter_S2x80x1000_S2x80x1000x3_S2x80x1000_n_012_012_3.window (ix3 b c p) a : Int) = (placesR o (ix4 b c p a)).toInt := by
    intro a
    refine places_start _ (f := ![0, 1, 2, 0]) (by decide +kernel) _ _ _ (ix4 b c p a) fun e => ?_
    fin_cases e
    · exact ⟨fun h => absurd h (by decide), fun _ => rfl⟩
    · exact ⟨fun h => absurd h (by decide), fun _ => rfl⟩
    · exact ⟨fun h => absurd h (by decide), fun _ => rfl⟩
    · refine ⟨fun _ => ?_, fun h => absurd rfl h⟩
      show a.val = ([0, 1, 2] : List (Fin 3)).idxOf a
      fin_cases a <;> decide
  obtain ⟨r0, r1, r2⟩ := placesR_read o b c p _ (ho b c p)
  have hb := b.isLt
  have hc := c.isLt
  have hn := (σ b c p).isLt
  rw [Idealize.ShloMosaic.Routing.resultIdx?_eq_some]
  constructor
  · intro h
    have h0 := (hs 0).symm.trans (h 0)
    have h1 := (hs 1).symm.trans (h 1)
    have h2 := (hs 2).symm.trans (h 2)
    rw [r0, toInt_ofNat (by omega)] at h0
    rw [r1, toInt_ofNat (by omega)] at h1
    rw [r2, toInt_ofNat (by omega)] at h2
    exact ⟨Fin.ext (by exact_mod_cast h0), Fin.ext (by exact_mod_cast h1), Fin.ext (by exact_mod_cast h2)⟩
  · rintro ⟨rfl, rfl, rfl⟩ a
    refine (hs a).trans ?_
    fin_cases a
    · exact (congrArg BitVec.toInt r0).trans (toInt_ofNat (by omega))
    · exact (congrArg BitVec.toInt r1).trans (toInt_ofNat (by omega))
    · exact (congrArg BitVec.toInt r2).trans (toInt_ofNat (by omega))

theorem denseR_read (o : S2x80x1000.Idx → BitVec 32) (σ : Fin 2 → Fin 80 → Fin 1000 → Fin 1000)
    (ho : ∀ b c p, o (ix3 b c p) = BitVec.ofNat 32 (σ b c p).val) (hσ : ∀ b c, Function.Injective (σ b c))
    (u : S2x80x1000.Idx → EReal) (b : Fin 2) (c : Fin 80) (p : Fin 1000) :
    denseR o u (ix3 b c (σ b c p)) = u (ix3 b c p) := by
  refine Idealize.ShloMosaic.Routing.scatter_set_hit _ _ _ _ _ _ (fun k hk => ?_) (ix3 b c p) ((lands o σ ho b b c c p _).mpr ⟨rfl, rfl, rfl⟩)
  obtain ⟨b', c', p', rfl⟩ : ∃ (b' : Fin 2) (c' : Fin 80) (p' : Fin 1000), k = ix3 b' c' p' := ⟨k 0, k 1, k 2, eq_ix3 k⟩
  obtain ⟨rfl, rfl, e⟩ := (lands o σ ho b' b c' c p' _).mp hk
  rw [hσ b' c' e]

end Cert.ReferenceIdeal.Value
-- ==== Proof.Count.lean ====
/- The running count along the last axis of an array of three axes. -/
module

public import Idealize.ShloMosaic.Lib.Routing.Ops
public import Idealize.ShloMosaic.Lib.Pointwise
public import Idealize.ShloMosaic.Lib.Pointwise.IndexVar

@[expose] public section

set_option maxRecDepth 16384

noncomputable section

namespace Nms

open Idealize.ShloMosaic Idealize.ShloMosaic.Routing

/-- Position `n` of a window that is one row is `n` along that row. -/
theorem row_symm (N : ℕ) (n : Fin (⟨3, ![1, 1, N]⟩ : Shape).numel) :
    ((⟨3, ![1, 1, N]⟩ : Shape).rowMajor.symm n 2).val = n.val := by
  have e := congrArg Fin.val ((⟨3, ![1, 1, N]⟩ : Shape).rowMajor.apply_symm_apply n)
  rw [Shape.rowMajor_val_three] at e
  have h0 : ((⟨3, ![1, 1, N]⟩ : Shape).rowMajor.symm n 0).val < 1 := ((⟨3, ![1, 1, N]⟩ : Shape).rowMajor.symm n 0).isLt
  have h1 : ((⟨3, ![1, 1, N]⟩ : Shape).rowMajor.symm n 1).val < 1 := ((⟨3, ![1, 1, N]⟩ : Shape).rowMajor.symm n 1).isLt
  have h0' : ((⟨3, ![1, 1, N]⟩ : Shape).rowMajor.symm n 0).val = 0 := by omega
  have h1' : ((⟨3, ![1, 1, N]⟩ : Shape).rowMajor.symm n 1).val = 0 := by omega
  rw [h0', h1'] at e
  simpa using e

/-- A running sum of words that hold numbers holds the sum of the numbers so far. -/
theorem running (l m N M : ℕ) (hN : M + 1 = N) (x : (⟨3, ![l, m, N]⟩ : Shape).Idx → BitVec 32) (b : Fin l) (c : Fin m) (f : ℕ → ℕ)
    (hx : ∀ i : Fin N, x (ix3 b c i) = BitVec.ofNat 32 (f i.val)) {u : Shape} (init : u.Idx → BitVec 32)
    (hu : 0 < u.numel) (hinit : init (Shape.Idx.first hu) = 0#32)
    (h : (⟨3, ![l, m, N]⟩ : Shape).ReduceWindows ![1, 1, N] ![1, 1, 1] ![0, 0, M] ![0, 0, 0] ⟨3, ![l, m, N]⟩) (p : Fin N) :
    Host.reduceWindow IntOp.addi ![1, 1, N] ![1, 1, 1] ![0, 0, M] ![0, 0, 0] x init h hu (ix3 b c p)
      = BitVec.ofNat 32 ((List.range (p.val + 1)).map f).sum := by
  have hp := p.isLt
  have hnum : (⟨3, ![1, 1, N]⟩ : Shape).numel = N := by simp [Shape.numel, Fin.prod_univ_three]
  unfold Host.reduceWindow
  refine (foldl_addi_ofNat _ _ (fun n => if M ≤ p.val + n.val then f (p.val + n.val - M) else 0) (fun n _ => ?_) _ 0 hinit).trans ?_
  · have hw := row_symm N n
    have hn : n.val < N := (n.cast hnum).isLt
    have h0 : ((⟨3, ![1, 1, N]⟩ : Shape).rowMajor.symm n 0).val = 0 := by
      have : ((⟨3, ![1, 1, N]⟩ : Shape).rowMajor.symm n 0).val < 1 := ((⟨3, ![1, 1, N]⟩ : Shape).rowMajor.symm n 0).isLt
      omega
    have h1 : ((⟨3, ![1, 1, N]⟩ : Shape).rowMajor.symm n 1).val = 0 := by
      have : ((⟨3, ![1, 1, N]⟩ : Shape).rowMajor.symm n 1).val < 1 := ((⟨3, ![1, 1, N]⟩ : Shape).rowMajor.symm n 1).isLt
      omega
    dsimp only
    split
    · next hin =>
      have h2 := hin 2
      change M ≤ p.val * 1 + ((⟨3, ![1, 1, N]⟩ : Shape).rowMajor.symm n 2).val
        ∧ p.val * 1 + ((⟨3, ![1, 1, N]⟩ : Shape).rowMajor.symm n 2).val - M < N at h2
      rw [hw] at h2
      rw [if_pos (by omega)]
      refine (congrArg x (funext fun a => Fin.ext ?_)).trans (hx ⟨p.val + n.val - M, by omega⟩)
      match a with
      | ⟨0, _⟩ =>
        show b.val * 1 + ((⟨3, ![1, 1, N]⟩ : Shape).rowMajor.symm n 0).val - 0 = b.val
        omega
      | ⟨1, _⟩ =>
        show c.val * 1 + ((⟨3, ![1, 1, N]⟩ : Shape).rowMajor.symm n 1).val - 0 = c.val
        omega
      | ⟨2, _⟩ =>
        show p.val * 1 + ((⟨3, ![1, 1, N]⟩ : Shape).rowMajor.symm n 2).val - M = p.val + n.val - M
        omega
    · next hin =>
      rw [if_neg fun hle => hin fun a => by
        have hb := b.isLt
        have hc := c.isLt
        match a with
        | ⟨0, _⟩ =>
          show 0 ≤ b.val * 1 + ((⟨3, ![1, 1, N]⟩ : Shape).rowMajor.symm n 0).val
            ∧ b.val * 1 + ((⟨3, ![1, 1, N]⟩ : Shape).rowMajor.symm n 0).val - 0 < l
          omega
        | ⟨1, _⟩ =>
          show 0 ≤ c.val * 1 + ((⟨3, ![1, 1, N]⟩ : Shape).rowMajor.symm n 1).val
            ∧ c.val * 1 + ((⟨3, ![1, 1, N]⟩ : Shape).rowMajor.symm n 1).val - 0 < m
          omega
        | ⟨2, _⟩ =>
          show M ≤ p.val * 1 + ((⟨3, ![1, 1, N]⟩ : Shape).rowMajor.symm n 2).val
            ∧ p.val * 1 + ((⟨3, ![1, 1, N]⟩ : Shape).rowMajor.symm n 2).val - M < N
          omega]
      exact hinit
  · rw [Nat.zero_add, map_finRange_val _ (fun w => if M ≤ p.val + w then f (p.val + w - M) else 0)]
    exact congrArg (BitVec.ofNat 32) ((congrArg (fun K => ((List.range K).map fun w => if M ≤ p.val + w then f (p.val + w - M) else 0).sum)
      (hnum.trans hN.symm)).trans (sum_window f M p.val (by omega)))

end Nms
-- ==== Proof.Rank.lean ====
/- The two rankings read at a place: the scores kept, the flattened arrays, and the class and the box of a flattened place. -/
module

public import proofs.«01_k».proof.Proof.KPost
public import proofs.«01_k».proof.Proof.Scatter
public import proofs.«01_k».proof.Proof.Count
public import Idealize.ShloMosaic.Lib.Routing.Words

@[expose] public section

set_option maxRecDepth 16384

noncomputable section

namespace Nms

open Idealize.ShloMosaic Idealize.ShloMosaic.TcCoe Idealize.ShloMosaic.Routing
open Cert.KernelIdeal Cert.KernelIdeal.Gen Cert.ReferenceIdeal.Value

/-- Two axes made one. -/
theorem flat_read {α : Type} (l m N M : ℕ) (hM : m * N = M) (x : (⟨3, ![l, m, N]⟩ : Shape).Idx → α)
    (h : (⟨3, ![l, m, N]⟩ : Shape).ShapeCasts ⟨2, ![l, M]⟩) (b : Fin l) (c : Fin m) (p : Fin N) (n : Fin M)
    (hn : n.val = c.val * N + p.val) : shapeCast ⟨2, ![l, M]⟩ x h (ix2 b n) = x (ix3 b c p) := by
  refine shapeCast_apply x h _ _ ?_
  rw [Shape.rowMajor_val_three, Shape.rowMajor_val_two]
  show (b.val * m + c.val) * N + p.val = b.val * M + n.val
  subst hM
  rw [hn]
  ring

theorem bit_cases (w : BitVec 1) : w = 0#1 ∨ w = 1#1 := by
  rcases w with ⟨⟨n, hn⟩⟩
  interval_cases n <;> simp

/-- The class of a flattened place of the kernel's ranking. -/
theorem labK_read (i : S2x300.Idx → BitVec 32) (j : S2x300.Idx) (n : ℕ) (hn : n < 81920) (h : i j = BitVec.ofNat 32 n) :
    labK i j = BitVec.ofNat 32 (n / 1024) := by
  have hd : IntOp.divsi .host (i j) 1024#32 = BitVec.ofNat 32 (n / 1024) := by
    rw [h]; exact divsi_word .host (by omega) (by omega) (by omega)
  have hr : IntOp.remsi .host (i j) 1024#32 = BitVec.ofNat 32 (n % 1024) := by
    rw [h]; exact remsi_word .host (by omega) (by omega) (by omega)
  show Scalar.select (IntOp.andi (IntOp.cmpi .ne (if i j = 0 then 0 else if (i j).msb then -1 else 1)
        (if (1024#32 : BitVec 32) = 0 then 0 else if (1024#32 : BitVec 32).msb then -1 else 1))
      (IntOp.cmpi .ne (IntOp.remsi .host (i j) 1024#32) 0#32))
    (IntOp.subi (IntOp.divsi .host (i j) 1024#32) 1#32) (IntOp.divsi .host (i j) 1024#32) = _
  rw [hd, hr]
  rcases Nat.eq_zero_or_pos n with rfl | hp
  · simp [IntOp.cmpi, IntOp.andi, Scalar.select]
  · have hz : i j ≠ 0 := by
      rw [h]
      intro e
      have := congrArg BitVec.toNat e
      rw [BitVec.toNat_ofNat] at this
      simp at this
      omega
    have hm : (i j).msb = false := by
      rw [h, BitVec.msb_eq_false_iff_two_mul_lt, BitVec.toNat_ofNat]
      omega
    have hk : (1024#32 : BitVec 32).msb = false := by decide
    rw [if_neg hz, hm, hk]
    simp [IntOp.cmpi, IntOp.andi, Scalar.select]

theorem labR_read (i : S2x300.Idx → BitVec 32) (j : S2x300.Idx) (n : ℕ) (hn : n < 80000) (h : i j = BitVec.ofNat 32 n) :
    labR i j = BitVec.ofNat 32 (n / 1000) := by
  show IntOp.divsi .host (i j) 1000#32 = _
  rw [h]; exact divsi_word .host (by omega) (by omega) (by omega)

theorem boxR_read (i : S2x300.Idx → BitVec 32) (j : S2x300.Idx) (n : ℕ) (hn : n < 80000) (h : i j = BitVec.ofNat 32 n) :
    boxR i j = BitVec.ofNat 32 (n % 1000) := by
  show IntOp.remsi .host (i j) 1000#32 = _
  rw [h]; exact remsi_word .host (by omega) (by omega) (by omega)

/-- An array of 1000 places a class, read in the 1024 it is padded to. -/
theorem pad_read {α : Type} (x : S2x80x1000.Idx → α) (v : S_.Idx → α) (b : Fin 2) (c : Fin 80) (p : Fin 1000) (q : Fin 1024)
    (hq : q.val = p.val) : pad S2x80x1024 ![0, 0, 0] ![0, 0, 24] ![0, 0, 0] x v pads_S2x80x1000_S2x80x1024_000_000_0240 h_S_ (ix3 b c q)
      = x (ix3 b c p) := by
  obtain ⟨p, hp⟩ := p
  obtain ⟨q, hq'⟩ := q
  simp only at hq
  subst hq
  pointwise
  simp [hp]

theorem boxK_read (o : S2x80x1000.Idx → BitVec 32) (i : S2x300.Idx → BitVec 32) (b : Fin 2) (k : Fin 300) (c : Fin 80) (p : Fin 1000)
    (h : i (ix2 b k) = BitVec.ofNat 32 (c.val * 1024 + p.val)) : boxK o i (ix2 b k) = o (ix3 b c p) := by
  have hc := c.isLt
  have hp := p.isLt
  unfold boxK
  refine (takeFlat_read _ _ b k ⟨c.val * 1024 + p.val, by omega⟩ h).trans ?_
  refine (flat_read 2 80 1024 81920 rfl _ _ b c ⟨p.val, by omega⟩ _ rfl).trans ?_
  exact pad_read o _ b c p _ rfl

/-! ### The scores kept -/

section
variable (kept : Fin 2 → Fin 80 → Fin 1000 → Prop) (uK : S2x80x1024.Idx → BitVec 1) (uR : S2x80x1000.Idx → BitVec 1)

/-- One where a place of a class is kept. -/
def tally (b : Fin 2) (c : Fin 80) (n : ℕ) : ℕ := by
  classical exact if h : n < 1000 then (if kept b c ⟨n, h⟩ then 1 else 0) else 0

/-- What the kernel and the reference mark is kept. -/
def Marks : Prop := (∀ b c (p : Fin 1024), uK (ix3 b c p) = 1#1 ↔ ∃ h : p.val < 1000, kept b c ⟨p.val, h⟩)
  ∧ ∀ b c p, uR (ix3 b c p) = 1#1 ↔ kept b c p

variable {kept uK uR}

theorem extui_bit (w : BitVec 1) (n : ℕ) (h : (w = 1#1 ∧ n = 1) ∨ (w ≠ 1#1 ∧ n = 0)) : w.setWidth 32 = BitVec.ofNat 32 n := by
  rcases h with ⟨rfl, rfl⟩ | ⟨h, rfl⟩
  · rfl
  · rcases bit_cases w with rfl | rfl
    · rfl
    · exact absurd rfl h

theorem countK_read (hM : Marks kept uK uR) (b : Fin 2) (c : Fin 80) (p : Fin 1024) :
    countK uK (ix3 b c p) = BitVec.ofNat 32 ((List.range (p.val + 1)).map (tally kept b c)).sum := by
  classical
  refine running 2 80 1024 1023 rfl _ b c _ (fun i => ?_) _ _ ?_ _ p
  · show (uK (ix3 b c i)).setWidth 32 = _
    refine extui_bit _ _ ?_
    have := hM.1 b c i
    unfold tally
    by_cases h : i.val < 1000
    · rw [dif_pos h]
      by_cases hk : kept b c ⟨i.val, h⟩
      · exact .inl ⟨this.mpr ⟨h, hk⟩, if_pos hk⟩
      · exact .inr ⟨fun e => hk (this.mp e).2, if_neg hk⟩
    · rw [dif_neg h]
      exact .inr ⟨fun e => h (this.mp e).1, rfl⟩
  · rfl

theorem countR_read (hM : Marks kept uK uR) (b : Fin 2) (c : Fin 80) (p : Fin 1000) :
    countR uR (ix3 b c p) = BitVec.ofNat 32 ((List.range (p.val + 1)).map (tally kept b c)).sum := by
  classical
  refine running 2 80 1000 999 rfl _ b c _ (fun i => ?_) _ _ ?_ _ p
  · show (uR (ix3 b c i)).setWidth 32 = _
    refine extui_bit _ _ ?_
    have := hM.2 b c i
    unfold tally
    rw [dif_pos i.isLt]
    by_cases hk : kept b c i
    · exact .inl ⟨this.mpr hk, if_pos hk⟩
    · exact .inr ⟨fun e => hk (this.mp e), if_neg hk⟩
  · rfl

/-- The first 300 are the same. -/
theorem first_eq (hM : Marks kept uK uR) (b : Fin 2) (c : Fin 80) (p : Fin 1000) (q : Fin 1024) (hq : q.val = p.val) :
    firstK uK (ix3 b c q) = firstR uR (ix3 b c p) := by
  have h1 := countK_read hM b c q
  have h2 := countR_read hM b c p
  rw [hq] at h1
  have hu : uK (ix3 b c q) = uR (ix3 b c p) := by
    have e1 := hM.1 b c q
    have e2 := hM.2 b c p
    have e : uK (ix3 b c q) = 1#1 ↔ uR (ix3 b c p) = 1#1 := by
      rw [e1, e2]
      have : ∀ h : q.val < 1000, (⟨q.val, h⟩ : Fin 1000) = p := fun h => Fin.ext hq
      exact ⟨fun ⟨h, hk⟩ => this h ▸ hk, fun hk => ⟨by omega, (this (by omega)).symm ▸ hk⟩⟩
    rcases bit_cases (uK (ix3 b c q)) with h | h <;> rcases bit_cases (uR (ix3 b c p)) with h' | h' <;> simp_all
  show IntOp.andi (uK (ix3 b c q)) (IntOp.cmpi .slt (IntOp.subi (countK uK (ix3 b c q)) 1#32) 300#32)
    = IntOp.andi (uR (ix3 b c p)) (IntOp.cmpi .slt (IntOp.subi (countR uR (ix3 b c p)) 1#32) 300#32)
  rw [hu, h1, h2]

theorem first_kept (hM : Marks kept uK uR) (b : Fin 2) (c : Fin 80) (p : Fin 1000) (h : firstR uR (ix3 b c p) = 1#1) :
    kept b c p := by
  refine (hM.2 b c p).mp ?_
  have e : IntOp.andi (uR (ix3 b c p)) (IntOp.cmpi .slt (IntOp.subi (countR uR (ix3 b c p)) 1#32) 300#32) = 1#1 := h
  rcases bit_cases (uR (ix3 b c p)) with h' | h'
  · rw [h'] at e
    simp [IntOp.andi] at e
  · exact h'

theorem first_pad (hM : Marks kept uK uR) (b : Fin 2) (c : Fin 80) (q : Fin 1024) (hq : ¬ q.val < 1000) :
    firstK uK (ix3 b c q) = 0#1 := by
  have e : uK (ix3 b c q) = 0#1 := by
    rcases bit_cases (uK (ix3 b c q)) with h | h
    · exact h
    · exact absurd ((hM.1 b c q).mp h).1 hq
  show IntOp.andi (uK (ix3 b c q)) _ = _
  rw [e]
  simp [IntOp.andi]

/-- The score given to what is not kept. -/
def least : EReal := Ideal.ofBits .f32 0xCE6E6B28#32

theorem scoresR_read (s : S2x80x1000.Idx → EReal) (b : Fin 2) (c : Fin 80) (p : Fin 1000) :
    scoresR uR s (ix3 b c p) = if firstR uR (ix3 b c p) = 1#1 then s (ix3 b c p) else least := by
  show Scalar.select (firstR uR (ix3 b c p)) (s (ix3 b c p)) least = _
  rfl

theorem scoresK_read (hM : Marks kept uK uR) (s : S2x80x1000.Idx → EReal) (b : Fin 2) (c : Fin 80) (p : Fin 1000) (q : Fin 1024)
    (hq : q.val = p.val) : scoresK uK s (ix3 b c q) = if firstR uR (ix3 b c p) = 1#1 then s (ix3 b c p) else least := by
  show Scalar.select (firstK uK (ix3 b c q)) _ least = _
  rw [first_eq hM b c p q hq, pad_read s _ b c p q hq]
  rfl

theorem scoresK_pad (hM : Marks kept uK uR) (s : S2x80x1000.Idx → EReal) (b : Fin 2) (c : Fin 80) (q : Fin 1024)
    (hq : ¬ q.val < 1000) : scoresK uK s (ix3 b c q) = least := by
  show Scalar.select (firstK uK (ix3 b c q)) _ least = _
  rw [first_pad hM b c q hq]
  rfl

end

end Nms
-- ==== Proof.Agree.lean ====
/- Where both programs keep the same candidates their rankings agree: the same ones above the floor, with the same score, class
   and box. -/
module

public import proofs.«01_k».proof.Proof.Rank

@[expose] public section

set_option maxRecDepth 16384

noncomputable section

namespace Nms

open Idealize.ShloMosaic Idealize.ShloMosaic.TcCoe
open Cert.KernelIdeal Cert.KernelIdeal.Gen Cert.ReferenceIdeal.Value

/-- The score threshold. -/
def threshold : EReal := Ideal.ofBits .f32 0x3D4CCCCD#32

/-- The floor of a candidate's score. -/
def floorScore : EReal := Ideal.ofBits .f32 0xCCBEBC20#32

theorem least_lt_floor : least < floorScore := by
  unfold least floorScore
  simp [Ideal.ofBits, Ideal.ieee]
  norm_cast

theorem floor_lt_threshold : floorScore < threshold := by
  unfold floorScore threshold
  simp [Ideal.ofBits, Ideal.ieee]
  norm_cast
  norm_num

theorem live_read (v : S2x300.Idx → EReal) (j : S2x300.Idx) : (live v j = 1#1 ↔ floorScore < v j) := by
  show Ideal.cmp .ogt (v j) floorScore = 1#1 ↔ _
  by_cases h : floorScore < v j <;> simp [Ideal.cmp, h]

theorem bits_eq (u v : BitVec 1) (h : u = 1#1 ↔ v = 1#1) : u = v := by
  rcases bit_cases u with rfl | rfl <;> rcases bit_cases v with rfl | rfl <;> simp_all

section
variable {kept : Fin 2 → Fin 80 → Fin 1000 → Prop} {uK : S2x80x1024.Idx → BitVec 1} {uR : S2x80x1000.Idx → BitVec 1}
  (x1 : S2x1000x80.Idx → EReal)

theorem at_def (b : Fin 2) (c : Fin 80) : at' x1 b c = place fun n => x1 (ix3 b n c) := rfl

theorem at_injective (b : Fin 2) (c : Fin 80) : Function.Injective (at' x1 b c) := place_injective _

attribute [local irreducible] at' place

/-- The kernel's flattened place of a candidate. -/
def gi (c : Fin 80) (p : Fin 1000) : Fin 81920 := ⟨c.val * 1024 + p.val, by have := c.isLt; have := p.isLt; omega⟩

/-- The reference's. -/
def fi (b : Fin 2) (c : Fin 80) (p : Fin 1000) : Fin 80000 :=
  ⟨c.val * 1000 + (at' x1 b c p).val, by have := c.isLt; have := (at' x1 b c p).isLt; omega⟩

theorem gi_read (hM : Marks kept uK uR) (b : Fin 2) (c : Fin 80) (p : Fin 1000) :
    flatK (scoresK uK (sorted x1)) (ix2 b (gi c p)) = if firstR uR (ix3 b c p) = 1#1 then sorted x1 (ix3 b c p) else least := by
  refine (flat_read 2 80 1024 81920 rfl _ _ b c ⟨p.val, by have := p.isLt; omega⟩ _ rfl).trans ?_
  exact scoresK_read hM _ b c p _ rfl

theorem fi_val (b : Fin 2) (c : Fin 80) (p : Fin 1000) : (fi x1 b c p).val = c.val * 1000 + (at' x1 b c p).val := rfl

theorem fi_read (b : Fin 2) (c : Fin 80) (p : Fin 1000) :
    flatR (denseR (boxOrder x1) (scoresR uR (sorted x1))) (ix2 b (fi x1 b c p))
      = if firstR uR (ix3 b c p) = 1#1 then sorted x1 (ix3 b c p) else least := by
  refine (flat_read 2 80 1000 80000 rfl _ _ b c (at' x1 b c p) (fi x1 b c p) (fi_val x1 b c p)).trans ?_
  refine (denseR_read _ (at' x1) (boxOrder_read x1) (at_injective x1) _ b c p).trans ?_
  exact scoresR_read _ b c p

theorem fi_surjective (b : Fin 2) (n : Fin 80000) : ∃ c p, fi x1 b c p = n := by
  have hn := n.isLt
  obtain ⟨p, hp⟩ := place_surjective (fun q => x1 (ix3 b q (⟨n.val / 1000, by omega⟩ : Fin 80))) ⟨n.val % 1000, by omega⟩
  refine ⟨⟨n.val / 1000, by omega⟩, p, Fin.ext ?_⟩
  have e : (at' x1 b ⟨n.val / 1000, by omega⟩ p).val = n.val % 1000 := by rw [at_def, hp]
  show n.val / 1000 * 1000 + (at' x1 b ⟨n.val / 1000, by omega⟩ p).val = n.val
  rw [e]
  omega

theorem fi_injective (b : Fin 2) {c c' : Fin 80} {p p' : Fin 1000} (h : fi x1 b c p = fi x1 b c' p') : c = c' ∧ p = p' := by
  have e : c.val * 1000 + (at' x1 b c p).val = c'.val * 1000 + (at' x1 b c' p').val := congrArg Fin.val h
  have h1 := (at' x1 b c p).isLt
  have h2 := (at' x1 b c' p').isLt
  have hc : c = c' := Fin.ext (by omega)
  subst hc
  exact ⟨rfl, at_injective x1 b c (Fin.ext (by omega))⟩

theorem gi_injective {c c' : Fin 80} {p p' : Fin 1000} (h : gi c p = gi c' p') : c = c' ∧ p = p' := by
  have e : c.val * 1024 + p.val = c'.val * 1024 + p'.val := congrArg Fin.val h
  have h1 := p.isLt
  have h2 := p'.isLt
  exact ⟨Fin.ext (by omega), Fin.ext (by omega)⟩

/-- Among equal scores of a class the boxes stand in their own order. -/
theorem at_lt_iff (b : Fin 2) (c : Fin 80) (p p' : Fin 1000) (h : sorted x1 (ix3 b c p) = sorted x1 (ix3 b c p')) :
    at' x1 b c p < at' x1 b c p' ↔ p < p' := by
  rw [sorted_read, sorted_read, at_def] at h
  rw [at_def]
  have e := bef_place_iff (fun n => x1 (ix3 b n c)) p p'
  unfold Bef at e
  rw [← e]
  exact ⟨fun hl => .inr ⟨h, hl⟩, fun hb => hb.elim (fun hl => absurd h (ne_of_gt hl)) And.right⟩

/-- The two rankings agree. -/
theorem agree (hM : Marks kept uK uR) (hT : ∀ b c p, kept b c p → threshold < sorted x1 (ix3 b c p)) (b : Fin 2) (k : Fin 300) :
    let vK := valsK (scoresK uK (sorted x1))
    let iK := indsK (scoresK uK (sorted x1))
    let vR := valsR (denseR (boxOrder x1) (scoresR uR (sorted x1)))
    let iR := indsR (denseR (boxOrder x1) (scoresR uR (sorted x1)))
    live vK (ix2 b k) = live vR (ix2 b k) ∧ (live vR (ix2 b k) = 1#1 → vK (ix2 b k) = vR (ix2 b k)
      ∧ labK iK (ix2 b k) = labR iR (ix2 b k)
      ∧ ∃ q : Fin 1000, boxK (boxOrder x1) iK (ix2 b k) = BitVec.ofNat 32 q.val ∧ boxR iR (ix2 b k) = BitVec.ofNat 32 q.val) := by
  classical
  intro vK iK vR iR
  have hk := k.isLt
  -- the values in hand
  let f : Fin 80000 → EReal := fun n => flatR (denseR (boxOrder x1) (scoresR uR (sorted x1))) (ix2 b n)
  let g : Fin 81920 → EReal := fun n => flatK (scoresK uK (sorted x1)) (ix2 b n)
  have hg : ∀ c p, g (gi c p) = if firstR uR (ix3 b c p) = 1#1 then sorted x1 (ix3 b c p) else least := fun c p => gi_read x1 hM b c p
  have hf : ∀ c p, f (fi x1 b c p) = if firstR uR (ix3 b c p) = 1#1 then sorted x1 (ix3 b c p) else least := fun c p => fi_read x1 b c p
  have hgp : ∀ n : Fin 81920, (¬ ∃ c p, gi c p = n) → g n = least := by
    intro n hn
    have hlt := n.isLt
    refine (flat_read 2 80 1024 81920 rfl _ _ b ⟨n.val / 1024, by omega⟩ ⟨n.val % 1024, by omega⟩ n (by simp only; omega)).trans ?_
    refine scoresK_pad hM _ b _ _ fun h => hn ⟨⟨n.val / 1024, by omega⟩, ⟨n.val % 1024, h⟩, Fin.ext ?_⟩
    show n.val / 1024 * 1024 + n.val % 1024 = n.val
    omega
  obtain ⟨eK, eKi⟩ := topK_read 81920 (by omega) (flatK (scoresK uK (sorted x1))) sliceFits_S2x81920_S2x300 b k
  obtain ⟨eR, eRi⟩ := topK_read 80000 (by omega) (flatR (denseR (boxOrder x1) (scoresR uR (sorted x1)))) Cert.ReferenceIdeal.Gen.sliceFits_S2x80000_S2x300 b k
  -- what is kept, flattened
  let Kg : Fin 81920 → Prop := fun n => ∃ c p, gi c p = n ∧ firstR uR (ix3 b c p) = 1#1
  let Kf : Fin 80000 → Prop := fun n => ∃ c p, fi x1 b c p = n ∧ firstR uR (ix3 b c p) = 1#1
  let π : Fin 81920 → Fin 80000 := fun n => if h : ∃ cp : Fin 80 × Fin 1000, gi cp.1 cp.2 = n then fi x1 b h.choose.1 h.choose.2 else ⟨0, by omega⟩
  have hπ : ∀ c p, π (gi c p) = fi x1 b c p := by
    intro c p
    have h : ∃ cp : Fin 80 × Fin 1000, gi cp.1 cp.2 = gi c p := ⟨(c, p), rfl⟩
    show (if h : ∃ cp : Fin 80 × Fin 1000, gi cp.1 cp.2 = gi c p then fi x1 b h.choose.1 h.choose.2 else ⟨0, by omega⟩) = _
    rw [dif_pos h]
    obtain ⟨e1, e2⟩ := gi_injective h.choose_spec
    rw [e1, e2]
  have hKg : ∀ c p, Kg (gi c p) → firstR uR (ix3 b c p) = 1#1 := by
    rintro c p ⟨c', p', e, h⟩
    obtain ⟨rfl, rfl⟩ := gi_injective e
    exact h
  have hKf : ∀ c p, Kf (fi x1 b c p) → firstR uR (ix3 b c p) = 1#1 := by
    rintro c p ⟨c', p', e, h⟩
    obtain ⟨rfl, rfl⟩ := fi_injective x1 b e
    exact h
  have hgv : ∀ n, Kg n → threshold < g n := by
    rintro n ⟨c, p, rfl, h⟩
    rw [hg, if_pos h]
    exact hT b c p (first_kept hM b c p h)
  have hfv : ∀ n, Kf n → threshold < f n := by
    rintro n ⟨c, p, rfl, h⟩
    rw [hf, if_pos h]
    exact hT b c p (first_kept hM b c p h)
  have hgl : ∀ n, ¬ Kg n → g n = least := by
    intro n hn
    by_cases h : ∃ c p, gi c p = n
    · obtain ⟨c, p, rfl⟩ := h
      rw [hg, if_neg fun h' => hn ⟨c, p, rfl, h'⟩]
    · exact hgp n h
  have hfl : ∀ n, ¬ Kf n → f n = least := by
    intro n hn
    obtain ⟨c, p, rfl⟩ := fi_surjective x1 b n
    rw [hf, if_neg fun h' => hn ⟨c, p, rfl, h'⟩]
  have hlt := least_lt_floor.trans floor_lt_threshold
  have hbef : ∀ i j, Kg i → Kg j → (Bef f (π i) (π j) ↔ Bef g i j) := by
    rintro _ _ ⟨c, p, rfl, h⟩ ⟨c', p', rfl, h'⟩
    unfold Bef
    rw [hπ, hπ, hf, hf, hg, hg, if_pos h, if_pos h']
    refine or_congr_right (and_congr_right fun e => ?_)
    have h1 := (at' x1 b c p).isLt
    have h2 := (at' x1 b c' p').isLt
    have h3 := p.isLt
    have h4 := p'.isLt
    show c.val * 1000 + (at' x1 b c p).val < c'.val * 1000 + (at' x1 b c' p').val ↔ c.val * 1024 + p.val < c'.val * 1024 + p'.val
    by_cases hc : c = c'
    · subst hc
      have := at_lt_iff x1 b c p p' e
      rw [Fin.lt_def, Fin.lt_def] at this
      omega
    · have : c.val ≠ c'.val := fun e => hc (Fin.ext e)
      omega
  have main := corresponds f g Kf Kg π (by rintro _ ⟨c, p, rfl, h⟩; rw [hπ]; exact ⟨c, p, rfl, h⟩)
    (by
      rintro _ _ ⟨c, p, rfl, h⟩ ⟨c', p', rfl, h'⟩ e
      rw [hπ, hπ] at e
      obtain ⟨rfl, rfl⟩ := fi_injective x1 b e
      rfl)
    (by rintro _ ⟨c, p, rfl, h⟩; exact ⟨gi c p, ⟨c, p, rfl, h⟩, hπ c p⟩) hbef
    (fun i j hi hj => by rw [hfl j hj]; exact hlt.trans (hfv i hi))
    (fun i j hi hj => by rw [hgl j hj]; exact hlt.trans (hgv i hi)) k.val (by omega) (by omega)
  have lK := live_read vK (ix2 b k)
  have lR := live_read vR (ix2 b k)
  have eK' : vK (ix2 b k) = g (place g ⟨k.val, by omega⟩) := eK
  have eR' : vR (ix2 b k) = f (place f ⟨k.val, by omega⟩) := eR
  have eKi' : iK (ix2 b k) = BitVec.ofNat 32 (place g ⟨k.val, by omega⟩).val := eKi
  have eRi' : iR (ix2 b k) = BitVec.ofNat 32 (place f ⟨k.val, by omega⟩).val := eRi
  have hdg : ∀ n, Kg n ↔ ∃ c p, gi c p = n ∧ firstR uR (ix3 b c p) = 1#1 := fun _ => Iff.rfl
  clear_value vK vR iK iR f g Kg Kf π
  rcases main with ⟨m1, m2, m3⟩ | ⟨m1, m2⟩
  · obtain ⟨c, p, hcp, -⟩ := (hdg _).mp m1
    rw [← hcp] at m3 eK' eKi'
    rw [hπ] at m3
    rw [m3] at eR' eRi' m2
    have h := hKf c p m2
    rw [hg, if_pos h] at eK'
    rw [hf, if_pos h] at eR'
    refine ⟨bits_eq _ _ (by rw [lK, lR, eK', eR']), fun _ => ⟨eK'.trans eR'.symm, ?_, at' x1 b c p, ?_, ?_⟩⟩
    · have h1 := c.isLt
      have h2 := p.isLt
      have h3 := (at' x1 b c p).isLt
      rw [labK_read iK _ _ (gi c p).isLt eKi', labR_read iR _ _ (fi x1 b c p).isLt eRi']
      refine congrArg (BitVec.ofNat 32) ?_
      show (c.val * 1024 + p.val) / 1024 = (c.val * 1000 + (at' x1 b c p).val) / 1000
      omega
    · exact (boxK_read _ iK b k c p eKi').trans (boxOrder_read x1 b c p)
    · have h3 := (at' x1 b c p).isLt
      rw [boxR_read iR _ _ (fi x1 b c p).isLt eRi']
      refine congrArg (BitVec.ofNat 32) ?_
      show (c.val * 1000 + (at' x1 b c p).val) % 1000 = (at' x1 b c p).val
      omega
  · have e1 := hgl _ m1
    have e2 := hfl _ m2
    have n2 : ¬ live vR (ix2 b k) = 1#1 := by rw [lR, eR', e2]; exact not_lt.mpr least_lt_floor.le
    refine ⟨bits_eq _ _ (by rw [lK, lR, eK', eR', e1, e2]), fun h => absurd h n2⟩

end

end Nms
-- ==== Proof.RTrip.lean ====
/- The reference's loop, read candidate by candidate: which survive the pivots so far. -/
module

public import proofs.«01_k».proof.Proof.RLoop
public import proofs.«01_k».proof.Proof.Agree
public import Idealize.ShloMosaic.Lib.WordCmp

@[expose] public section

set_option maxRecDepth 16384

noncomputable section

namespace Nms

/-- Which candidates of a class survive the first `n` pivots: a pivot removes those after it that overlap it, if it
    survives itself and is a candidate. -/
def Alive (E : Fin 1000 → Fin 1000 → Prop) (T : Fin 1000 → Prop) : ℕ → Fin 1000 → Prop
  | 0, _ => True
  | n + 1, p => Alive E T n p ∧ ¬ ∃ h : n < 1000, E ⟨n, h⟩ p ∧ n < p.val ∧ Alive E T n ⟨n, h⟩ ∧ T ⟨n, h⟩

end Nms

namespace Cert.ReferenceIdeal.Value

open Cert.ReferenceIdeal Cert.ReferenceIdeal.Gen
open Idealize.ShloMosaic Idealize.ShloMosaic.TcCoe Idealize.ShloMosaic.Tactic Idealize.ShloMosaic.StableHlo
open Nms
open Cert.KernelIdeal.Gen (takeRows takeRows_read wrapped_ofNat mask_one boxOrder sorted slt_zero boxOrder_read)

theorem corner0_read (x : S2x1000x4.Idx → EReal) (b : Fin 2) (i : Fin 1000) : corner0 x (ix2 b i) = x (ix3 b i (0 : Fin 4)) := by
  unfold corner0
  pointwise
theorem corner1_read (x : S2x1000x4.Idx → EReal) (b : Fin 2) (i : Fin 1000) : corner1 x (ix2 b i) = x (ix3 b i (1 : Fin 4)) := by
  unfold corner1
  pointwise
theorem corner2_read (x : S2x1000x4.Idx → EReal) (b : Fin 2) (i : Fin 1000) : corner2 x (ix2 b i) = x (ix3 b i (2 : Fin 4)) := by
  unfold corner2
  pointwise
theorem corner3_read (x : S2x1000x4.Idx → EReal) (b : Fin 2) (i : Fin 1000) : corner3 x (ix2 b i) = x (ix3 b i (3 : Fin 4)) := by
  unfold corner3
  pointwise

/-- The common area of two boxes. -/
def meet (a0 a1 a2 a3 b0 b1 b2 b3 : EReal) : EReal :=
  max (min a2 b2 - max a0 b0) 0 * max (min a3 b3 - max a1 b1) 0

theorem overlap_read (x : S2x1000x4.Idx → EReal) (b : Fin 2) (i j : Fin 1000) :
    overlap x (ix3 b i j)
      = Ideal.div (meet (x (ix3 b i (0 : Fin 4))) (x (ix3 b i (1 : Fin 4))) (x (ix3 b i (2 : Fin 4))) (x (ix3 b i (3 : Fin 4)))
          (x (ix3 b j (0 : Fin 4))) (x (ix3 b j (1 : Fin 4))) (x (ix3 b j (2 : Fin 4))) (x (ix3 b j (3 : Fin 4))))
        (max ((x (ix3 b i (2 : Fin 4)) - x (ix3 b i (0 : Fin 4))) * (x (ix3 b i (3 : Fin 4)) - x (ix3 b i (1 : Fin 4)))
          + (x (ix3 b j (2 : Fin 4)) - x (ix3 b j (0 : Fin 4))) * (x (ix3 b j (3 : Fin 4)) - x (ix3 b j (1 : Fin 4)))
          - meet (x (ix3 b i (0 : Fin 4))) (x (ix3 b i (1 : Fin 4))) (x (ix3 b i (2 : Fin 4))) (x (ix3 b i (3 : Fin 4)))
          (x (ix3 b j (0 : Fin 4))) (x (ix3 b j (1 : Fin 4))) (x (ix3 b j (2 : Fin 4))) (x (ix3 b j (3 : Fin 4))))
          (Ideal.ofBits .f32 0x322BCC77#32)) := by
  unfold overlap common area down across everywhere meet
  pointwise
  simp only [corner0_read, corner1_read, corner2_read, corner3_read]

theorem pivot_read (i : S_.Idx → BitVec 32) (n : ℕ) (hn : n < 1000) (h : ∀ j, i j = BitVec.ofNat 32 n) (j : S_.Idx) :
    pivot i j = BitVec.ofNat 32 n := by
  show Scalar.select (IntOp.cmpi .slt (i j) 0#32) (IntOp.addi (i j) 1000#32) (i j) = _
  rw [h]
  exact wrapped_ofNat _ _ (by omega)

theorem pick_read {w : ℕ} (x : S2x80x1000.Idx → BitVec w) (i : S_.Idx → BitVec 32) (n : ℕ) (hn : n < 1000)
    (h : ∀ j, i j = BitVec.ofNat 32 n) (b : Fin 2) (c : Fin 80) : pick x i (ix3 b c (0 : Fin 1)) = x (ix3 b c ⟨n, hn⟩) := by
  have hs : S2x80x1000.Slices ![0, 0, n] S2x80x1 := by
    refine ⟨rfl, fun a => ?_⟩
    fin_cases a
    · show 0 + 2 ≤ 2; omega
    · show 0 + 80 ≤ 80; omega
    · show n + 1 ≤ 1000; omega
  unfold pick
  rw [Idealize.ShloMosaic.WordCmp.dynamicSlice_eq_extract _ _ _ _ ![0, 0, n] hs]
  · refine congrArg x (funext fun a => Fin.ext ?_)
    fin_cases a
    · show 0 + b.val = b.val; omega
    · show 0 + c.val = c.val; omega
    · show n + 0 = n; omega
  · intro a
    fin_cases a
    · rfl
    · rfl
    · show (pivot i _).toInt = (n : ℤ)
      rw [pivot_read i n hn h]
      rw [BitVec.toInt_eq_toNat_of_lt (by rw [BitVec.toNat_ofNat]; omega), BitVec.toNat_ofNat]
      omega

theorem pickRow_read (u : S2x1000x1000.Idx → EReal) (o : S2x80x1.Idx → BitVec 32) (b : Fin 2) (c : Fin 80) (p q : Fin 1000)
    (h : o (ix3 b c (0 : Fin 1)) = BitVec.ofNat 32 q.val) : pickRow u o (ix3 b c p) = u (ix3 b q p) := by
  have hq := q.isLt
  have hw : wrapPick o (ix3 b c (0 : Fin 1)) = BitVec.ofNat 32 q.val := by
    unfold wrapPick
    pointwise
    rw [h]
    exact wrapped_ofNat _ _ (by omega)
  have hm : pickMask o (ix2 b c) = 1#1 := by
    unfold pickMask wrapPick
    pointwise
    have hx : ∀ x : Fin 1, x = 0 := fun x => Subsingleton.elim _ _
    simp only [hx]
    exact mask_one _ _ _ q.val 999 h rfl (by omega) (by omega)
  have hg : Host.gather gather_S2x1000x1000_S2x80x1_S2x80x1000_2_1_0_0_1_2_111000 u (wrapPick o) (ix3 b c p) = u (ix3 b q p) :=
    gather_along _ (ax := (1 : Fin 3)) (f := ![0, 1, 0]) (g := ![0, 0, 2]) (by decide +kernel) u _ _ _ (ix3 b c (0 : Fin 1))
      (by
        intro a
        fin_cases a
        · exact ⟨fun h => absurd h (by decide), fun _ => rfl⟩
        · exact ⟨fun h => absurd h (by decide), fun _ => rfl⟩
        · exact ⟨fun _ => rfl, fun h => absurd rfl h⟩)
      (by intro a; fin_cases a <;> intro h <;> first | rfl | exact absurd rfl h)
      (by rw [hw, toNat_ofNat (by omega)]; rfl)
  unfold pickRow
  pointwise
  rw [hm, hg]
  simp [Scalar.select]

theorem gt_word (m n : ℕ) (hm : m < 1000) (hn : n < 1000) : IntOp.cmpi .sgt (BitVec.ofNat 32 m) (BitVec.ofNat 32 n) = 1#1 ↔ n < m := by
  have e : (BitVec.ofNat 32 n).toInt < (BitVec.ofNat 32 m).toInt ↔ n < m := by
    rw [BitVec.toInt_eq_toNat_of_lt (by rw [BitVec.toNat_ofNat]; omega),
      BitVec.toInt_eq_toNat_of_lt (by rw [BitVec.toNat_ofNat]; omega), BitVec.toNat_ofNat, BitVec.toNat_ofNat]; omega
  by_cases h : n < m <;> simp [IntOp.cmpi, BitVec.slt, e, h]

theorem and_not_bits (k a1 a2 a3 a4 : BitVec 1) : IntOp.andi k (~~~IntOp.andi (IntOp.andi (IntOp.andi a1 a2) a3) a4) = 1#1
    ↔ k = 1#1 ∧ ¬ (a1 = 1#1 ∧ a2 = 1#1 ∧ a3 = 1#1 ∧ a4 = 1#1) := by
  revert k a1 a2 a3 a4; decide

theorem ofBool_one (P : Prop) [Decidable P] : BitVec.ofBool (decide P) = 1#1 ↔ P := by
  by_cases h : P <;> simp [h]

theorem stepMarks_read (o : S2x80x1000.Idx → BitVec 32) (u : S2x1000x1000.Idx → EReal) (v : S2x80x1000.Idx → BitVec 1)
    (i : S_.Idx → BitVec 32) (k : S2x80x1000.Idx → BitVec 1) (σ : Fin 2 → Fin 80 → Fin 1000 → Fin 1000)
    (ho : ∀ b c p, o (ix3 b c p) = BitVec.ofNat 32 (σ b c p).val) (n : ℕ) (hn : n < 1000) (hi : ∀ j, i j = BitVec.ofNat 32 n)
    (b : Fin 2) (c : Fin 80) (p : Fin 1000) :
    stepMarks o u (iotaInDim S1000 32 0) v i k (ix3 b c p) = 1#1 ↔ k (ix3 b c p) = 1#1
      ∧ ¬ (Ideal.ofBits .f32 0x3F000000#32 < u (ix3 b (σ b c ⟨n, hn⟩) (σ b c p)) ∧ n < p.val
        ∧ k (ix3 b c ⟨n, hn⟩) = 1#1 ∧ v (ix3 b c ⟨n, hn⟩) = 1#1) := by
  have hp := p.isLt
  have e1 : takeRows (pickRow u (pick o i)) o (ix3 b c p) = u (ix3 b (σ b c ⟨n, hn⟩) (σ b c p)) :=
    (takeRows_read _ _ b c p _ (ho b c p)).trans (pickRow_read u _ b c _ _ ((pick_read o i n hn hi b c).trans (ho b c _)))
  have e2 := pick_read k i n hn hi b c
  have e3 := pick_read v i n hn hi b c
  unfold stepMarks
  pointwise
  rw [e1, e2, e3, and_not_bits, ofBool_one, hi, gt_word p.val n hp hn]

section
variable (x0 : S2x1000x4.Idx → EReal) (x1 : S2x1000x80.Idx → EReal)

/-- A pivot overlaps a candidate by more than half. -/
def Over (b : Fin 2) (c : Fin 80) (i p : Fin 1000) : Prop :=
  Ideal.ofBits .f32 0x3F000000#32 < overlap x0 (ix3 b (Cert.KernelIdeal.Gen.at' x1 b c i) (Cert.KernelIdeal.Gen.at' x1 b c p))

/-- Which places of a class hold candidates. -/
def Cand (b : Fin 2) (c : Fin 80) (p : Fin 1000) : Prop := threshold < sorted x1 (ix3 b c p)

/-- The candidates, as bits. -/
def candBits : S2x80x1000.Idx → BitVec 1 := cmpf (F := Ideal) (φ := .f32) .ogt (sorted x1)
  (broadcastInDim S2x80x1000 ![] bcast_S_S2x80x1000 (constant (F := Ideal) S_ .f32 0x3D4CCCCD#32))

theorem candBits_read (b : Fin 2) (c : Fin 80) (p : Fin 1000) : candBits x1 (ix3 b c p) = 1#1 ↔ Cand x1 b c p := by
  unfold candBits Cand threshold
  pointwise
  exact ofBool_one _

variable (m : (ℓ : Loc nD τ sig) → Buf (Elt Ideal) ℓ) (d : Dev nD)

/-- What the loop carries after `n` trips. -/
theorem carried (h0 : m (d, Proc.devRef .tc main_arg0) = x0) (h1 : m (d, Proc.devRef .tc main_arg1) = x1) : ∀ n, n ≤ 1000 →
    STEP^[n] (entryContents preI m d) (Proc.devRef .tc main_v55_0) = boxOrder x1
    ∧ STEP^[n] (entryContents preI m d) (Proc.devRef .tc main_v55_1) = overlap x0
    ∧ STEP^[n] (entryContents preI m d) (Proc.devRef .tc main_v55_2) = iotaInDim S1000 32 0
    ∧ STEP^[n] (entryContents preI m d) (Proc.devRef .tc main_v55_3) = candBits x1
    ∧ (∀ j : S_.Idx, (STEP^[n] (entryContents preI m d) (Proc.devRef .tc main_v55_5) : S_.Idx → BitVec 32) j = BitVec.ofNat 32 n)
    ∧ ∀ b c p, (STEP^[n] (entryContents preI m d) (Proc.devRef .tc main_v55_6) : S2x80x1000.Idx → BitVec 1) (ix3 b c p) = 1#1
      ↔ Alive (Over x0 x1 b c) (Cand x1 b c) n p
  | 0, _ => by
    obtain ⟨-, -, e0, e1, e2, e3, e5, e6⟩ := entry_read (fun r => m (d, r))
    rw [h1] at e0 e3
    rw [h0] at e1
    refine ⟨e0, e1, e2, e3, fun j => ?_, fun b c p => ?_⟩
    · exact congrFun e5 j
    · refine ⟨fun _ => trivial, fun _ => congrFun e6 (ix3 b c p)⟩
  | n + 1, hn => by
    obtain ⟨e0, e1, e2, e3, e5, e6⟩ := carried h0 h1 n (by omega)
    rw [Function.iterate_succ_apply']
    generalize STEP^[n] (entryContents preI m d) = W at *
    refine ⟨(STEP_main_v55_0 W).trans e0, (STEP_main_v55_1 W).trans e1, (STEP_main_v55_2 W).trans e2, (STEP_main_v55_3 W).trans e3,
      fun j => ?_, fun b c p => ?_⟩
    · refine (congrFun (STEP_main_v55_5 W) j).trans ?_
      show IntOp.addi ((W (Proc.devRef .tc main_v55_5) : S_.Idx → BitVec 32) j) 1#32 = _
      rw [e5]
      exact (BitVec.ofNat_add n 1).symm
    · rw [STEP_main_v55_6, step_read, e0, e1, e2, e3,
        stepMarks_read _ _ _ _ _ (Cert.KernelIdeal.Gen.at' x1) (boxOrder_read x1) n (by omega) e5, e6, e6, candBits_read]
      show _ ↔ Alive _ _ n p ∧ ¬ ∃ h : n < 1000, _
      refine and_congr_right fun _ => not_congr ?_
      exact ⟨fun h => ⟨by omega, h⟩, fun ⟨_, h⟩ => h⟩

/-- The marks the loop leaves. -/
theorem left (h0 : m (d, Proc.devRef .tc main_arg0) = x0) (h1 : m (d, Proc.devRef .tc main_arg1) = x1) (b : Fin 2) (c : Fin 80) (p : Fin 1000) :
    (after condOps (atTrip condOps bodyI (entryContents preI m) 1000 d) (Proc.devRef .tc main_v55_6) : S2x80x1000.Idx → BitVec 1) (ix3 b c p) = 1#1
      ↔ Alive (Over x0 x1 b c) (Cand x1 b c) 1000 p := by
  rw [after_of_writes_sub condOps _ condOps_writes (by decide)]
  have e : atTrip condOps bodyI (entryContents preI m) 1000 d (Proc.devRef .tc main_v55_6) = _ := atK_agree m d 1000 main_v55_6 (by decide)
  rw [e]
  exact (carried x0 x1 m d h0 h1 1000 le_rfl).2.2.2.2.2 b c p

end

end Cert.ReferenceIdeal.Value
-- ==== Proof.KMarks.lean ====
/- What the kernel's call marks, read candidate by candidate. -/
module

public import proofs.«01_k».proof.Proof.KPre
public import proofs.«01_k».proof.Proof.RTrip

@[expose] public section

set_option maxRecDepth 16384

noncomputable section

namespace Cert.KernelIdeal.Gen

open Cert.KernelIdeal
open Idealize.ShloMosaic Idealize.ShloMosaic.TcCoe Nms

/-! ### The layout of the call -/

/-- Two leading axes flattened into one. -/
theorem rows_read {α : Type} (l m N M : ℕ) (x : (⟨3, ![l, m, N]⟩ : Shape).Idx → α)
    (h : (⟨3, ![l, m, N]⟩ : Shape).ShapeCasts ⟨2, ![M, N]⟩) (b : Fin l) (c : Fin m) (p : Fin N) (r : Fin M)
    (hr : r.val = b.val * m + c.val) : shapeCast ⟨2, ![M, N]⟩ x h (ix2 r p) = x (ix3 b c p) := by
  refine shapeCast_apply x h _ _ ?_
  rw [Shape.rowMajor_val_three, Shape.rowMajor_val_two]
  show (b.val * m + c.val) * N + p.val = r.val * N + p.val
  rw [hr]

/-- The same undone. -/
theorem unrows_read {α : Type} (l m N M : ℕ) (x : (⟨2, ![M, N]⟩ : Shape).Idx → α)
    (h : (⟨2, ![M, N]⟩ : Shape).ShapeCasts ⟨3, ![l, m, N]⟩) (b : Fin l) (c : Fin m) (p : Fin N) (r : Fin M)
    (hr : r.val = b.val * m + c.val) : shapeCast ⟨3, ![l, m, N]⟩ x h (ix3 b c p) = x (ix2 r p) := by
  refine shapeCast_apply x h _ _ ?_
  rw [Shape.rowMajor_val_three, Shape.rowMajor_val_two]
  show r.val * N + p.val = (b.val * m + c.val) * N + p.val
  rw [hr]

/-- The lane of a class. -/
def lane (b : Fin 2) (c : Fin 80) : Fin 256 := ⟨b.val * 128 + c.val, by have := b.isLt; have := c.isLt; omega⟩

/-- A candidate's place among the padded. -/
def up (p : Fin 1000) : Fin 1024 := ⟨p.val, by have := p.isLt; omega⟩

theorem outer_read (u : S2x80x1000.Idx → EReal) (v : S_.Idx → EReal) (b : Fin 2) (c : Fin 80) (c' : Fin 128) (hc : c'.val = c.val)
    (q : Fin 1024) : pad S2x128x1024 ![0, 0, 0] ![0, 48, 24] ![0, 0, 0] u v pads_S2x80x1000_S2x128x1024_000_0480_0240 h_S_ (ix3 b c' q)
      = if h : q.val < 1000 then u (ix3 b c ⟨q.val, h⟩) else v (Shape.Idx.first h_S_) := by
  obtain ⟨c, hcl⟩ := c
  obtain ⟨c', hcl'⟩ := c'
  simp only at hc
  subst hc
  by_cases h : q.val < 1000
  · pointwise
    simp [h, hcl]
  · pointwise
    simp [h]

theorem laid_read (u : S2x80x1000.Idx → EReal) (b : Fin 2) (c : Fin 80) (p : Fin 1000) : laid u (ix2 (lane b c) (up p)) = u (ix3 b c p) := by
  have hc := c.isLt
  unfold laid
  refine (rows_read 2 128 1024 256 _ _ b ⟨c.val, by omega⟩ (up p) (lane b c) rfl).trans ?_
  exact (outer_read u _ b c _ rfl (up p)).trans (dif_pos p.isLt)

theorem laid_pad (u : S2x80x1000.Idx → EReal) (b : Fin 2) (c : Fin 80) (q : Fin 1024) (hq : ¬ q.val < 1000) :
    laid u (ix2 (lane b c) q) = 0 := by
  have hc := c.isLt
  unfold laid
  refine (rows_read 2 128 1024 256 _ _ b ⟨c.val, by omega⟩ q (lane b c) rfl).trans ?_
  refine ((outer_read u _ b c _ rfl q).trans (dif_neg hq)).trans ?_
  show (((0#32 : BitVec 32).toInt : ℝ) : EReal) = 0
  simp

theorem keptK_read (w : S256x1024.Idx → EReal) (b : Fin 2) (c : Fin 80) (q : Fin 1024) :
    keptK w (ix3 b c q) = 1#1 ↔ Ideal.ofBits .f32 0x3F000000#32 < w (ix2 (lane b c) q) := by
  have hc := c.isLt
  have e := unrows_read 2 128 1024 256 w shapeCasts_S256x1024_S2x128x1024 b ⟨c.val, by omega⟩ q (lane b c) rfl
  unfold keptK
  generalize hu : shapeCast S2x128x1024 w shapeCasts_S256x1024_S2x128x1024 = u
  have e' : u (ix3 b ⟨c.val, by omega⟩ q) = w (ix2 (lane b c) q) := by rw [← hu]; exact e
  rw [← e']
  pointwise
  exact Cert.ReferenceIdeal.Value.ofBool_one _

theorem spread_read (s : S2x1000x1.Idx → EReal) (b : Fin 2) (c : Fin 80) (n : Fin 1000) : spread s (ix3 b c n) = s (ix3 b n (0 : Fin 1)) := by
  unfold spread
  pointwise

theorem corners_read (x : S2x1000x4.Idx → EReal) (b : Fin 2) (n : Fin 1000) :
    corner0 x (ix3 b n (0 : Fin 1)) = x (ix3 b n (0 : Fin 4)) ∧ corner1 x (ix3 b n (0 : Fin 1)) = x (ix3 b n (1 : Fin 4))
    ∧ corner2 x (ix3 b n (0 : Fin 1)) = x (ix3 b n (2 : Fin 4)) ∧ corner3 x (ix3 b n (0 : Fin 1)) = x (ix3 b n (3 : Fin 4)) := by
  unfold corner0 corner1 corner2 corner3
  refine ⟨?_, ?_, ?_, ?_⟩ <;> pointwise

theorem cand_read (x1 : S2x1000x80.Idx → EReal) (b : Fin 2) (c : Fin 80) (p : Fin 1000) :
    (Cert.ReferenceIdeal.Value.Cand x1 b c p → cand (sorted x1) (ix3 b c p) = 1)
    ∧ (¬ Cert.ReferenceIdeal.Value.Cand x1 b c p → cand (sorted x1) (ix3 b c p) = 0) := by
  unfold cand Cert.ReferenceIdeal.Value.Cand threshold
  pointwise
  refine ⟨fun h => ?_, fun h => ?_⟩
  · rw [(Cert.ReferenceIdeal.Value.ofBool_one _).mpr h]
    show (((1#1 : BitVec 1).toNat : ℝ) : EReal) = 1
    simp
  · rw [show BitVec.ofBool (decide (Ideal.ofBits FTy.f32 1028443341#32 < sorted x1 (ix3 b c p))) = 0#1 by simp [h]]
    show (((0#1 : BitVec 1).toNat : ℝ) : EReal) = 0
    simp

theorem half_lt_one : Ideal.ofBits .f32 0x3F000000#32 < 1 := by
  simp [Ideal.ofBits, Ideal.ieee]
  norm_cast
  norm_num

theorem zero_lt_half : 0 < Ideal.ofBits .f32 0x3F000000#32 := by
  simp [Ideal.ofBits, Ideal.ieee]
  norm_cast
  norm_num

/-! ### The pivots -/

section
variable (x0 : S2x1000x4.Idx → EReal) (x1 : S2x1000x80.Idx → EReal)

/-- The boxes' corners as the call is given them. -/
def given0 : S256x1024.Idx → EReal := laid (takeRows (spread (corner0 x0)) (boxOrder x1))
def given1 : S256x1024.Idx → EReal := laid (takeRows (spread (corner1 x0)) (boxOrder x1))
def given2 : S256x1024.Idx → EReal := laid (takeRows (spread (corner2 x0)) (boxOrder x1))
def given3 : S256x1024.Idx → EReal := laid (takeRows (spread (corner3 x0)) (boxOrder x1))

theorem given0_read (b : Fin 2) (c : Fin 80) (p : Fin 1000) :
    given0 x0 x1 (ix2 (lane b c) (up p)) = x0 (ix3 b (at' x1 b c p) (0 : Fin 4)) :=
  (laid_read _ b c p).trans ((takeRows_read _ _ b c p _ (boxOrder_read x1 b c p)).trans
    ((spread_read _ b c _).trans (corners_read x0 b _).1))
theorem given1_read (b : Fin 2) (c : Fin 80) (p : Fin 1000) :
    given1 x0 x1 (ix2 (lane b c) (up p)) = x0 (ix3 b (at' x1 b c p) (1 : Fin 4)) :=
  (laid_read _ b c p).trans ((takeRows_read _ _ b c p _ (boxOrder_read x1 b c p)).trans
    ((spread_read _ b c _).trans (corners_read x0 b _).2.1))
theorem given2_read (b : Fin 2) (c : Fin 80) (p : Fin 1000) :
    given2 x0 x1 (ix2 (lane b c) (up p)) = x0 (ix3 b (at' x1 b c p) (2 : Fin 4)) :=
  (laid_read _ b c p).trans ((takeRows_read _ _ b c p _ (boxOrder_read x1 b c p)).trans
    ((spread_read _ b c _).trans (corners_read x0 b _).2.2.1))
theorem given3_read (b : Fin 2) (c : Fin 80) (p : Fin 1000) :
    given3 x0 x1 (ix2 (lane b c) (up p)) = x0 (ix3 b (at' x1 b c p) (3 : Fin 4)) :=
  (laid_read _ b c p).trans ((takeRows_read _ _ b c p _ (boxOrder_read x1 b c p)).trans
    ((spread_read _ b c _).trans (corners_read x0 b _).2.2.2))

/-- The call's pivots clear what the reference's clear. -/
def SameHits : Prop := ∀ (b : Fin 2) (c : Fin 80) (i p : Fin 1000),
  Hit (flip (given0 x0 x1)) (flip (given1 x0 x1)) (flip (given2 x0 x1)) (flip (given3 x0 x1))
    (areas (given0 x0 x1) (given1 x0 x1) (given2 x0 x1) (given3 x0 x1)) (up i) (up p) (lane b c)
  ↔ Cert.ReferenceIdeal.Value.Over x0 x1 b c i p

/-- The call's marks after `n` pivots. -/
def after' (n : ℕ) : Arr := trips (flip (given0 x0 x1)) (flip (given1 x0 x1)) (flip (given2 x0 x1)) (flip (given3 x0 x1))
    (areas (given0 x0 x1) (given1 x0 x1) (given2 x0 x1) (given3 x0 x1)) (flip (laid (cand (sorted x1)))) (fun _ => 1) n

theorem active_iff (k v : EReal) (A C : Prop) (hk : (A → k = 1) ∧ (¬ A → k = 0)) (hv : (C → v = 1) ∧ (¬ C → v = 0)) :
    Ideal.ofBits .f32 0x3F000000#32 < k * v ↔ A ∧ C := by
  by_cases hA : A <;> by_cases hC : C
  · rw [hk.1 hA, hv.1 hC, one_mul]; exact ⟨fun _ => ⟨hA, hC⟩, fun _ => half_lt_one⟩
  · rw [hv.2 hC, mul_zero]; exact ⟨fun h => absurd (h.trans zero_lt_half) (lt_irrefl _), fun h => absurd h.2 hC⟩
  · rw [hk.2 hA, zero_mul]; exact ⟨fun h => absurd (h.trans zero_lt_half) (lt_irrefl _), fun h => absurd h.1 hA⟩
  · rw [hk.2 hA, zero_mul]; exact ⟨fun h => absurd (h.trans zero_lt_half) (lt_irrefl _), fun h => absurd h.1 hA⟩

theorem tripAt_hit (A6 A7 A8 A9 A10 A11 K : Arr) (i j : Fin 1024) (l : Fin 256) (h : Hit A6 A7 A8 A9 A10 i j l ∧ i.val < j.val)
    (h' : Ideal.ofBits .f32 0x3F000000#32 < K (ix2 i l) * A11 (ix2 i l)) : tripAt A6 A7 A8 A9 A10 A11 i K (ix2 j l) = 0 := if_pos ⟨h, h'⟩

theorem tripAt_miss (A6 A7 A8 A9 A10 A11 K : Arr) (i j : Fin 1024) (l : Fin 256) (h : ¬ ((Hit A6 A7 A8 A9 A10 i j l ∧ i.val < j.val)
    ∧ Ideal.ofBits .f32 0x3F000000#32 < K (ix2 i l) * A11 (ix2 i l))) : tripAt A6 A7 A8 A9 A10 A11 i K (ix2 j l) = K (ix2 j l) := if_neg h

theorem valid_read (b : Fin 2) (c : Fin 80) (p : Fin 1000) :
    (Cert.ReferenceIdeal.Value.Cand x1 b c p → laid (cand (sorted x1)) (ix2 (lane b c) (up p)) = 1)
    ∧ (¬ Cert.ReferenceIdeal.Value.Cand x1 b c p → laid (cand (sorted x1)) (ix2 (lane b c) (up p)) = 0) := by
  rw [laid_read]
  exact cand_read x1 b c p

theorem after_read (hS : SameHits x0 x1) (b : Fin 2) (c : Fin 80) : ∀ n, n ≤ 1000 → ∀ p : Fin 1000,
    (Alive (Cert.ReferenceIdeal.Value.Over x0 x1 b c) (Cert.ReferenceIdeal.Value.Cand x1 b c) n p → after' x0 x1 n (ix2 (up p) (lane b c)) = 1)
    ∧ (¬ Alive (Cert.ReferenceIdeal.Value.Over x0 x1 b c) (Cert.ReferenceIdeal.Value.Cand x1 b c) n p → after' x0 x1 n (ix2 (up p) (lane b c)) = 0)
  | 0, _, p => ⟨fun _ => rfl, fun h => absurd trivial h⟩
  | n + 1, hn, p => by
    have hlt : n < 1000 := by omega
    have ih := after_read hS b c n (by omega)
    have e : after' x0 x1 (n + 1) = tripAt (flip (given0 x0 x1)) (flip (given1 x0 x1)) (flip (given2 x0 x1)) (flip (given3 x0 x1))
        (areas (given0 x0 x1) (given1 x0 x1) (given2 x0 x1) (given3 x0 x1)) (flip (laid (cand (sorted x1)))) (up ⟨n, hlt⟩) (after' x0 x1 n) :=
      dif_pos (show n < 1024 by omega)
    have ha := active_iff _ _ _ _ (ih ⟨n, hlt⟩) (valid_read x1 b c ⟨n, hlt⟩)
    have hs := hS b c ⟨n, hlt⟩ p
    rw [e]
    by_cases hc : Cert.ReferenceIdeal.Value.Over x0 x1 b c ⟨n, hlt⟩ p ∧ n < p.val
        ∧ Alive (Cert.ReferenceIdeal.Value.Over x0 x1 b c) (Cert.ReferenceIdeal.Value.Cand x1 b c) n ⟨n, hlt⟩
        ∧ Cert.ReferenceIdeal.Value.Cand x1 b c ⟨n, hlt⟩
    · rw [tripAt_hit _ _ _ _ _ _ _ _ _ _ ⟨hs.mpr hc.1, hc.2.1⟩ (ha.mpr hc.2.2)]
      exact ⟨fun h => absurd ⟨hlt, hc⟩ h.2, fun _ => rfl⟩
    · rw [tripAt_miss _ _ _ _ _ _ _ _ _ _ fun h => hc ⟨hs.mp h.1.1, h.1.2, ha.mp h.2⟩]
      refine ⟨fun h => (ih p).1 h.1, fun h => (ih p).2 fun ha => h ⟨ha, fun ⟨_, h'⟩ => hc h'⟩⟩

/-- What the call leaves, marked. -/
theorem marked_iff (hS : SameHits x0 x1) (b : Fin 2) (c : Fin 80) (q : Fin 1024) :
    keptK (fun j => marks (given0 x0 x1) (given1 x0 x1) (given2 x0 x1) (given3 x0 x1) (laid (cand (sorted x1))) (ix2 (j 1 : Fin 1024) (j 0 : Fin 256))) (ix3 b c q) = 1#1
      ↔ ∃ h : q.val < 1000, Alive (Cert.ReferenceIdeal.Value.Over x0 x1 b c) (Cert.ReferenceIdeal.Value.Cand x1 b c) 1000 ⟨q.val, h⟩
        ∧ Cert.ReferenceIdeal.Value.Cand x1 b c ⟨q.val, h⟩ := by
  rw [keptK_read]
  show Ideal.ofBits .f32 0x3F000000#32 < after' x0 x1 1000 (ix2 q (lane b c)) * laid (cand (sorted x1)) (ix2 (lane b c) q) ↔ _
  by_cases h : q.val < 1000
  · have ha := active_iff _ _ _ _ (after_read x0 x1 hS b c 1000 le_rfl ⟨q.val, h⟩) (valid_read x1 b c ⟨q.val, h⟩)
    exact ha.trans ⟨fun h' => ⟨h, h'⟩, fun ⟨_, h'⟩ => h'⟩
  · rw [laid_pad _ b c q h, mul_zero]
    exact ⟨fun h' => absurd (h'.trans zero_lt_half) (lt_irrefl _), fun ⟨h', _⟩ => absurd h' h⟩

end

end Cert.KernelIdeal.Gen
-- ==== Proof.Meet.lean ====
/- Two ways to say that two boxes overlap by more than half: the ratio of the areas, and the areas themselves. -/
module

public import proofs.«01_k».proof.Proof.KMarks

@[expose] public section

set_option maxRecDepth 16384

noncomputable section

namespace Nms

open Idealize.ShloMosaic Cert.ReferenceIdeal.Value

/-- A box: finite corners, and an area no smaller than the least the reference divides by. -/
structure Box (a0 a1 a2 a3 : EReal) : Prop where
  finite : (a0 ≠ ⊤ ∧ a0 ≠ ⊥) ∧ (a1 ≠ ⊤ ∧ a1 ≠ ⊥) ∧ (a2 ≠ ⊤ ∧ a2 ≠ ⊥) ∧ (a3 ≠ ⊤ ∧ a3 ≠ ⊥)
  large : Ideal.ofBits .f32 0x322BCC77#32 ≤ (a2 - a0) * (a3 - a1)

theorem half_val : Ideal.ofBits .f32 0x3F000000#32 = ((1 / 2 : ℝ) : EReal) := by
  simp [Ideal.ofBits, Ideal.ieee]
  norm_cast
  norm_num

theorem three_val : Ideal.ofBits .f32 0x40400000#32 = ((3 : ℝ) : EReal) := by
  simp [Ideal.ofBits, Ideal.ieee]
  norm_cast
  norm_num

theorem eps_val : ∃ e : ℝ, 0 < e ∧ Ideal.ofBits .f32 0x322BCC77#32 = (e : EReal) := by
  refine ⟨_, ?_, by simp [Ideal.ofBits, Ideal.ieee]; rfl⟩
  norm_num

/-- The statement for real corners. -/
theorem half_iff_real (e a0 a1 a2 a3 b0 b1 b2 b3 : ℝ) (he : 0 < e) (ha : e ≤ (a2 - a0) * (a3 - a1)) (hb : e ≤ (b2 - b0) * (b3 - b1)) :
    (a2 - a0) * (a3 - a1) + (b2 - b0) * (b3 - b1) < 3 * (max (min a2 b2 - max a0 b0) 0 * max (min a3 b3 - max a1 b1) 0)
    ↔ 1 / 2 < max (min a2 b2 - max a0 b0) 0 * max (min a3 b3 - max a1 b1) 0
      * (1 / max ((a2 - a0) * (a3 - a1) + (b2 - b0) * (b3 - b1) - max (min a2 b2 - max a0 b0) 0 * max (min a3 b3 - max a1 b1) 0) e) := by
  set w := max (min a2 b2 - max a0 b0) 0 with hw
  set h := max (min a3 b3 - max a1 b1) 0 with hh
  have w0 : 0 ≤ w := le_max_right _ _
  have h0 : 0 ≤ h := le_max_right _ _
  have key : w * h ≤ (a2 - a0) * (a3 - a1) := by
    rcases le_or_gt (a2 - a0) 0 with hn | hp
    · have : w = 0 := by
        rw [hw, max_eq_right]
        have := min_le_left a2 b2
        have := le_max_left a0 b0
        linarith
      rw [this, zero_mul]
      linarith
    · have hq : 0 < a3 - a1 := by
        by_contra hc
        have := mul_nonpos_of_nonneg_of_nonpos hp.le (not_lt.mp hc)
        linarith
      refine mul_le_mul ?_ ?_ h0 hp.le
      · refine max_le ?_ hp.le
        have := min_le_left a2 b2
        have := le_max_left a0 b0
        linarith
      · refine max_le ?_ hq.le
        have := min_le_left a3 b3
        have := le_max_left a1 b1
        linarith
  have hm : max ((a2 - a0) * (a3 - a1) + (b2 - b0) * (b3 - b1) - w * h) e = (a2 - a0) * (a3 - a1) + (b2 - b0) * (b3 - b1) - w * h :=
    max_eq_left (by linarith)
  rw [hm]
  have hpos : 0 < (a2 - a0) * (a3 - a1) + (b2 - b0) * (b3 - b1) - w * h := by linarith
  rw [mul_one_div, div_lt_div_iff₀ two_pos hpos]
  constructor <;> intro hx <;> linarith

theorem coe_max' (a b : ℝ) : max (a : EReal) b = ((max a b : ℝ) : EReal) := (EReal.coe_strictMono.monotone.map_max).symm
theorem coe_min' (a b : ℝ) : min (a : EReal) b = ((min a b : ℝ) : EReal) := (EReal.coe_strictMono.monotone.map_min).symm

theorem half_iff {a0 a1 a2 a3 b0 b1 b2 b3 : EReal} (ha : Box a0 a1 a2 a3) (hb : Box b0 b1 b2 b3) :
    (a2 - a0) * (a3 - a1) + (b2 - b0) * (b3 - b1) < Ideal.ofBits .f32 0x40400000#32 * meet a0 a1 a2 a3 b0 b1 b2 b3
    ↔ Ideal.ofBits .f32 0x3F000000#32 < Ideal.div (meet a0 a1 a2 a3 b0 b1 b2 b3)
      (max ((a2 - a0) * (a3 - a1) + (b2 - b0) * (b3 - b1) - meet a0 a1 a2 a3 b0 b1 b2 b3) (Ideal.ofBits .f32 0x322BCC77#32)) := by
  obtain ⟨⟨⟨h0, h0'⟩, ⟨h1, h1'⟩, ⟨h2, h2'⟩, ⟨h3, h3'⟩⟩, la⟩ := ha
  obtain ⟨⟨⟨k0, k0'⟩, ⟨k1, k1'⟩, ⟨k2, k2'⟩, ⟨k3, k3'⟩⟩, lb⟩ := hb
  obtain ⟨e, he, ee⟩ := eps_val
  lift a0 to ℝ using ⟨h0, h0'⟩
  lift a1 to ℝ using ⟨h1, h1'⟩
  lift a2 to ℝ using ⟨h2, h2'⟩
  lift a3 to ℝ using ⟨h3, h3'⟩
  lift b0 to ℝ using ⟨k0, k0'⟩
  lift b1 to ℝ using ⟨k1, k1'⟩
  lift b2 to ℝ using ⟨k2, k2'⟩
  lift b3 to ℝ using ⟨k3, k3'⟩
  rw [ee] at la lb ⊢
  rw [half_val, three_val]
  unfold meet
  have z : (0 : EReal) = ((0 : ℝ) : EReal) := rfl
  simp only [z, coe_max', coe_min', ← EReal.coe_sub, ← EReal.coe_mul, ← EReal.coe_add, EReal.coe_le_coe_iff] at la lb ⊢
  rw [Ideal.div_coe (ne_of_gt (lt_of_lt_of_le he (le_max_right _ _)))]
  simp only [← EReal.coe_mul, EReal.coe_lt_coe_iff]
  exact half_iff_real e a0 a1 a2 a3 b0 b1 b2 b3 he la lb

end Nms

namespace Cert.KernelIdeal.Gen

open Idealize.ShloMosaic Nms

theorem same_hits (x0 : S2x1000x4.Idx → EReal) (x1 : S2x1000x80.Idx → EReal)
    (hx : ∀ b n, Box (x0 (ix3 b n (0 : Fin 4))) (x0 (ix3 b n (1 : Fin 4))) (x0 (ix3 b n (2 : Fin 4))) (x0 (ix3 b n (3 : Fin 4)))) :
    SameHits x0 x1 := by
  intro b c i p
  unfold Cert.ReferenceIdeal.Value.Over Hit areas
  rw [Cert.ReferenceIdeal.Value.overlap_read]
  refine Iff.trans ?_ (half_iff (hx b (at' x1 b c i)) (hx b (at' x1 b c p)))
  show (given2 x0 x1 (ix2 (lane b c) (up i)) - given0 x0 x1 (ix2 (lane b c) (up i))) * (given3 x0 x1 (ix2 (lane b c) (up i)) - given1 x0 x1 (ix2 (lane b c) (up i)))
      + (given2 x0 x1 (ix2 (lane b c) (up p)) - given0 x0 x1 (ix2 (lane b c) (up p))) * (given3 x0 x1 (ix2 (lane b c) (up p)) - given1 x0 x1 (ix2 (lane b c) (up p)))
    < Ideal.ofBits .f32 0x40400000#32 * Cert.ReferenceIdeal.Value.meet (given0 x0 x1 (ix2 (lane b c) (up i))) (given1 x0 x1 (ix2 (lane b c) (up i)))
        (given2 x0 x1 (ix2 (lane b c) (up i))) (given3 x0 x1 (ix2 (lane b c) (up i))) (given0 x0 x1 (ix2 (lane b c) (up p))) (given1 x0 x1 (ix2 (lane b c) (up p)))
        (given2 x0 x1 (ix2 (lane b c) (up p))) (given3 x0 x1 (ix2 (lane b c) (up p))) ↔ _
  simp only [given0_read, given1_read, given2_read, given3_read]

end Cert.KernelIdeal.Gen
-- ==== Proof.KCall.lean ====
/- The result array of the kernel's call: it has one grid point, whose blocks are the whole arrays. -/
module

public import proofs.«01_k».proof.Proof.KMarks
public import proofs.«01_k».proof.Proof.Meet

@[expose] public section

set_option maxRecDepth 16384

noncomputable section

namespace Cert.KernelIdeal.Gen

open Cert.KernelIdeal
open Idealize.ShloMosaic Idealize.ShloMosaic.TcCoe Idealize.ShloMosaic.StableHlo Nms

/-! ### The least values -/

theorem laid_floor (u : S2x80x1000.Idx → EReal) (h : ∀ j, floorV ≤ u j) (y : S256x1024.Idx) : floorV ≤ laid u y := by
  have hz : floorV ≤ sitofp (F := Ideal) .f32 (constantI S_ 32 0#32) (Shape.Idx.first h_S_) := by
    show floorV ≤ (((0#32 : BitVec 32).toInt : ℝ) : EReal)
    simpa using floorV_le_zero
  unfold laid shapeCast pad
  dsimp only
  split
  · exact h _
  · exact hz

theorem cand_floor (s : S2x80x1000.Idx → EReal) (j : S2x80x1000.Idx) : floorV ≤ cand s j := by
  refine floorV_le_zero.trans ?_
  show (0 : EReal) ≤ ((((cmpf (F := Ideal) (φ := .f32) .ogt s (broadcastInDim S2x80x1000 ![] bcast_S_S2x80x1000
    (constant (F := Ideal) S_ .f32 0x3D4CCCCD#32)) j : BitVec 1).toNat : ℝ)) : EReal)
  exact EReal.coe_nonneg.mpr (Nat.cast_nonneg _)

section
variable (x0 : S2x1000x4.Idx → EReal) (x1 : S2x1000x80.Idx → EReal)

theorem given_floor (h : ∀ j, floorV ≤ x0 j) :
    (∀ y, floorV ≤ given0 x0 x1 y) ∧ (∀ y, floorV ≤ given1 x0 x1 y) ∧ (∀ y, floorV ≤ given2 x0 x1 y) ∧ (∀ y, floorV ≤ given3 x0 x1 y) := by
  have e : ∀ s : S2x1000x1.Idx → EReal, (∀ b n, floorV ≤ s (ix3 b n (0 : Fin 1))) →
      ∀ y, floorV ≤ laid (takeRows (spread s) (boxOrder x1)) y := by
    intro s hs
    refine laid_floor _ fun j => ?_
    obtain ⟨b, c, p, rfl⟩ : ∃ (b : Fin 2) (c : Fin 80) (p : Fin 1000), j = ix3 b c p := ⟨j 0, j 1, j 2, eq_ix3 j⟩
    rw [takeRows_read _ _ b c p _ (boxOrder_read x1 b c p), spread_read]
    exact hs _ _
  refine ⟨e _ fun b n => ?_, e _ fun b n => ?_, e _ fun b n => ?_, e _ fun b n => ?_⟩
  · rw [(corners_read x0 b n).1]; exact h _
  · rw [(corners_read x0 b n).2.1]; exact h _
  · rw [(corners_read x0 b n).2.2.1]; exact h _
  · rw [(corners_read x0 b n).2.2.2]; exact h _

end

/-! ### The one grid point -/

theorem same_idx (i j : S256x1024.Idx) (h0 : (i 0).val = 0 * 256 + 1 * (j 0).val) (h1 : (i 1).val = 0 * 1024 + 1 * (j 1).val) : i = j := by
  funext a; apply Fin.ext
  match a with
  | ⟨0, _⟩ => show (i 0).val = (j 0).val; omega
  | ⟨1, _⟩ => show (i 1).val = (j 1).val; omega

variable (m : (ℓ : Loc nD τ sig) → Buf (Elt Ideal) ℓ) (c : Dev nD) (x0 : S2x1000x4.Idx → EReal) (x1 : S2x1000x80.Idx → EReal)

/-- What the call is entered with. -/
theorem entered : V0 m c = afterL layOps (afterL orderOps fun b => m (c, b)) := by
  unfold V0
  rw [← afterL_eq_after_flatten]
  rfl

theorem iblk0 (t : Fin cfg0.N) : iblk m c 0 t = V m c main_v13 := funext fun _ => congrArg (V m c main_v13) (same_idx _ _ rfl rfl)
theorem iblk1 (t : Fin cfg0.N) : iblk m c 1 t = V m c main_v20 := funext fun _ => congrArg (V m c main_v20) (same_idx _ _ rfl rfl)
theorem iblk2 (t : Fin cfg0.N) : iblk m c 2 t = V m c main_v27 := funext fun _ => congrArg (V m c main_v27) (same_idx _ _ rfl rfl)
theorem iblk3 (t : Fin cfg0.N) : iblk m c 3 t = V m c main_v34 := funext fun _ => congrArg (V m c main_v34) (same_idx _ _ rfl rfl)
theorem iblk4 (t : Fin cfg0.N) : iblk m c 4 t = V m c main_v36 := funext fun _ => congrArg (V m c main_v36) (same_idx _ _ rfl rfl)

theorem emb5 (t : Fin cfg0.N) (j : S256x1024.Idx) : ((cfg0.win 5).blk t).view.emb j = j := same_idx _ _ rfl rfl

/-- The marks of the call, laid out as its result. -/
def result : S256x1024.Idx → EReal := fun j =>
  marks (given0 x0 x1) (given1 x0 x1) (given2 x0 x1) (given3 x0 x1) (laid (cand (sorted x1))) (ix2 (j 1 : Fin 1024) (j 0 : Fin 256))

/-- What is the case when the call is entered. -/
theorem entry (h0 : m (c, Proc.devRef .tc main_arg0) = x0) (h1 : m (c, Proc.devRef .tc main_arg1) = x1) :
    V0 m c (Proc.devRef .tc main_v13) = given0 x0 x1 ∧ V0 m c (Proc.devRef .tc main_v20) = given1 x0 x1
    ∧ V0 m c (Proc.devRef .tc main_v27) = given2 x0 x1 ∧ V0 m c (Proc.devRef .tc main_v34) = given3 x0 x1
    ∧ V0 m c (Proc.devRef .tc main_v36) = laid (cand (sorted x1)) ∧ V0 m c (Proc.devRef .tc main_v2) = boxOrder x1
    ∧ V0 m c (Proc.devRef .tc main_v3) = sorted x1 ∧ V0 m c (Proc.devRef .tc main_arg0) = x0
    ∧ V0 m c (Proc.devRef .tc main_arg2) = m (c, Proc.devRef .tc main_arg2) := by
  rw [entered]
  obtain ⟨o1, o2, o3, o4⟩ := order_read fun b => m (c, b)
  obtain ⟨r1, r2, r3, r4, r5⟩ := lay_read (afterL orderOps fun b => m (c, b))
  obtain ⟨k1, k2, k3, k4⟩ := lay_keep (afterL orderOps fun b => m (c, b))
  rw [h1] at o1 o2
  rw [h0] at o3
  rw [o3, o1] at r1 r2 r3 r4
  rw [o2] at r5
  exact ⟨r1, r2, r3, r4, r5, k1.trans o1, k2.trans o2, k3.trans o3, k4.trans o4⟩

theorem point (h0 : m (c, Proc.devRef .tc main_arg0) = x0) (h1 : m (c, Proc.devRef .tc main_arg1) = x1)
    (hf : ∀ j, floorV ≤ x0 j) (t : Fin cfg0.N) : outsAt0 m c t = result x0 x1 := by
  obtain ⟨e0, e1, e2, e3, e4, -⟩ := entry m c x0 x1 h0 h1
  obtain ⟨f0, f1, f2, f3⟩ := given_floor x0 x1 hf
  unfold outsAt0
  rw [iblk0, iblk1, iblk2, iblk3, iblk4]
  rw [show V m c main_v13 = _ from e0, show V m c main_v20 = _ from e1, show V m c main_v27 = _ from e2, show V m c main_v34 = _ from e3,
    show V m c main_v36 = _ from e4]
  exact stored _ _ _ _ _ _ _ _ _ _ _ _ _ _ _ _ _ _ _ _ _ _ _ _ _ _ _ _ _ _ _ _ _ _ f0 f1 f2 f3 (laid_floor _ (cand_floor _))

/-- The call's result array. -/
theorem called (h0 : m (c, Proc.devRef .tc main_arg0) = x0) (h1 : m (c, Proc.devRef .tc main_arg1) = x1)
    (hf : ∀ j, floorV ≤ x0 j) : (dats m 0 c).arrAt 5 cfg0.N = result x0 x1 := by
  refine (dats m 0 c).arrAt_eq_of_cover 5 (result x0 x1) (fun t _ => ?_) fun i => ⟨⟨0, by decide⟩, flush0_5 _, ?_⟩
  · have e := (after0_5 m c t).trans (point m c x0 x1 h0 h1 hf t)
    funext j
    show (dats m 0 c).after 5 t j = result x0 x1 (((cfg0.win 5).blk t).view.emb j)
    rw [e, emb5]
  · have h := ((cfg0.win 5).blk (⟨0, by decide⟩ : Fin cfg0.N)).view.emb_mem_set i
    rwa [emb5] at h

/-- What the call leaves. -/
abbrev leaves : Valuation τ sig (Elt Ideal) := Pipeline.withArrays (cfgs 0).spec c (V0 m c) fun w => (dats m 0 c).arrAt w (cfgs 0).N

theorem leaves_read (h0 : m (c, Proc.devRef .tc main_arg0) = x0) (h1 : m (c, Proc.devRef .tc main_arg1) = x1) (hf : ∀ j, floorV ≤ x0 j) :
    leaves m c (Proc.devRef .tc main_v37) = result x0 x1
    ∧ leaves m c (Proc.devRef .tc main_v2) = boxOrder x1 ∧ leaves m c (Proc.devRef .tc main_v3) = sorted x1
    ∧ leaves m c (Proc.devRef .tc main_arg0) = x0 ∧ leaves m c (Proc.devRef .tc main_arg2) = m (c, Proc.devRef .tc main_arg2) := by
  obtain ⟨-, -, -, -, -, e2, e3, ea, eb⟩ := entry m c x0 x1 h0 h1
  refine ⟨?_, ?_, ?_, ?_, ?_⟩
  · exact (Pipeline.withArrays_arr spec0 (by decide) c (V0 m c) (fun w => (dats m 0 c).arrAt w (cfgs 0).N) 5).trans (called m c x0 x1 h0 h1 hf)
  · exact (Pipeline.withArrays_of_ne spec0 c (V0 m c) _ main_v2 (by exact (by decide : ∀ w, Pipeline.arrRef spec0 w ≠ main_v2))).trans e2
  · exact (Pipeline.withArrays_of_ne spec0 c (V0 m c) _ main_v3 (by exact (by decide : ∀ w, Pipeline.arrRef spec0 w ≠ main_v3))).trans e3
  · exact (Pipeline.withArrays_of_ne spec0 c (V0 m c) _ main_arg0 (by exact (by decide : ∀ w, Pipeline.arrRef spec0 w ≠ main_arg0))).trans ea
  · exact (Pipeline.withArrays_of_ne spec0 c (V0 m c) _ main_arg2 (by exact (by decide : ∀ w, Pipeline.arrRef spec0 w ≠ main_arg2))).trans eb

end Cert.KernelIdeal.Gen
-- ==== Proof.KRun.lean ====
/- The five results the kernel's program leaves. -/
module

public import proofs.«01_k».proof.Proof.KCall
public import proofs.«01_k».proof.Proof.KPost

@[expose] public section

set_option maxRecDepth 16384

noncomputable section

namespace Cert.KernelIdeal.Gen

open Cert.KernelIdeal
open Idealize.ShloMosaic Idealize.ShloMosaic.TcCoe Idealize.ShloMosaic.StableHlo Nms
open Idealize.SL.Sem

variable (m : (ℓ : Loc nD τ sig) → Buf (Elt Ideal) ℓ) (ρ : Dev nD → PrngReg) (c : Dev nD)

/-- The scores the kernel's program ranks. -/
def rankedK (x0 : S2x1000x4.Idx → EReal) (x1 : S2x1000x80.Idx → EReal) : S2x80x1024.Idx → EReal :=
  scoresK (keptK (result x0 x1)) (sorted x1)

/-- The operations after the call, from any contents, in the order of their stretches. -/
theorem after_call (U : Valuation τ sig (Elt Ideal)) :
    after (List.flatten [hostOps1, hostOps1_1, hostOps1_2, hostOps1_3, hostOps1_4, hostOps1_5, hostOps1_6, hostOps1_7, hostOps1_8,
      hostOps1_9, hostOps1_10, hostOps1_11, hostOps1_12, hostOps1_13, hostOps1_14, hostOps1_15, hostOps1_16, hostOps1_17, hostOps1_18,
      hostOps1_19, hostOps1_20, hostOps1_21, hostOps1_22, hostOps1_23, hostOps1_24, hostOps1_25, hostOps1_26]) U
    = afterL tailOps (afterL [hostOps1_6, hostOps1_7, hostOps1_8, hostOps1_9, hostOps1_10, hostOps1_11]
        (afterL [hostOps1, hostOps1_1, hostOps1_2, hostOps1_3, hostOps1_4, hostOps1_5] U)) := by
  rw [← afterL_eq_after_flatten]
  rfl

/-- What the operations after the call make of what it leaves. -/
theorem tail_of (x0 : S2x1000x4.Idx → EReal) (x1 : S2x1000x80.Idx → EReal) (x2 : S2x1000x50.Idx → EReal)
    (U : Valuation τ sig (Elt Ideal)) (h37 : U (Proc.devRef .tc main_v37) = result x0 x1) (h2 : U (Proc.devRef .tc main_v2) = boxOrder x1)
    (h3 : U (Proc.devRef .tc main_v3) = sorted x1) (ha : U (Proc.devRef .tc main_arg0) = x0) (hb : U (Proc.devRef .tc main_arg2) = x2) :
    let W := afterL tailOps (afterL [hostOps1_6, hostOps1_7, hostOps1_8, hostOps1_9, hostOps1_10, hostOps1_11]
      (afterL [hostOps1, hostOps1_1, hostOps1_2, hostOps1_3, hostOps1_4, hostOps1_5] U))
    let v := valsK (rankedK x0 x1)
    let i := indsK (rankedK x0 x1)
    W (Proc.devRef .tc main_v61) = outBox x0 v (boxK (boxOrder x1) i)
    ∧ W (Proc.devRef .tc main_v62) = outVal v
    ∧ W (Proc.devRef .tc main_v63) = outLab v (labK i)
    ∧ W (Proc.devRef .tc main_v69) = outMax x2 v (boxK (boxOrder x1) i)
    ∧ W (Proc.devRef .tc main_v67) = outArg x2 v (boxK (boxOrder x1) i) := by
  intro W v i
  have s := scores_read U
  obtain ⟨k1, k2, k3⟩ := scores_keep U
  rw [h37, h3] at s
  rw [h2] at k1
  rw [ha] at k2
  rw [hb] at k3
  obtain ⟨r1, r2, r3, r4, r5⟩ := ranked_read (afterL [hostOps1, hostOps1_1, hostOps1_2, hostOps1_3, hostOps1_4, hostOps1_5] U)
  rw [s] at r1 r2 r3
  rw [k1] at r3
  rw [k2] at r4
  rw [k3] at r5
  obtain ⟨t1, t2, t3, t4, t5⟩ := tail_read (afterL [hostOps1_6, hostOps1_7, hostOps1_8, hostOps1_9, hostOps1_10, hostOps1_11]
    (afterL [hostOps1, hostOps1_1, hostOps1_2, hostOps1_3, hostOps1_4, hostOps1_5] U))
  rw [r1, r3, r4] at t1
  rw [r1] at t2
  rw [r1, r2] at t3
  rw [r1, r3, r5] at t4
  rw [r1, r3, r5] at t5
  exact ⟨t1, t2, t3, t4, t5⟩

/-- The run, its five results named. -/
theorem results (hf : ∀ c : Dev nD, ∀ j, floorV ≤ (m (c, Proc.devRef .tc main_arg0) : S2x1000x4.Idx → EReal) j) :
    θ_run defs (onTc (τ := τ) (main (F := Ideal))) ⟨m, fun _ => 0, ρ⟩ (fun r => ∀ c : Dev nD,
      let x0 : S2x1000x4.Idx → EReal := m (c, Proc.devRef .tc main_arg0)
      let x1 : S2x1000x80.Idx → EReal := m (c, Proc.devRef .tc main_arg1)
      let x2 : S2x1000x50.Idx → EReal := m (c, Proc.devRef .tc main_arg2)
      let v := valsK (rankedK x0 x1)
      let i := indsK (rankedK x0 x1)
      r.2.mem ((c.tc : Thread nD τ).loc main_v61) = outBox x0 v (boxK (boxOrder x1) i)
      ∧ r.2.mem ((c.tc : Thread nD τ).loc main_v62) = outVal v
      ∧ r.2.mem ((c.tc : Thread nD τ).loc main_v63) = outLab v (labK i)
      ∧ r.2.mem ((c.tc : Thread nD τ).loc main_v69) = outMax x2 v (boxK (boxOrder x1) i)
      ∧ r.2.mem ((c.tc : Thread nD τ).loc main_v67) = outArg x2 v (boxK (boxOrder x1) i)) := by
  refine (θ_run defs _ _).mono (fun r h c => ?_) (run_main m ρ)
  intro x0 x1 x2 v i
  obtain ⟨l1, l2, l3, l4, l5⟩ := leaves_read m c x0 x1 rfl rfl (hf c)
  obtain ⟨t1, t2, t3, t4, t5⟩ := tail_of x0 x1 x2 (leaves m c) l1 l2 l3 l4 l5
  rw [← after_call] at t1 t2 t3 t4 t5
  exact ⟨((h c).2 main_v61 (Pipeline.mem_restRefs_of main_v61 (by decide) (by decide))).trans t1,
    ((h c).2 main_v62 (Pipeline.mem_restRefs_of main_v62 (by decide) (by decide))).trans t2,
    ((h c).2 main_v63 (Pipeline.mem_restRefs_of main_v63 (by decide) (by decide))).trans t3,
    ((h c).2 main_v69 (Pipeline.mem_restRefs_of main_v69 (by decide) (by decide))).trans t4,
    ((h c).2 main_v67 (Pipeline.mem_restRefs_of main_v67 (by decide) (by decide))).trans t5⟩

end Cert.KernelIdeal.Gen
-- ==== Proof.RRun.lean ====
/- The five results the reference leaves. -/
module

public import proofs.«01_k».proof.Proof.RPost
public import proofs.«01_k».proof.Proof.RTrip

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.StableHlo Nms
open Idealize.SL.Sem
open Cert.KernelIdeal.Gen (boxOrder sorted outBox outVal outLab outMax outArg)

variable (m : (ℓ : Loc nD τ sig) → Buf (Elt Ideal) ℓ) (ρ : Dev nD → PrngReg) (d : Dev nD)

/-- What the loop leaves. -/
abbrev loopLeaves : Valuation τ sig (Elt Ideal) := after condOps (atTrip condOps bodyI (entryContents preI m) 1000 d)

/-- The marks the loop leaves. -/
abbrev marksR : S2x80x1000.Idx → BitVec 1 := loopLeaves m d (Proc.devRef .tc main_v55_6)

/-- The scores the reference ranks. -/
def rankedR (u : S2x80x1000.Idx → BitVec 1) (x1 : S2x1000x80.Idx → EReal) : S2x80x1000.Idx → EReal :=
  denseR (boxOrder x1) (scoresR (keptR u (sorted x1)) (sorted x1))

theorem leaves_read (x0 : S2x1000x4.Idx → EReal) (x1 : S2x1000x80.Idx → EReal) (x2 : S2x1000x50.Idx → EReal)
    (h0 : m (d, Proc.devRef .tc main_arg0) = x0) (h1 : m (d, Proc.devRef .tc main_arg1) = x1) (h2 : m (d, Proc.devRef .tc main_arg2) = x2) :
    loopLeaves m d (Proc.devRef .tc main_v2) = boxOrder x1 ∧ loopLeaves m d (Proc.devRef .tc main_v3) = sorted x1
    ∧ loopLeaves m d (Proc.devRef .tc main_arg0) = x0 ∧ loopLeaves m d (Proc.devRef .tc main_arg2) = x2 := by
  obtain ⟨e1, e2, -⟩ := entry_read fun b => m (d, b)
  obtain ⟨a0, -, a2⟩ := pre_args fun b => m (d, b)
  rw [h1] at e1 e2
  rw [h0] at a0
  rw [h2] at a2
  exact ⟨(atTrip_keep _ _ (by unfold Untouched; decide +kernel) d 1000).trans e1,
    (atTrip_keep _ _ (by unfold Untouched; decide +kernel) d 1000).trans e2,
    (atTrip_keep _ _ (by unfold Untouched; decide +kernel) d 1000).trans a0,
    (atTrip_keep _ _ (by unfold Untouched; decide +kernel) d 1000).trans a2⟩

/-- The operations after the loop, in the order of their stretches. -/
theorem after_loop (U : Valuation τ sig (Elt Ideal)) : afterL postI U = afterL tailOps (after hostOps0_8 (afterL scoreOps U)) := rfl

/-- What the operations after the loop make of what it leaves. -/
theorem tail_of (x0 : S2x1000x4.Idx → EReal) (x1 : S2x1000x80.Idx → EReal) (x2 : S2x1000x50.Idx → EReal) (u : S2x80x1000.Idx → BitVec 1)
    (U : Valuation τ sig (Elt Ideal)) (h55 : U (Proc.devRef .tc main_v55_6) = u) (h2 : U (Proc.devRef .tc main_v2) = boxOrder x1)
    (h3 : U (Proc.devRef .tc main_v3) = sorted x1) (ha : U (Proc.devRef .tc main_arg0) = x0) (hb : U (Proc.devRef .tc main_arg2) = x2) :
    let W := afterL postI U
    let v := valsR (rankedR u x1)
    let i := indsR (rankedR u x1)
    W (Proc.devRef .tc main_v104) = outBox x0 v (boxR i)
    ∧ W (Proc.devRef .tc main_v105) = outVal v
    ∧ W (Proc.devRef .tc main_v106) = outLab v (labR i)
    ∧ W (Proc.devRef .tc main_v112) = outMax x2 v (boxR i)
    ∧ W (Proc.devRef .tc main_v110) = outArg x2 v (boxR i) := by
  intro W v i
  have s := scores_read U
  obtain ⟨k1, k2, k3⟩ := scores_keep U
  rw [h55, h3] at s
  rw [h2] at k1
  rw [ha] at k2
  rw [hb] at k3
  have hd : denseR (afterL scoreOps U (Proc.devRef .tc main_v2)) (afterL scoreOps U (Proc.devRef .tc main_v66)) = rankedR u x1 := by
    rw [k1, s]
    rfl
  obtain ⟨r1, r2, r3, r4, r5, r6, r7, r8⟩ := ranked_read (afterL scoreOps U) (rankedR u x1) hd
  rw [k2] at r7
  rw [k3] at r8
  obtain ⟨t1, t2, t3, t4, t5⟩ := tail_read (after hostOps0_8 (afterL scoreOps U)) v (boxR i) r1 r3 r4 r5 r6
  rw [r7] at t1
  rw [r2] at t3
  rw [r8] at t4 t5
  exact ⟨t1, t2, t3, t4, t5⟩

/-- The run, its five results named. -/
theorem results : θ_run defs (onTc (τ := τ) (main (F := Ideal))) ⟨m, fun _ => 0, ρ⟩ (fun r => ∀ c : Dev nD,
      let x0 : S2x1000x4.Idx → EReal := m (c, Proc.devRef .tc main_arg0)
      let x1 : S2x1000x80.Idx → EReal := m (c, Proc.devRef .tc main_arg1)
      let x2 : S2x1000x50.Idx → EReal := m (c, Proc.devRef .tc main_arg2)
      let v := valsR (rankedR (marksR m c) x1)
      let i := indsR (rankedR (marksR m c) x1)
      r.2.mem ((c.tc : Thread nD τ).loc main_v104) = outBox x0 v (boxR i)
      ∧ r.2.mem ((c.tc : Thread nD τ).loc main_v105) = outVal v
      ∧ r.2.mem ((c.tc : Thread nD τ).loc main_v106) = outLab v (labR i)
      ∧ r.2.mem ((c.tc : Thread nD τ).loc main_v112) = outMax x2 v (boxR i)
      ∧ r.2.mem ((c.tc : Thread nD τ).loc main_v110) = outArg x2 v (boxR i)) := by
  refine (θ_run defs _ _).mono (fun r h c => ?_) (run_fold m ρ)
  intro x0 x1 x2 v i
  obtain ⟨l1, l2, l3, l4⟩ := leaves_read m c x0 x1 x2 rfl rfl rfl
  obtain ⟨t1, t2, t3, t4, t5⟩ := tail_of x0 x1 x2 (marksR m c) (loopLeaves m c) rfl l1 l2 l3 l4
  exact ⟨(h c main_v104 (by decide)).trans t1, (h c main_v105 (by decide)).trans t2, (h c main_v106 (by decide)).trans t3,
    (h c main_v112 (by decide)).trans t4, (h c main_v110 (by decide)).trans t5⟩

end Cert.ReferenceIdeal.Value
-- ==== Proof.Given.lean ====
/- What the precondition says of the boxes. -/
module

public import proofs.«01_k».proof.Proof.Meet
public import proofs.«01_k».proof.Proof.Gen.Pre_well_formed
public import Idealize.ShloMosaic.Lib.ReduceAll

@[expose] public section

set_option maxRecDepth 16384

noncomputable section

namespace Nms

open Idealize.ShloMosaic
open Cert.Pre_well_formed Cert.KernelIdeal.Gen

theorem and_one (a b : BitVec 1) (h : a &&& b = 1#1) : a = 1#1 ∧ b = 1#1 := by
  revert a b; decide

theorem of_ofBool {p : Prop} [Decidable p] (h : BitVec.ofBool (decide p) = 1#1) : p := by
  by_contra hp
  simp [hp] at h

/-- The greatest magnitude of a corner. -/
abbrev most : EReal := Ideal.ofBits .f32 0x7F7FC99E#32

/-- The precondition, index by index. -/
theorem given_read (x0 : S2x1000x4.Idx → EReal) (x1 : S2x1000x80.Idx → EReal) (x2 : S2x1000x50.Idx → EReal)
    (h : fn (F := Ideal) x0 x1 x2 = fun _ => 1#1) :
    (∀ j, max (x0 j) (-x0 j) ≤ most) ∧ ∀ b n, Ideal.ofBits .f32 0x322BCC77#32
      ≤ (x0 (ix3 b n 2) - x0 (ix3 b n 0)) * (x0 (ix3 b n 3) - x0 (ix3 b n 1)) := by
  have e := congrFun h (Shape.Idx.first Gen.h_S_)
  obtain ⟨e0, e1⟩ := and_one _ _ e
  constructor
  · intro j
    have a := Host.reduce_andi_all _ _ _ _ _ e0 j
    exact of_ofBool a
  · intro b n
    have a := Host.reduce_andi_all _ _ _ _ _ e1 (ix2 b n)
    have a' : _ ≤ _ := of_ofBool a
    pointwise at a'
    exact a'

theorem most_val : ∃ r : ℝ, most = (r : EReal) := ⟨_, by simp [Ideal.ofBits, Ideal.ieee]; rfl⟩

theorem floor_val : floorV = -most := by
  simp [Ideal.ofBits, Ideal.ieee]

theorem within (x : EReal) (h : max x (-x) ≤ most) : floorV ≤ x ∧ x ≠ ⊤ ∧ x ≠ ⊥ := by
  obtain ⟨r, hr⟩ := most_val
  have h0 : x ≤ most := (le_max_left _ _).trans h
  have h1 : floorV ≤ x := by
    rw [floor_val]
    exact EReal.neg_le_of_neg_le ((le_max_right _ _).trans h)
  refine ⟨h1, fun e => ?_, fun e => ?_⟩
  · rw [e, hr] at h0
    exact absurd h0 (not_le.mpr (EReal.coe_lt_top r))
  · rw [floor_val, e, hr] at h1
    exact absurd h1 (not_le.mpr (EReal.bot_lt_coe (-r)))

/-- What the precondition gives: no corner is below the kernel's least value, and every four corners are a box. -/
theorem given_boxes (x0 : S2x1000x4.Idx → EReal) (x1 : S2x1000x80.Idx → EReal) (x2 : S2x1000x50.Idx → EReal)
    (h : fn (F := Ideal) x0 x1 x2 = fun _ => 1#1) :
    (∀ j, floorV ≤ x0 j) ∧ ∀ b n, Box (x0 (ix3 b n 0)) (x0 (ix3 b n 1)) (x0 (ix3 b n 2)) (x0 (ix3 b n 3)) := by
  obtain ⟨h0, h1⟩ := given_read x0 x1 x2 h
  have w := fun j => within _ (h0 j)
  exact ⟨fun j => (w j).1, fun b n => ⟨⟨(w _).2, (w _).2, (w _).2, (w _).2⟩, h1 b n⟩⟩

end Nms
-- ==== Proof.Same.lean ====
/- The kernel's program and the reference leave the same five results. -/
module

public import proofs.«01_k».proof.Defs
public import proofs.«01_k».proof.Proof.KRun
public import proofs.«01_k».proof.Proof.RRun
public import proofs.«01_k».proof.Proof.Agree
public import proofs.«01_k».proof.Proof.Given

@[expose] public section

set_option maxRecDepth 16384

noncomputable section

namespace Nms

open Idealize.ShloMosaic Idealize.ShloMosaic.TcCoe Idealize.ShloMosaic.StableHlo Idealize.SL.Sem
open Cert.KernelIdeal.Gen (rankedK result keptK valsK indsK labK boxK outBox outVal outLab outMax outArg live marked_iff same_hits boxOrder
  sorted SameHits out_congr)
open Cert.ReferenceIdeal.Value (rankedR marksR keptR valsR indsR labR boxR Over Cand candBits candBits_read left)

section
variable (x0 : Cert.KernelIdeal.S2x1000x4.Idx → EReal) (x1 : Cert.KernelIdeal.S2x1000x80.Idx → EReal) (x2 : Cert.KernelIdeal.S2x1000x50.Idx → EReal)

/-- The candidates that stay. -/
def Stays (b : Fin 2) (c : Fin 80) (p : Fin 1000) : Prop := Alive (Over x0 x1 b c) (Cand x1 b c) 1000 p ∧ Cand x1 b c p

/-- Both programs mark the candidates that stay. -/
theorem marks_agree (hS : SameHits x0 x1) (u : Cert.KernelIdeal.S2x80x1000.Idx → BitVec 1)
    (hu : ∀ b c p, u (ix3 b c p) = 1#1 ↔ Alive (Over x0 x1 b c) (Cand x1 b c) 1000 p) :
    Marks (Stays x0 x1) (keptK (result x0 x1)) (keptR u (sorted x1)) := by
  refine ⟨fun b c p => marked_iff x0 x1 hS b c p, fun b c p => ?_⟩
  show IntOp.andi (u (ix3 b c p)) (candBits x1 (ix3 b c p)) = 1#1 ↔ _
  rw [IntOp.andi_eq_one, hu, candBits_read]
  rfl

/-- So the five results are the same. -/
theorem results_agree (hS : SameHits x0 x1) (u : Cert.KernelIdeal.S2x80x1000.Idx → BitVec 1)
    (hu : ∀ b c p, u (ix3 b c p) = 1#1 ↔ Alive (Over x0 x1 b c) (Cand x1 b c) 1000 p) :
    let v := valsK (rankedK x0 x1)
    let i := indsK (rankedK x0 x1)
    let v' := valsR (rankedR u x1)
    let i' := indsR (rankedR u x1)
    outBox x0 v (boxK (boxOrder x1) i) = outBox x0 v' (boxR i') ∧ outVal v = outVal v' ∧ outLab v (labK i) = outLab v' (labR i')
    ∧ outMax x2 v (boxK (boxOrder x1) i) = outMax x2 v' (boxR i') ∧ outArg x2 v (boxK (boxOrder x1) i) = outArg x2 v' (boxR i') :=
  out_congr x0 x2 _ _ _ _ _ _ fun b k => agree x1 (marks_agree x0 x1 hS u hu) (fun _ _ _ h => h.2) b k

end

/-- The last claim. -/
theorem algebraic : Cert.algebraic_KernelIdeal_ReferenceIdeal_pre_well_formed := by
  intro m g m' g' hpre hargs
  have hg := fun c => given_boxes _ _ _ (hpre c)
  let x0 : Dev Cert.KernelIdeal.nD → Cert.KernelIdeal.S2x1000x4.Idx → EReal := fun c => m (c, Proc.devRef .tc Cert.KernelIdeal.main_arg0)
  let x1 : Dev Cert.KernelIdeal.nD → Cert.KernelIdeal.S2x1000x80.Idx → EReal := fun c => m (c, Proc.devRef .tc Cert.KernelIdeal.main_arg1)
  let x2 : Dev Cert.KernelIdeal.nD → Cert.KernelIdeal.S2x1000x50.Idx → EReal := fun c => m (c, Proc.devRef .tc Cert.KernelIdeal.main_arg2)
  let v := fun c => valsK (rankedK (x0 c) (x1 c))
  let i := fun c => indsK (rankedK (x0 c) (x1 c))
  refine ⟨fun c => outBox (x0 c) (v c) (boxK (boxOrder (x1 c)) (i c)), fun c => outVal (v c), fun c => outLab (v c) (labK (i c)),
    fun c => outMax (x2 c) (v c) (boxK (boxOrder (x1 c)) (i c)), fun c => outArg (x2 c) (v c) (boxK (boxOrder (x1 c)) (i c)),
    (θ_run _ _ _).mono (fun r h c => ?_) (θ_run_and (Cert.KernelIdeal.Gen.results m g fun c => (hg c).1) (Cert.KernelIdeal.Gen.frame m g)),
    (θ_run _ _ _).mono (fun r h c => ?_) (θ_run_and (Cert.ReferenceIdeal.Value.results m' g') (Cert.ReferenceIdeal.Value.frame m' g'))⟩
  · obtain ⟨a0, a1, a2⟩ := h.2.1 c
    obtain ⟨k0, k1, k2, k3, k4⟩ := h.1 c
    exact ⟨k0, k1, k2, k3, k4, a0, a1, a2⟩
  · obtain ⟨a0, a1, a2⟩ := h.2.1 c
    obtain ⟨e0, e1, e2⟩ := hargs c
    obtain ⟨s0, s1, s2, s3, s4⟩ := results_agree (x0 c) (x1 c) (x2 c) (same_hits _ _ (hg c).2) (marksR m' c) (left _ _ m' c e0 e1)
    have r := h.1 c
    rw [show m' (c, Proc.devRef .tc Cert.ReferenceIdeal.main_arg0) = x0 c from e0,
      show m' (c, Proc.devRef .tc Cert.ReferenceIdeal.main_arg1) = x1 c from e1,
      show m' (c, Proc.devRef .tc Cert.ReferenceIdeal.main_arg2) = x2 c from e2] at r
    obtain ⟨r0, r1, r2, r3, r4⟩ := r
    exact ⟨r0.trans s0.symm, r1.trans s1.symm, r2.trans s2.symm, r3.trans s3.symm, r4.trans s4.symm, a0, a1, a2⟩

end Nms
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.KernelFrame.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_well_formed
public import proofs.«01_k».proof.Proof.RefFrame
public import proofs.«01_k».proof.Proof.Same
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_well_formed.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Value.frame m ρ, fun m ρ _ => Cert.ReferenceIdeal.Value.frame m ρ, trivial, Nms.algebraic⟩

end Cert.Proof

end
